-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_logits [hPre_real_logits : Cert.Pre_real_logits.Facts] (m : (ℓ : Loc Cert.KernelIdeal.nD Cert.KernelIdeal.τ Cert.KernelIdeal.sig) → Buf (Elt Ideal) ℓ) : Prop :=
  ∀ c : Dev Cert.KernelIdeal.nD,
    (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_real_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_logits [hPre_real_logits : Cert.Pre_real_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_real_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_real_logits [hKernelIdeal : Cert.KernelIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_real_logits [hReferenceIdeal : Cert.ReferenceIdeal.Facts] [hPre_real_logits : Cert.Pre_real_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_real_logits [hKernelIdeal : Cert.KernelIdeal.Facts] [hReferenceIdeal : Cert.ReferenceIdeal.Facts] [hPre_real_logits : Cert.Pre_real_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v118_0)) (v1 : (c : Dev Cert.KernelIdeal.nD) → Buf (Elt Ideal) ((c.tc : Thread Cert.KernelIdeal.nD Cert.KernelIdeal.τ).loc Cert.KernelIdeal.main_v118_3)) (v2 : (c : Dev Cert.KernelIdeal.nD) → Buf (Elt Ideal) ((c.tc : Thread Cert.KernelIdeal.nD Cert.KernelIdeal.τ).loc Cert.KernelIdeal.main_v118_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118_0) = v0 c
          ∧ r.2.mem ((c.tc : Thread Cert.KernelIdeal.nD Cert.KernelIdeal.τ).loc Cert.KernelIdeal.main_v118_3) = v1 c
          ∧ r.2.mem ((c.tc : Thread Cert.KernelIdeal.nD Cert.KernelIdeal.τ).loc Cert.KernelIdeal.main_v118_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v322) = v1 c
          ∧ r.2.mem ((c.tc : Thread Cert.ReferenceIdeal.nD Cert.ReferenceIdeal.τ).loc Cert.ReferenceIdeal.main_v404) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_real_logits : Cert.Pre_real_logits.Facts),
    quiescent_Kernel (hKernel := hKernel)
    ∧ quiescent_KernelIdeal (hKernelIdeal := hKernelIdeal)
    ∧ quiescent_KernelIdeal_pre_real_logits (hKernelIdeal := hKernelIdeal) (hPre_real_logits := hPre_real_logits)
    ∧ quiescent_ReferenceIdeal (hReferenceIdeal := hReferenceIdeal)
    ∧ quiescent_ReferenceIdeal_pre_real_logits (hReferenceIdeal := hReferenceIdeal) (hPre_real_logits := hPre_real_logits)
    ∧ preserves_Kernel_KernelIdeal
    ∧ algebraic_KernelIdeal_ReferenceIdeal_pre_real_logits (hKernelIdeal := hKernelIdeal) (hReferenceIdeal := hReferenceIdeal) (hPre_real_logits := hPre_real_logits)
-- ==== Pre_real_logits.lean ====
abbrev S16384x1024 : Shape := ⟨2, ![16384, 1024]⟩
abbrev S32x1024 : Shape := ⟨2, ![32, 1024]⟩
abbrev S16384x512 : Shape := ⟨2, ![16384, 512]⟩
abbrev S32x512 : Shape := ⟨2, ![32, 512]⟩
abbrev S1x32x2048x2x8x64 : Shape := ⟨6, ![1, 32, 2048, 2, 8, 64]⟩
abbrev S1x32x4x128x128 : Shape := ⟨5, ![1, 32, 4, 128, 128]⟩
abbrev S32x8 : Shape := ⟨2, ![32, 8]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1x32x2048x1x8x64 : Shape := ⟨6, ![1, 32, 2048, 1, 8, 64]⟩
abbrev S32x2048x8x64 : Shape := ⟨4, ![32, 2048, 8, 64]⟩
abbrev S_ : Shape := ⟨0, ![]⟩

class Facts : Prop where
  slices_S32x1024_S32x512_0_0 : S32x1024.Slices ![0, 0] S32x512
  slices_S1x32x2048x2x8x64_S1x32x2048x1x8x64_0_0_0_0_0_0 : S1x32x2048x2x8x64.Slices ![0, 0, 0, 0, 0, 0] S1x32x2048x1x8x64
  shapeCasts_S1x32x2048x1x8x64_S32x2048x8x64 : S1x32x2048x1x8x64.ShapeCasts S32x2048x8x64
  bcast_S_S32x512 : S_.BroadcastsInDim S32x512 (![] : Fin 0 → Fin S32x512.rank)
  bcast_S_S32x2048x8x64 : S_.BroadcastsInDim S32x2048x8x64 (![] : Fin 0 → Fin S32x2048x8x64.rank)
  bcast_S_S32x8 : S_.BroadcastsInDim S32x8 (![] : Fin 0 → Fin S32x8.rank)

variable [Facts]

def fn {F : FTy → Type} [FloatOps F] (main_arg0 : FVec F S16384x1024 .f32) (main_arg1 : FVec F S32x1024 .f32) (main_arg2 : FVec F S16384x512 .bf16) (main_arg3 : FVec F S16384x512 .bf16) (main_arg4 : FVec F S32x512 .f32) (main_arg5 : FVec F S32x1024 .f32) (main_arg6 : FVec F S32x512 .f32) (main_arg7 : FVec F S32x512 .f32) (main_arg8 : FVec F S32x512 .f32) (main_arg9 : FVec F S32x512 .f32) (main_arg10 : FVec F S1x32x2048x2x8x64 .f32) (main_arg11 : FVec F S1x32x4x128x128 .f32) (main_arg12 : FVec F S32x8 .f32) (main_arg13 : FVec F S1024x1024 .bf16) (main_arg14 : FVec F S1x1024 .f32) (main_arg15 : FVec F S1x1024 .f32) (main_arg16 : FVec F S1024x4096 .bf16) (main_arg17 : FVec F S4096x1024 .bf16) (main_arg18 : FVec F S1x1024 .f32) (main_arg19 : FVec F S1x1024 .f32) : IVec S32x512 1 × IVec S32x512 1 × IVec S32x2048x8x64 1 × IVec S32x8 1 :=
  let main_v0 : FVec F S32x512 .f32 := (extractStridedSlice S32x512 ![0, 0] · slices_S32x1024_S32x512_0_0) main_arg5
  let main_v1 : FVec F S1x32x2048x1x8x64 .f32 := (extractStridedSlice S1x32x2048x1x8x64 ![0, 0, 0, 0, 0, 0] · slices_S1x32x2048x2x8x64_S1x32x2048x1x8x64_0_0_0_0_0_0) main_arg10
  let main_v2 : FVec F S32x2048x8x64 .f32 := shapeCast S32x2048x8x64 main_v1 shapeCasts_S1x32x2048x1x8x64_S32x2048x8x64
  let main_v3 : FVec F S32x512 .f32 := Host.absf main_arg4
  let main_cst : FVec F S_ .f32 := constant S_ .f32 0x7F800000#32
  let main_v4 : FVec F S32x512 .f32 := broadcastInDim S32x512 ![] bcast_S_S32x512 main_cst
  let main_v5 : IVec S32x512 1 := cmpf .olt main_v3 main_v4
  let main_v6 : FVec F S32x512 .f32 := Host.absf main_v0
  let main_cst_0 : FVec F S_ .f32 := constant S_ .f32 0x7F800000#32
  let main_v7 : FVec F S32x512 .f32 := broadcastInDim S32x512 ![] bcast_S_S32x512 main_cst_0
  let main_v8 : IVec S32x512 1 := cmpf .olt main_v6 main_v7
  let main_v9 : FVec F S32x2048x8x64 .f32 := Host.absf main_v2
  let main_cst_1 : FVec F S_ .f32 := constant S_ .f32 0x7F800000#32
  let main_v10 : FVec F S32x2048x8x64 .f32 := broadcastInDim S32x2048x8x64 ![] bcast_S_S32x2048x8x64 main_cst_1
  let main_v11 : IVec S32x2048x8x64 1 := cmpf .olt main_v9 main_v10
  let main_v12 : FVec F S32x8 .f32 := Host.absf main_arg12
  let main_cst_2 : FVec F S_ .f32 := constant S_ .f32 0x7F800000#32
  let main_v13 : FVec F S32x8 .f32 := broadcastInDim S32x8 ![] bcast_S_S32x8 main_cst_2
  let main_v14 : IVec S32x8 1 := cmpf .olt main_v12 main_v13
  (main_v5, main_v8, main_v11, main_v14)
-- ==== Kernel.lean ====
abbrev S16384x1024 : Shape := ⟨2, ![16384, 1024]⟩
abbrev S32x1024 : Shape := ⟨2, ![32, 1024]⟩
abbrev S16384x512 : Shape := ⟨2, ![16384, 512]⟩
abbrev S32x512 : Shape := ⟨2, ![32, 512]⟩
abbrev S1x32x2048x2x8x64 : Shape := ⟨6, ![1, 32, 2048, 2, 8, 64]⟩
abbrev S1x32x4x128x128 : Shape := ⟨5, ![1, 32, 4, 128, 128]⟩
abbrev S32x8 : Shape := ⟨2, ![32, 8]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S129 : Shape := ⟨1, ![129]⟩
abbrev S_ : Shape := ⟨0, ![]⟩
abbrev S1x129 : Shape := ⟨2, ![1, 129]⟩
abbrev S3x129 : Shape := ⟨2, ![3, 129]⟩
abbrev S3x129x1 : Shape := ⟨3, ![3, 129, 1]⟩
abbrev S3x129x8 : Shape := ⟨3, ![3, 129, 8]⟩
abbrev S3x8x129 : Shape := ⟨3, ![3, 8, 129]⟩
abbrev S32x2048x2x8x64 : Shape := ⟨5, ![32, 2048, 2, 8, 64]⟩
abbrev S32x2x8x64x2048 : Shape := ⟨5, ![32, 2, 8, 64, 2048]⟩
abbrev S32x4x128x128 : Shape := ⟨4, ![32, 4, 128, 128]⟩
abbrev S1x8x1 : Shape := ⟨3, ![1, 8, 1]⟩
abbrev S8x1 : Shape := ⟨2, ![8, 1]⟩
abbrev S8x128 : Shape := ⟨2, ![8, 128]⟩
abbrev S1x8x128 : Shape := ⟨3, ![1, 8, 128]⟩
abbrev S8x128x1 : Shape := ⟨3, ![8, 128, 1]⟩
abbrev S8x128x0 : Shape := ⟨3, ![8, 128, 0]⟩
abbrev S8x1920 : Shape := ⟨2, ![8, 1920]⟩
abbrev S8x2048 : Shape := ⟨2, ![8, 2048]⟩
abbrev S8x128x3 : Shape := ⟨3, ![8, 128, 3]⟩
abbrev S8x128x4 : Shape := ⟨3, ![8, 128, 4]⟩
abbrev S8x1536 : Shape := ⟨2, ![8, 1536]⟩
abbrev S8x512 : Shape := ⟨2, ![8, 512]⟩
abbrev S8x128x15 : Shape := ⟨3, ![8, 128, 15]⟩
abbrev S8x128x16 : Shape := ⟨3, ![8, 128, 16]⟩
abbrev S8x0 : Shape := ⟨2, ![8, 0]⟩
abbrev S1x8x2048 : Shape := ⟨3, ![1, 8, 2048]⟩
abbrev S3x8x2048 : Shape := ⟨3, ![3, 8, 2048]⟩
abbrev S512x1024 : Shape := ⟨2, ![512, 1024]⟩
abbrev S512x512 : Shape := ⟨2, ![512, 512]⟩
abbrev S1x2x8x64x2048 : Shape := ⟨5, ![1, 2, 8, 64, 2048]⟩
abbrev S1x4x128x128 : Shape := ⟨4, ![1, 4, 128, 128]⟩
abbrev S1x512 : Shape := ⟨2, ![1, 512]⟩
abbrev S1x128 : Shape := ⟨2, ![1, 128]⟩
abbrev S128x128 : Shape := ⟨2, ![128, 128]⟩
abbrev S1x1x1x64x2048 : Shape := ⟨5, ![1, 1, 1, 64, 2048]⟩
abbrev S64x2048 : Shape := ⟨2, ![64, 2048]⟩
abbrev S64x1 : Shape := ⟨2, ![64, 1]⟩
abbrev S2048 : Shape := ⟨1, ![2048]⟩
abbrev S1x2048 : Shape := ⟨2, ![1, 2048]⟩
abbrev S1x64 : Shape := ⟨2, ![1, 64]⟩
abbrev S1 : Shape := ⟨1, ![1]⟩
abbrev S1x1 : Shape := ⟨2, ![1, 1]⟩
abbrev S8 : Shape := ⟨1, ![8]⟩
abbrev S1x8x512 : Shape := ⟨3, ![1, 8, 512]⟩
abbrev S8x384 : Shape := ⟨2, ![8, 384]⟩
abbrev S64 : Shape := ⟨1, ![64]⟩
abbrev S128x1 : Shape := ⟨2, ![128, 1]⟩
abbrev S1x1x128x128 : Shape := ⟨4, ![1, 1, 128, 128]⟩
abbrev S16x128 : Shape := ⟨2, ![16, 128]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S32 : Shape := ⟨1, ![32]⟩
abbrev S32x1 : Shape := ⟨2, ![32, 1]⟩

abbrev nBuf : Space → Nat
  | .hbm => 175
  | .vmem => 33
  | .smem => 0
  | _ => 0

abbrev hbmTy0_0 (i : Nat) : BufTy := match i % 128 with
  | 0 => ⟨S16384x1024, .f32⟩
  | 1 => ⟨S32x1024, .f32⟩
  | 2 => ⟨S16384x512, .bf16⟩
  | 3 => ⟨S16384x512, .bf16⟩
  | 4 => ⟨S32x512, .f32⟩
  | 5 => ⟨S32x1024, .f32⟩
  | 6 => ⟨S32x512, .f32⟩
  | 7 => ⟨S32x512, .f32⟩
  | 8 => ⟨S32x512, .f32⟩
  | 9 => ⟨S32x512, .f32⟩
  | 10 => ⟨S1x32x2048x2x8x64, .f32⟩
  | 11 => ⟨S1x32x4x128x128, .f32⟩
  | 12 => ⟨S32x8, .f32⟩
  | 13 => ⟨S1024x1024, .bf16⟩
  | 14 => ⟨S1x1024, .f32⟩
  | 15 => ⟨S1x1024, .f32⟩
  | 16 => ⟨S1024x4096, .bf16⟩
  | 17 => ⟨S4096x1024, .bf16⟩
  | 18 => ⟨S1x1024, .f32⟩
  | 19 => ⟨S1x1024, .f32⟩
  | 20 => ⟨S1024, .f32⟩
  | 21 => ⟨S1x1024, .f32⟩
  | 22 => ⟨S1024, .f32⟩
  | 23 => ⟨S1x1024, .f32⟩
  | 24 => ⟨S1024, .f32⟩
  | 25 => ⟨S1x1024, .f32⟩
  | 26 => ⟨S1024, .f32⟩
  | 27 => ⟨S1x1024, .f32⟩
  | 28 => ⟨S129, .i32⟩
  | 29 => ⟨S_, .i32⟩
  | 30 => ⟨S129, .i32⟩
  | 31 => ⟨S129, .i32⟩
  | 32 => ⟨S_, .i32⟩
  | 33 => ⟨S129, .i32⟩
  | 34 => ⟨S129, .i1⟩
  | 35 => ⟨S_, .i32⟩
  | 36 => ⟨S129, .i32⟩
  | 37 => ⟨S129, .i32⟩
  | 38 => ⟨S129, .f32⟩
  | 39 => ⟨S_, .f32⟩
  | 40 => ⟨S129, .f32⟩
  | 41 => ⟨S129, .f32⟩
  | 42 => ⟨S129, .f32⟩
  | 43 => ⟨S_, .f32⟩
  | 44 => ⟨S129, .f32⟩
  | 45 => ⟨S129, .f32⟩
  | 46 => ⟨S_, .f32⟩
  | 47 => ⟨S129, .f32⟩
  | 48 => ⟨S129, .f32⟩
  | 49 => ⟨S129, .i32⟩
  | 50 => ⟨S_, .i32⟩
  | 51 => ⟨S129, .i32⟩
  | 52 => ⟨S129, .i32⟩
  | 53 => ⟨S_, .i32⟩
  | 54 => ⟨S129, .i32⟩
  | 55 => ⟨S129, .i32⟩
  | 56 => ⟨S129, .i32⟩
  | 57 => ⟨S_, .i32⟩
  | 58 => ⟨S129, .i32⟩
  | 59 => ⟨S129, .i32⟩
  | 60 => ⟨S_, .i32⟩
  | 61 => ⟨S129, .i32⟩
  | 62 => ⟨S129, .i1⟩
  | 63 => ⟨S_, .i32⟩
  | 64 => ⟨S129, .i32⟩
  | 65 => ⟨S129, .i32⟩
  | 66 => ⟨S129, .f32⟩
  | 67 => ⟨S_, .f32⟩
  | 68 => ⟨S129, .f32⟩
  | 69 => ⟨S129, .f32⟩
  | 70 => ⟨S129, .f32⟩
  | 71 => ⟨S_, .f32⟩
  | 72 => ⟨S129, .f32⟩
  | 73 => ⟨S129, .f32⟩
  | 74 => ⟨S_, .f32⟩
  | 75 => ⟨S129, .f32⟩
  | 76 => ⟨S129, .f32⟩
  | 77 => ⟨S129, .i32⟩
  | 78 => ⟨S_, .i32⟩
  | 79 => ⟨S129, .i32⟩
  | 80 => ⟨S129, .i32⟩
  | 81 => ⟨S_, .i32⟩
  | 82 => ⟨S129, .i32⟩
  | 83 => ⟨S129, .i32⟩
  | 84 => ⟨S129, .i32⟩
  | 85 => ⟨S_, .i32⟩
  | 86 => ⟨S129, .i32⟩
  | 87 => ⟨S129, .i32⟩
  | 88 => ⟨S_, .i32⟩
  | 89 => ⟨S129, .i32⟩
  | 90 => ⟨S129, .i1⟩
  | 91 => ⟨S_, .i32⟩
  | 92 => ⟨S129, .i32⟩
  | 93 => ⟨S129, .i32⟩
  | 94 => ⟨S129, .f32⟩
  | 95 => ⟨S_, .f32⟩
  | 96 => ⟨S129, .f32⟩
  | 97 => ⟨S129, .f32⟩
  | 98 => ⟨S129, .f32⟩
  | 99 => ⟨S_, .f32⟩
  | 100 => ⟨S129, .f32⟩
  | 101 => ⟨S129, .f32⟩
  | 102 => ⟨S_, .f32⟩
  | 103 => ⟨S129, .f32⟩
  | 104 => ⟨S129, .f32⟩
  | 105 => ⟨S129, .i32⟩
  | 106 => ⟨S_, .i32⟩
  | 107 => ⟨S129, .i32⟩
  | 108 => ⟨S129, .i32⟩
  | 109 => ⟨S_, .i32⟩
  | 110 => ⟨S129, .i32⟩
  | 111 => ⟨S129, .i32⟩
  | 112 => ⟨S129, .i32⟩
  | 113 => ⟨S1x129, .i32⟩
  | 114 => ⟨S1x129, .i32⟩
  | 115 => ⟨S1x129, .i32⟩
  | 116 => ⟨S3x129, .i32⟩
  | 117 => ⟨S_, .i32⟩
  | 118 => ⟨S3x129, .i32⟩
  | 119 => ⟨S3x129, .i1⟩
  | 120 => ⟨S_, .i32⟩
  | 121 => ⟨S3x129, .i32⟩
  | 122 => ⟨S3x129, .i32⟩
  | 123 => ⟨S3x129, .i32⟩
  | 124 => ⟨S3x129x1, .i32⟩
  | 125 => ⟨S3x129x8, .f32⟩
  | 126 => ⟨S3x8x129, .f32⟩
  | 127 => ⟨S32x2048x2x8x64, .f32⟩
  | _ => ⟨S16384x1024, .f32⟩

abbrev hbmTy0_1 (i : Nat) : BufTy := match i % 128 with
  | 0 => ⟨S32x2x8x64x2048, .f32⟩
  | 1 => ⟨S32x4x128x128, .f32⟩
  | 2 => ⟨S1x8x1, .f32⟩
  | 3 => ⟨S8x1, .f32⟩
  | 4 => ⟨S8x128, .f32⟩
  | 5 => ⟨S1x8x128, .f32⟩
  | 6 => ⟨S1x8x128, .f32⟩
  | 7 => ⟨S8x128, .f32⟩
  | 8 => ⟨S8x128x1, .f32⟩
  | 9 => ⟨S_, .f32⟩
  | 10 => ⟨S8x128x0, .f32⟩
  | 11 => ⟨S8x128x1, .f32⟩
  | 12 => ⟨S_, .f32⟩
  | 13 => ⟨S8x1920, .f32⟩
  | 14 => ⟨S8x128, .f32⟩
  | 15 => ⟨S8x2048, .f32⟩
  | 16 => ⟨S1x8x128, .f32⟩
  | 17 => ⟨S1x8x128, .f32⟩
  | 18 => ⟨S8x128, .f32⟩
  | 19 => ⟨S8x128x1, .f32⟩
  | 20 => ⟨S_, .f32⟩
  | 21 => ⟨S8x128x3, .f32⟩
  | 22 => ⟨S8x128x4, .f32⟩
  | 23 => ⟨S_, .f32⟩
  | 24 => ⟨S8x1536, .f32⟩
  | 25 => ⟨S8x512, .f32⟩
  | 26 => ⟨S8x2048, .f32⟩
  | 27 => ⟨S1x8x128, .f32⟩
  | 28 => ⟨S1x8x128, .f32⟩
  | 29 => ⟨S8x128, .f32⟩
  | 30 => ⟨S8x128x1, .f32⟩
  | 31 => ⟨S_, .f32⟩
  | 32 => ⟨S8x128x15, .f32⟩
  | 33 => ⟨S8x128x16, .f32⟩
  | 34 => ⟨S_, .f32⟩
  | 35 => ⟨S8x0, .f32⟩
  | 36 => ⟨S8x2048, .f32⟩
  | 37 => ⟨S8x2048, .f32⟩
  | 38 => ⟨S1x8x2048, .f32⟩
  | 39 => ⟨S1x8x2048, .f32⟩
  | 40 => ⟨S1x8x2048, .f32⟩
  | 41 => ⟨S3x8x2048, .f32⟩
  | 42 => ⟨S16384x1024, .f32⟩
  | 43 => ⟨S32x512, .f32⟩
  | 44 => ⟨S32x512, .f32⟩
  | 45 => ⟨S32x4x128x128, .f32⟩
  | 46 => ⟨S32x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x1024, .f32⟩
  | .local _ .vmem, ⟨13, _⟩ => ⟨S32x512, .f32⟩
  | .local _ .vmem, ⟨14, _⟩ => ⟨S32x1024, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S1x2x8x64x2048, .f32⟩
  | .local _ .vmem, ⟨20, _⟩ => ⟨S1x2x8x64x2048, .f32⟩
  | .local _ .vmem, ⟨21, _⟩ => ⟨S1x4x128x128, .f32⟩
  | .local _ .vmem, ⟨22, _⟩ => ⟨S1x4x128x128, .f32⟩
  | .local _ .vmem, ⟨23, _⟩ => ⟨S3x8x2048, .f32⟩
  | .local _ .vmem, ⟨24, _⟩ => ⟨S8x128, .f32⟩
  | .local _ .vmem, ⟨25, _⟩ => ⟨S32x1024, .f32⟩
  | .local _ .vmem, ⟨26, _⟩ => ⟨S512x1024, .f32⟩
  | .local _ .vmem, ⟨27, _⟩ => ⟨S512x1024, .f32⟩
  | .local _ .vmem, ⟨28, _⟩ => ⟨S32x512, .f32⟩
  | .local _ .vmem, ⟨29, _⟩ => ⟨S32x512, .f32⟩
  | .local _ .vmem, ⟨30, _⟩ => ⟨S1x4x128x128, .f32⟩
  | .local _ .vmem, ⟨31, _⟩ => ⟨S1x4x128x128, .f32⟩
  | .local _ .vmem, ⟨32, _⟩ => ⟨S32x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_c_8 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_10 : Ref sig .tc := ⟨.hbm, 71, rfl⟩
abbrev main_v39 : Ref sig .tc := ⟨.hbm, 72, rfl⟩
abbrev main_v40 : Ref sig .tc := ⟨.hbm, 73, rfl⟩
abbrev main_cst_11 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_12 : Ref sig .tc := ⟨.hbm, 78, rfl⟩
abbrev main_v44 : Ref sig .tc := ⟨.hbm, 79, rfl⟩
abbrev main_v45 : Ref sig .tc := ⟨.hbm, 80, rfl⟩
abbrev main_c_13 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_14 : Ref sig .tc := ⟨.hbm, 85, rfl⟩
abbrev main_v49 : Ref sig .tc := ⟨.hbm, 86, rfl⟩
abbrev main_v50 : Ref sig .tc := ⟨.hbm, 87, rfl⟩
abbrev main_c_15 : Ref sig .tc := ⟨.hbm, 88, rfl⟩
abbrev main_v51 : Ref sig .tc := ⟨.hbm, 89, rfl⟩
abbrev main_v52 : Ref sig .tc := ⟨.hbm, 90, rfl⟩
abbrev main_c_16 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_17 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_18 : Ref sig .tc := ⟨.hbm, 99, rfl⟩
abbrev main_v59 : Ref sig .tc := ⟨.hbm, 100, rfl⟩
abbrev main_v60 : Ref sig .tc := ⟨.hbm, 101, rfl⟩
abbrev main_cst_19 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_c_20 : Ref sig .tc := ⟨.hbm, 106, rfl⟩
abbrev main_v64 : Ref sig .tc := ⟨.hbm, 107, rfl⟩
abbrev main_v65 : Ref sig .tc := ⟨.hbm, 108, rfl⟩
abbrev main_c_21 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_22 : Ref sig .tc := ⟨.hbm, 117, rfl⟩
abbrev main_v73 : Ref sig .tc := ⟨.hbm, 118, rfl⟩
abbrev main_v74 : Ref sig .tc := ⟨.hbm, 119, rfl⟩
abbrev main_c_23 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_24 : Ref sig .tc := ⟨.hbm, 137, rfl⟩
abbrev main_v91 : Ref sig .tc := ⟨.hbm, 138, rfl⟩
abbrev main_v92 : Ref sig .tc := ⟨.hbm, 139, rfl⟩
abbrev main_cst_25 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_cst_26 : Ref sig .tc := ⟨.hbm, 148, rfl⟩
abbrev main_v100 : Ref sig .tc := ⟨.hbm, 149, rfl⟩
abbrev main_v101 : Ref sig .tc := ⟨.hbm, 150, rfl⟩
abbrev main_cst_27 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_28 : Ref sig .tc := ⟨.hbm, 159, rfl⟩
abbrev main_v109 : Ref sig .tc := ⟨.hbm, 160, rfl⟩
abbrev main_v110 : Ref sig .tc := ⟨.hbm, 161, rfl⟩
abbrev main_cst_29 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118_0 : Ref sig .tc := ⟨.hbm, 170, rfl⟩
abbrev main_v118_1 : Ref sig .tc := ⟨.hbm, 171, rfl⟩
abbrev main_v118_2 : Ref sig .tc := ⟨.hbm, 172, rfl⟩
abbrev main_v118_3 : Ref sig .tc := ⟨.hbm, 173, rfl⟩
abbrev main_v118_4 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem23_0 : DmaSem sig := 29
abbrev cc0_sem24_0 : DmaSem sig := 30
abbrev cc0_sem24_1 : DmaSem sig := 31
abbrev cc0_sem25_0 : DmaSem sig := 32

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let v6 : Index := Scalar.indexCast arg0
  let c0 : Index := 0#32
  ![v6.toNat, 0]
def k0_off2 (i : grid0.Coords) : Fin 2 → Nat :=
  let arg0 : BitVec 32 := BitVec.ofNat 32 (i 0).val
  let v8 : Index := Scalar.indexCast arg0
  let c0_2 : Index := 0#32
  ![v8.toNat, 0]
def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 5 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_17 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 4 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x2x8x64x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S3x8x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S32x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S32x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x4x128x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S32x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S16384x1024 : Shape := ⟨2, ![16384, 1024]⟩
abbrev S32x1024 : Shape := ⟨2, ![32, 1024]⟩
abbrev S16384x512 : Shape := ⟨2, ![16384, 512]⟩
abbrev S32x512 : Shape := ⟨2, ![32, 512]⟩
abbrev S1x32x2048x2x8x64 : Shape := ⟨6, ![1, 32, 2048, 2, 8, 64]⟩
abbrev S1x32x4x128x128 : Shape := ⟨5, ![1, 32, 4, 128, 128]⟩
abbrev S32x8 : Shape := ⟨2, ![32, 8]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S4 : Shape := ⟨1, ![4]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S32x8x64 : Shape := ⟨3, ![32, 8, 64]⟩
abbrev S1x32x2048x1x8x64 : Shape := ⟨6, ![1, 32, 2048, 1, 8, 64]⟩
abbrev S32x2048x8x64 : Shape := ⟨4, ![32, 2048, 8, 64]⟩
abbrev S32x1x8x64 : Shape := ⟨4, ![32, 1, 8, 64]⟩
abbrev S32x2049x8x64 : Shape := ⟨4, ![32, 2049, 8, 64]⟩
abbrev S129 : Shape := ⟨1, ![129]⟩
abbrev S129x1 : Shape := ⟨2, ![129, 1]⟩
abbrev S32x129x8x64 : Shape := ⟨4, ![32, 129, 8, 64]⟩
abbrev S129x8 : Shape := ⟨2, ![129, 8]⟩
abbrev S8x129 : Shape := ⟨2, ![8, 129]⟩
abbrev S32x8x129 : Shape := ⟨3, ![32, 8, 129]⟩
abbrev S1x8x129 : Shape := ⟨3, ![1, 8, 129]⟩
abbrev S32x8x1 : Shape := ⟨3, ![32, 8, 1]⟩
abbrev S32x8x3 : Shape := ⟨3, ![32, 8, 3]⟩
abbrev S32x4x128 : Shape := ⟨3, ![32, 4, 128]⟩
abbrev S32x4x128x128 : Shape := ⟨4, ![32, 4, 128, 128]⟩
abbrev S32x4 : Shape := ⟨2, ![32, 4]⟩
abbrev S32x4x1 : Shape := ⟨3, ![32, 4, 1]⟩
abbrev S1x4x1 : Shape := ⟨3, ![1, 4, 1]⟩
abbrev S1x4x1x1 : Shape := ⟨4, ![1, 4, 1, 1]⟩
abbrev S32x4x128x1 : Shape := ⟨4, ![32, 4, 128, 1]⟩
abbrev S32x4x1x128 : Shape := ⟨4, ![32, 4, 1, 128]⟩
abbrev S32 : Shape := ⟨1, ![32]⟩
abbrev S32x1 : Shape := ⟨2, ![32, 1]⟩
abbrev S32x4096 : Shape := ⟨2, ![32, 4096]⟩

abbrev nBuf : Space → Nat
  | .hbm => 524
  | .vmem => 0
  | .smem => 0
  | _ => 0

abbrev hbmTy0_0 (i : Nat) : BufTy := match i % 128 with
  | 0 => ⟨S16384x1024, .f32⟩
  | 1 => ⟨S32x1024, .f32⟩
  | 2 => ⟨S16384x512, .bf16⟩
  | 3 => ⟨S16384x512, .bf16⟩
  | 4 => ⟨S32x512, .f32⟩
  | 5 => ⟨S32x1024, .f32⟩
  | 6 => ⟨S32x512, .f32⟩
  | 7 => ⟨S32x512, .f32⟩
  | 8 => ⟨S32x512, .f32⟩
  | 9 => ⟨S32x512, .f32⟩
  | 10 => ⟨S1x32x2048x2x8x64, .f32⟩
  | 11 => ⟨S1x32x4x128x128, .f32⟩
  | 12 => ⟨S32x8, .f32⟩
  | 13 => ⟨S1024x1024, .bf16⟩
  | 14 => ⟨S1x1024, .f32⟩
  | 15 => ⟨S1x1024, .f32⟩
  | 16 => ⟨S1024x4096, .bf16⟩
  | 17 => ⟨S4096x1024, .bf16⟩
  | 18 => ⟨S1x1024, .f32⟩
  | 19 => ⟨S1x1024, .f32⟩
  | 20 => ⟨S4, .f32⟩
  | 21 => ⟨S16384x512, .f32⟩
  | 22 => ⟨S16384x512, .f32⟩
  | 23 => ⟨S16384x1024, .f32⟩
  | 24 => ⟨S1024x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S_, .f32⟩
  | 31 => ⟨S16384, .f32⟩
  | 32 => ⟨S16384x1, .f32⟩
  | 33 => ⟨S_, .f32⟩
  | 34 => ⟨S16384x1, .f32⟩
  | 35 => ⟨S16384x1, .f32⟩
  | 36 => ⟨S16384x1024, .f32⟩
  | 37 => ⟨S16384x1024, .f32⟩
  | 38 => ⟨S16384x1024, .f32⟩
  | 39 => ⟨S_, .f32⟩
  | 40 => ⟨S16384, .f32⟩
  | 41 => ⟨S16384x1, .f32⟩
  | 42 => ⟨S_, .f32⟩
  | 43 => ⟨S16384x1, .f32⟩
  | 44 => ⟨S16384x1, .f32⟩
  | 45 => ⟨S16384x1024, .f32⟩
  | 46 => ⟨S16384x1024, .f32⟩
  | 47 => ⟨S_, .f32⟩
  | 48 => ⟨S16384x1, .f32⟩
  | 49 => ⟨S16384x1, .f32⟩
  | 50 => ⟨S16384x1, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S16384x1024, .f32⟩
  | 57 => ⟨S1024x4096, .f32⟩
  | 58 => ⟨S16384x4096, .f32⟩
  | 59 => ⟨S_, .f32⟩
  | 60 => ⟨S16384x4096, .f32⟩
  | 61 => ⟨S16384x4096, .f32⟩
  | 62 => ⟨S16384x4096, .f32⟩
  | 63 => ⟨S4096x1024, .f32⟩
  | 64 => ⟨S16384x1024, .f32⟩
  | 65 => ⟨S_, .f32⟩
  | 66 => ⟨S16384x1024, .f32⟩
  | 67 => ⟨S16384x1024, .f32⟩
  | 68 => ⟨S16384x1024, .f32⟩
  | 69 => ⟨S_, .f32⟩
  | 70 => ⟨S16384, .f32⟩
  | 71 => ⟨S16384x1, .f32⟩
  | 72 => ⟨S_, .f32⟩
  | 73 => ⟨S16384x1, .f32⟩
  | 74 => ⟨S16384x1, .f32⟩
  | 75 => ⟨S16384x1024, .f32⟩
  | 76 => ⟨S16384x1024, .f32⟩
  | 77 => ⟨S16384x1024, .f32⟩
  | 78 => ⟨S_, .f32⟩
  | 79 => ⟨S16384, .f32⟩
  | 80 => ⟨S16384x1, .f32⟩
  | 81 => ⟨S_, .f32⟩
  | 82 => ⟨S16384x1, .f32⟩
  | 83 => ⟨S16384x1, .f32⟩
  | 84 => ⟨S16384x1024, .f32⟩
  | 85 => ⟨S16384x1024, .f32⟩
  | 86 => ⟨S_, .f32⟩
  | 87 => ⟨S16384x1, .f32⟩
  | 88 => ⟨S16384x1, .f32⟩
  | 89 => ⟨S16384x1, .f32⟩
  | 90 => ⟨S16384x1024, .f32⟩
  | 91 => ⟨S16384x1024, .f32⟩
  | 92 => ⟨S16384x1024, .f32⟩
  | 93 => ⟨S16384x1024, .f32⟩
  | 94 => ⟨S16384x1024, .f32⟩
  | 95 => ⟨S16384x1024, .f32⟩
  | 96 => ⟨S32x8x64, .f32⟩
  | 97 => ⟨S1x32x2048x1x8x64, .f32⟩
  | 98 => ⟨S32x2048x8x64, .f32⟩
  | 99 => ⟨S32x512, .f32⟩
  | 100 => ⟨S32x1x8x64, .f32⟩
  | 101 => ⟨S32x2049x8x64, .f32⟩
  | 102 => ⟨S1x32x2048x1x8x64, .f32⟩
  | 103 => ⟨S32x2048x8x64, .f32⟩
  | 104 => ⟨S32x512, .f32⟩
  | 105 => ⟨S32x1x8x64, .f32⟩
  | 106 => ⟨S32x2049x8x64, .f32⟩
  | 107 => ⟨S129, .i32⟩
  | 108 => ⟨S_, .i32⟩
  | 109 => ⟨S129, .i32⟩
  | 110 => ⟨S129, .i32⟩
  | 111 => ⟨S_, .i32⟩
  | 112 => ⟨S129, .i32⟩
  | 113 => ⟨S129, .i32⟩
  | 114 => ⟨S_, .i32⟩
  | 115 => ⟨S129, .i32⟩
  | 116 => ⟨S129, .i1⟩
  | 117 => ⟨S_, .i32⟩
  | 118 => ⟨S129, .i32⟩
  | 119 => ⟨S129, .i32⟩
  | 120 => ⟨S129, .i32⟩
  | 121 => ⟨S129x1, .i32⟩
  | 122 => ⟨S32x129x8x64, .f32⟩
  | 123 => ⟨S_, .i32⟩
  | 124 => ⟨S129, .i32⟩
  | 125 => ⟨S129, .i1⟩
  | 126 => ⟨S_, .i32⟩
  | 127 => ⟨S129, .i32⟩
  | _ => ⟨S16384x1024, .f32⟩

abbrev hbmTy0_1 (i : Nat) : BufTy := match i % 128 with
  | 0 => ⟨S129, .i32⟩
  | 1 => ⟨S129, .i32⟩
  | 2 => ⟨S129x1, .i32⟩
  | 3 => ⟨S32x129x8x64, .f32⟩
  | 4 => ⟨S_, .i32⟩
  | 5 => ⟨S129, .i32⟩
  | 6 => ⟨S129, .i32⟩
  | 7 => ⟨S_, .i32⟩
  | 8 => ⟨S129, .i32⟩
  | 9 => ⟨S129, .i1⟩
  | 10 => ⟨S_, .i32⟩
  | 11 => ⟨S129, .i32⟩
  | 12 => ⟨S129, .i32⟩
  | 13 => ⟨S129, .f32⟩
  | 14 => ⟨S_, .f32⟩
  | 15 => ⟨S129, .f32⟩
  | 16 => ⟨S129, .f32⟩
  | 17 => ⟨S129, .f32⟩
  | 18 => ⟨S_, .f32⟩
  | 19 => ⟨S129, .f32⟩
  | 20 => ⟨S129, .f32⟩
  | 21 => ⟨S_, .f32⟩
  | 22 => ⟨S129, .f32⟩
  | 23 => ⟨S129, .f32⟩
  | 24 => ⟨S129, .i32⟩
  | 25 => ⟨S_, .i32⟩
  | 26 => ⟨S129, .i32⟩
  | 27 => ⟨S129, .i32⟩
  | 28 => ⟨S_, .i32⟩
  | 29 => ⟨S129, .i32⟩
  | 30 => ⟨S129, .i32⟩
  | 31 => ⟨S129, .i32⟩
  | 32 => ⟨S_, .i32⟩
  | 33 => ⟨S129, .i32⟩
  | 34 => ⟨S129, .i1⟩
  | 35 => ⟨S_, .i32⟩
  | 36 => ⟨S129, .i32⟩
  | 37 => ⟨S129, .i32⟩
  | 38 => ⟨S129, .i32⟩
  | 39 => ⟨S129x1, .i32⟩
  | 40 => ⟨S129x8, .f32⟩
  | 41 => ⟨S8x129, .f32⟩
  | 42 => ⟨S32x8x129, .f32⟩
  | 43 => ⟨S1x8x129, .f32⟩
  | 44 => ⟨S32x8x129, .f32⟩
  | 45 => ⟨S32x8x129, .f32⟩
  | 46 => ⟨S_, .f32⟩
  | 47 => ⟨S32x8, .f32⟩
  | 48 => ⟨S32x8x1, .f32⟩
  | 49 => ⟨S32x8x129, .f32⟩
  | 50 => ⟨S32x8x129, .f32⟩
  | 51 => ⟨S32x8x129, .f32⟩
  | 52 => ⟨S_, .f32⟩
  | 53 => ⟨S32x8, .f32⟩
  | 54 => ⟨S32x8x1, .f32⟩
  | 55 => ⟨S32x8x129, .f32⟩
  | 56 => ⟨S32x8x129, .f32⟩
  | 57 => ⟨S32x8x64, .f32⟩
  | 58 => ⟨S32x8x1, .f32⟩
  | 59 => ⟨S32x8x1, .f32⟩
  | 60 => ⟨S32x8, .f32⟩
  | 61 => ⟨S129, .i32⟩
  | 62 => ⟨S_, .i32⟩
  | 63 => ⟨S129, .i32⟩
  | 64 => ⟨S129, .i32⟩
  | 65 => ⟨S_, .i32⟩
  | 66 => ⟨S129, .i32⟩
  | 67 => ⟨S129, .i32⟩
  | 68 => ⟨S_, .i32⟩
  | 69 => ⟨S129, .i32⟩
  | 70 => ⟨S129, .i1⟩
  | 71 => ⟨S_, .i32⟩
  | 72 => ⟨S129, .i32⟩
  | 73 => ⟨S129, .i32⟩
  | 74 => ⟨S129, .i32⟩
  | 75 => ⟨S129x1, .i32⟩
  | 76 => ⟨S32x129x8x64, .f32⟩
  | 77 => ⟨S_, .i32⟩
  | 78 => ⟨S129, .i32⟩
  | 79 => ⟨S129, .i1⟩
  | 80 => ⟨S_, .i32⟩
  | 81 => ⟨S129, .i32⟩
  | 82 => ⟨S129, .i32⟩
  | 83 => ⟨S129, .i32⟩
  | 84 => ⟨S129x1, .i32⟩
  | 85 => ⟨S32x129x8x64, .f32⟩
  | 86 => ⟨S_, .i32⟩
  | 87 => ⟨S129, .i32⟩
  | 88 => ⟨S129, .i32⟩
  | 89 => ⟨S_, .i32⟩
  | 90 => ⟨S129, .i32⟩
  | 91 => ⟨S129, .i1⟩
  | 92 => ⟨S_, .i32⟩
  | 93 => ⟨S129, .i32⟩
  | 94 => ⟨S129, .i32⟩
  | 95 => ⟨S129, .f32⟩
  | 96 => ⟨S_, .f32⟩
  | 97 => ⟨S129, .f32⟩
  | 98 => ⟨S129, .f32⟩
  | 99 => ⟨S129, .f32⟩
  | 100 => ⟨S_, .f32⟩
  | 101 => ⟨S129, .f32⟩
  | 102 => ⟨S129, .f32⟩
  | 103 => ⟨S_, .f32⟩
  | 104 => ⟨S129, .f32⟩
  | 105 => ⟨S129, .f32⟩
  | 106 => ⟨S129, .i32⟩
  | 107 => ⟨S_, .i32⟩
  | 108 => ⟨S129, .i32⟩
  | 109 => ⟨S129, .i32⟩
  | 110 => ⟨S_, .i32⟩
  | 111 => ⟨S129, .i32⟩
  | 112 => ⟨S129, .i32⟩
  | 113 => ⟨S129, .i32⟩
  | 114 => ⟨S_, .i32⟩
  | 115 => ⟨S129, .i32⟩
  | 116 => ⟨S129, .i1⟩
  | 117 => ⟨S_, .i32⟩
  | 118 => ⟨S129, .i32⟩
  | 119 => ⟨S129, .i32⟩
  | 120 => ⟨S129, .i32⟩
  | 121 => ⟨S129x1, .i32⟩
  | 122 => ⟨S129x8, .f32⟩
  | 123 => ⟨S8x129, .f32⟩
  | 124 => ⟨S32x8x129, .f32⟩
  | 125 => ⟨S1x8x129, .f32⟩
  | 126 => ⟨S32x8x129, .f32⟩
  | 127 => ⟨S32x8x129, .f32⟩
  | _ => ⟨S16384x1024, .f32⟩

abbrev hbmTy0_2 (i : Nat) : BufTy := match i % 128 with
  | 0 => ⟨S_, .f32⟩
  | 1 => ⟨S32x8, .f32⟩
  | 2 => ⟨S32x8x1, .f32⟩
  | 3 => ⟨S32x8x129, .f32⟩
  | 4 => ⟨S32x8x129, .f32⟩
  | 5 => ⟨S32x8x129, .f32⟩
  | 6 => ⟨S_, .f32⟩
  | 7 => ⟨S32x8, .f32⟩
  | 8 => ⟨S32x8x1, .f32⟩
  | 9 => ⟨S32x8x129, .f32⟩
  | 10 => ⟨S32x8x129, .f32⟩
  | 11 => ⟨S32x8x64, .f32⟩
  | 12 => ⟨S32x8x1, .f32⟩
  | 13 => ⟨S32x8x1, .f32⟩
  | 14 => ⟨S32x8, .f32⟩
  | 15 => ⟨S129, .i32⟩
  | 16 => ⟨S_, .i32⟩
  | 17 => ⟨S129, .i32⟩
  | 18 => ⟨S129, .i32⟩
  | 19 => ⟨S_, .i32⟩
  | 20 => ⟨S129, .i32⟩
  | 21 => ⟨S129, .i32⟩
  | 22 => ⟨S_, .i32⟩
  | 23 => ⟨S129, .i32⟩
  | 24 => ⟨S129, .i1⟩
  | 25 => ⟨S_, .i32⟩
  | 26 => ⟨S129, .i32⟩
  | 27 => ⟨S129, .i32⟩
  | 28 => ⟨S129, .i32⟩
  | 29 => ⟨S129x1, .i32⟩
  | 30 => ⟨S32x129x8x64, .f32⟩
  | 31 => ⟨S_, .i32⟩
  | 32 => ⟨S129, .i32⟩
  | 33 => ⟨S129, .i1⟩
  | 34 => ⟨S_, .i32⟩
  | 35 => ⟨S129, .i32⟩
  | 36 => ⟨S129, .i32⟩
  | 37 => ⟨S129, .i32⟩
  | 38 => ⟨S129x1, .i32⟩
  | 39 => ⟨S32x129x8x64, .f32⟩
  | 40 => ⟨S_, .i32⟩
  | 41 => ⟨S129, .i32⟩
  | 42 => ⟨S129, .i32⟩
  | 43 => ⟨S_, .i32⟩
  | 44 => ⟨S129, .i32⟩
  | 45 => ⟨S129, .i1⟩
  | 46 => ⟨S_, .i32⟩
  | 47 => ⟨S129, .i32⟩
  | 48 => ⟨S129, .i32⟩
  | 49 => ⟨S129, .f32⟩
  | 50 => ⟨S_, .f32⟩
  | 51 => ⟨S129, .f32⟩
  | 52 => ⟨S129, .f32⟩
  | 53 => ⟨S129, .f32⟩
  | 54 => ⟨S_, .f32⟩
  | 55 => ⟨S129, .f32⟩
  | 56 => ⟨S129, .f32⟩
  | 57 => ⟨S_, .f32⟩
  | 58 => ⟨S129, .f32⟩
  | 59 => ⟨S129, .f32⟩
  | 60 => ⟨S129, .i32⟩
  | 61 => ⟨S_, .i32⟩
  | 62 => ⟨S129, .i32⟩
  | 63 => ⟨S129, .i32⟩
  | 64 => ⟨S_, .i32⟩
  | 65 => ⟨S129, .i32⟩
  | 66 => ⟨S129, .i32⟩
  | 67 => ⟨S129, .i32⟩
  | 68 => ⟨S_, .i32⟩
  | 69 => ⟨S129, .i32⟩
  | 70 => ⟨S129, .i1⟩
  | 71 => ⟨S_, .i32⟩
  | 72 => ⟨S129, .i32⟩
  | 73 => ⟨S129, .i32⟩
  | 74 => ⟨S129, .i32⟩
  | 75 => ⟨S129x1, .i32⟩
  | 76 => ⟨S129x8, .f32⟩
  | 77 => ⟨S8x129, .f32⟩
  | 78 => ⟨S32x8x129, .f32⟩
  | 79 => ⟨S1x8x129, .f32⟩
  | 80 => ⟨S32x8x129, .f32⟩
  | 81 => ⟨S32x8x129, .f32⟩
  | 82 => ⟨S_, .f32⟩
  | 83 => ⟨S32x8, .f32⟩
  | 84 => ⟨S32x8x1, .f32⟩
  | 85 => ⟨S32x8x129, .f32⟩
  | 86 => ⟨S32x8x129, .f32⟩
  | 87 => ⟨S32x8x129, .f32⟩
  | 88 => ⟨S_, .f32⟩
  | 89 => ⟨S32x8, .f32⟩
  | 90 => ⟨S32x8x1, .f32⟩
  | 91 => ⟨S32x8x129, .f32⟩
  | 92 => ⟨S32x8x129, .f32⟩
  | 93 => ⟨S32x8x64, .f32⟩
  | 94 => ⟨S32x8x1, .f32⟩
  | 95 => ⟨S32x8x1, .f32⟩
  | 96 => ⟨S32x8, .f32⟩
  | 97 => ⟨S32x8x1, .f32⟩
  | 98 => ⟨S32x8x1, .f32⟩
  | 99 => ⟨S32x8x1, .f32⟩
  | 100 => ⟨S32x8x3, .f32⟩
  | 101 => ⟨S_, .f32⟩
  | 102 => ⟨S32x8, .f32⟩
  | 103 => ⟨S_, .f32⟩
  | 104 => ⟨S32x8, .f32⟩
  | 105 => ⟨S32x8, .f32⟩
  | 106 => ⟨S32x8x1, .f32⟩
  | 107 => ⟨S32x8x3, .f32⟩
  | 108 => ⟨S32x8x3, .f32⟩
  | 109 => ⟨S32x8x3, .f32⟩
  | 110 => ⟨S_, .f32⟩
  | 111 => ⟨S32x8, .f32⟩
  | 112 => ⟨S32x8x1, .f32⟩
  | 113 => ⟨S32x8x3, .f32⟩
  | 114 => ⟨S32x8x3, .f32⟩
  | 115 => ⟨S32x8x1, .f32⟩
  | 116 => ⟨S32x8, .f32⟩
  | 117 => ⟨S32x8x1, .f32⟩
  | 118 => ⟨S32x8x64, .f32⟩
  | 119 => ⟨S32x8x64, .f32⟩
  | 120 => ⟨S_, .f32⟩
  | 121 => ⟨S32x8x64, .f32⟩
  | 122 => ⟨S32x8x64, .f32⟩
  | 123 => ⟨S32x8x1, .f32⟩
  | 124 => ⟨S32x8, .f32⟩
  | 125 => ⟨S32x8x1, .f32⟩
  | 126 => ⟨S32x8x64, .f32⟩
  | 127 => ⟨S32x8x64, .f32⟩
  | _ => ⟨S16384x1024, .f32⟩

abbrev hbmTy0_3 (i : Nat) : BufTy := match i % 128 with
  | 0 => ⟨S32x8x64, .f32⟩
  | 1 => ⟨S32x8x1, .f32⟩
  | 2 => ⟨S32x8, .f32⟩
  | 3 => ⟨S32x8x1, .f32⟩
  | 4 => ⟨S32x8x64, .f32⟩
  | 5 => ⟨S32x8x64, .f32⟩
  | 6 => ⟨S32x8x64, .f32⟩
  | 7 => ⟨S32x4x128, .f32⟩
  | 8 => ⟨S32x4x128, .f32⟩
  | 9 => ⟨S32x4x128, .f32⟩
  | 10 => ⟨S32x4x128x128, .f32⟩
  | 11 => ⟨S_, .f32⟩
  | 12 => ⟨S4, .f32⟩
  | 13 => ⟨S4, .f32⟩
  | 14 => ⟨S32x4, .f32⟩
  | 15 => ⟨S32x4x1, .f32⟩
  | 16 => ⟨S32x4x128, .f32⟩
  | 17 => ⟨S32x4x128, .f32⟩
  | 18 => ⟨S32x4x128, .f32⟩
  | 19 => ⟨S1x4x1, .f32⟩
  | 20 => ⟨S32x4x128, .f32⟩
  | 21 => ⟨S32x4x128, .f32⟩
  | 22 => ⟨S32x4x128, .f32⟩
  | 23 => ⟨S1x4x1x1, .f32⟩
  | 24 => ⟨S32x4x128x128, .f32⟩
  | 25 => ⟨S32x4x128x128, .f32⟩
  | 26 => ⟨S32x4x128x1, .f32⟩
  | 27 => ⟨S32x4x1x128, .f32⟩
  | 28 => ⟨S32x4x128x128, .f32⟩
  | 29 => ⟨S32x4x128x128, .f32⟩
  | 30 => ⟨S32x4x128x128, .f32⟩
  | 31 => ⟨S32x4x128x128, .f32⟩
  | 32 => ⟨S_, .f32⟩
  | 33 => ⟨S32x4, .f32⟩
  | 34 => ⟨S32x4x1, .f32⟩
  | 35 => ⟨S_, .f32⟩
  | 36 => ⟨S32x4x1, .f32⟩
  | 37 => ⟨S32x4x1, .f32⟩
  | 38 => ⟨S32x4x128, .f32⟩
  | 39 => ⟨S32x4x128, .f32⟩
  | 40 => ⟨S32x4x128, .f32⟩
  | 41 => ⟨S_, .f32⟩
  | 42 => ⟨S32x4, .f32⟩
  | 43 => ⟨S32x4x1, .f32⟩
  | 44 => ⟨S_, .f32⟩
  | 45 => ⟨S32x4x1, .f32⟩
  | 46 => ⟨S32x4x1, .f32⟩
  | 47 => ⟨S32x4x128, .f32⟩
  | 48 => ⟨S32x4x128, .f32⟩
  | 49 => ⟨S_, .f32⟩
  | 50 => ⟨S32x4x1, .f32⟩
  | 51 => ⟨S32x4x1, .f32⟩
  | 52 => ⟨S32x4x1, .f32⟩
  | 53 => ⟨S32x4x128, .f32⟩
  | 54 => ⟨S32x4x128, .f32⟩
  | 55 => ⟨S32x512, .f32⟩
  | 56 => ⟨S32x512, .f32⟩
  | 57 => ⟨S32x512, .f32⟩
  | 58 => ⟨S32x512, .f32⟩
  | 59 => ⟨S_, .f32⟩
  | 60 => ⟨S32x512, .f32⟩
  | 61 => ⟨S32x512, .f32⟩
  | 62 => ⟨S_, .f32⟩
  | 63 => ⟨S32x512, .f32⟩
  | 64 => ⟨S32x512, .f32⟩
  | 65 => ⟨S32x512, .f32⟩
  | 66 => ⟨S32x512, .f32⟩
  | 67 => ⟨S32x1024, .f32⟩
  | 68 => ⟨S1024x1024, .f32⟩
  | 69 => ⟨S32x1024, .f32⟩
  | 70 => ⟨S_, .f32⟩
  | 71 => ⟨S32x1024, .f32⟩
  | 72 => ⟨S32x1024, .f32⟩
  | 73 => ⟨S32x1024, .f32⟩
  | 74 => ⟨S_, .f32⟩
  | 75 => ⟨S32, .f32⟩
  | 76 => ⟨S32x1, .f32⟩
  | 77 => ⟨S_, .f32⟩
  | 78 => ⟨S32x1, .f32⟩
  | 79 => ⟨S32x1, .f32⟩
  | 80 => ⟨S32x1024, .f32⟩
  | 81 => ⟨S32x1024, .f32⟩
  | 82 => ⟨S32x1024, .f32⟩
  | 83 => ⟨S_, .f32⟩
  | 84 => ⟨S32, .f32⟩
  | 85 => ⟨S32x1, .f32⟩
  | 86 => ⟨S_, .f32⟩
  | 87 => ⟨S32x1, .f32⟩
  | 88 => ⟨S32x1, .f32⟩
  | 89 => ⟨S32x1024, .f32⟩
  | 90 => ⟨S32x1024, .f32⟩
  | 91 => ⟨S_, .f32⟩
  | 92 => ⟨S32x1, .f32⟩
  | 93 => ⟨S32x1, .f32⟩
  | 94 => ⟨S32x1, .f32⟩
  | 95 => ⟨S32x1024, .f32⟩
  | 96 => ⟨S32x1024, .f32⟩
  | 97 => ⟨S32x1024, .f32⟩
  | 98 => ⟨S32x1024, .f32⟩
  | 99 => ⟨S32x1024, .f32⟩
  | 100 => ⟨S32x1024, .f32⟩
  | 101 => ⟨S1024x4096, .f32⟩
  | 102 => ⟨S32x4096, .f32⟩
  | 103 => ⟨S_, .f32⟩
  | 104 => ⟨S32x4096, .f32⟩
  | 105 => ⟨S32x4096, .f32⟩
  | 106 => ⟨S32x4096, .f32⟩
  | 107 => ⟨S4096x1024, .f32⟩
  | 108 => ⟨S32x1024, .f32⟩
  | 109 => ⟨S_, .f32⟩
  | 110 => ⟨S32x1024, .f32⟩
  | 111 => ⟨S32x1024, .f32⟩
  | 112 => ⟨S32x1024, .f32⟩
  | 113 => ⟨S_, .f32⟩
  | 114 => ⟨S32, .f32⟩
  | 115 => ⟨S32x1, .f32⟩
  | 116 => ⟨S_, .f32⟩
  | 117 => ⟨S32x1, .f32⟩
  | 118 => ⟨S32x1, .f32⟩
  | 119 => ⟨S32x1024, .f32⟩
  | 120 => ⟨S32x1024, .f32⟩
  | 121 => ⟨S32x1024, .f32⟩
  | 122 => ⟨S_, .f32⟩
  | 123 => ⟨S32, .f32⟩
  | 124 => ⟨S32x1, .f32⟩
  | 125 => ⟨S_, .f32⟩
  | 126 => ⟨S32x1, .f32⟩
  | 127 => ⟨S32x1, .f32⟩
  | _ => ⟨S16384x1024, .f32⟩

abbrev hbmTy0_4 (i : Nat) : BufTy := match i % 128 with
  | 0 => ⟨S32x1024, .f32⟩
  | 1 => ⟨S32x1024, .f32⟩
  | 2 => ⟨S_, .f32⟩
  | 3 => ⟨S32x1, .f32⟩
  | 4 => ⟨S32x1, .f32⟩
  | 5 => ⟨S32x1, .f32⟩
  | 6 => ⟨S32x1024, .f32⟩
  | 7 => ⟨S32x1024, .f32⟩
  | 8 => ⟨S32x1024, .f32⟩
  | 9 => ⟨S32x1024, .f32⟩
  | 10 => ⟨S32x1024, .f32⟩
  | 11 => ⟨S32x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_1 : Ref sig .tc := ⟨.hbm, 30, rfl⟩
abbrev main_v8 : Ref sig .tc := ⟨.hbm, 31, rfl⟩
abbrev main_v9 : Ref sig .tc := ⟨.hbm, 32, rfl⟩
abbrev main_cst_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_3 : Ref sig .tc := ⟨.hbm, 39, rfl⟩
abbrev main_v15 : Ref sig .tc := ⟨.hbm, 40, rfl⟩
abbrev main_v16 : Ref sig .tc := ⟨.hbm, 41, rfl⟩
abbrev main_cst_4 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c : Ref sig .tc := ⟨.hbm, 108, rfl⟩
abbrev main_v74 : Ref sig .tc := ⟨.hbm, 109, rfl⟩
abbrev main_v75 : Ref sig .tc := ⟨.hbm, 110, rfl⟩
abbrev main_c_13 : Ref sig .tc := ⟨.hbm, 111, rfl⟩
abbrev main_v76 : Ref sig .tc := ⟨.hbm, 112, rfl⟩
abbrev main_v77 : Ref sig .tc := ⟨.hbm, 113, rfl⟩
abbrev main_c_14 : Ref sig .tc := ⟨.hbm, 114, rfl⟩
abbrev main_v78 : Ref sig .tc := ⟨.hbm, 115, rfl⟩
abbrev main_v79 : Ref sig .tc := ⟨.hbm, 116, rfl⟩
abbrev main_c_15 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_16 : Ref sig .tc := ⟨.hbm, 123, rfl⟩
abbrev main_v85 : Ref sig .tc := ⟨.hbm, 124, rfl⟩
abbrev main_v86 : Ref sig .tc := ⟨.hbm, 125, rfl⟩
abbrev main_c_17 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_18 : Ref sig .tc := ⟨.hbm, 132, rfl⟩
abbrev main_v92 : Ref sig .tc := ⟨.hbm, 133, rfl⟩
abbrev main_v93 : Ref sig .tc := ⟨.hbm, 134, rfl⟩
abbrev main_c_19 : Ref sig .tc := ⟨.hbm, 135, rfl⟩
abbrev main_v94 : Ref sig .tc := ⟨.hbm, 136, rfl⟩
abbrev main_v95 : Ref sig .tc := ⟨.hbm, 137, rfl⟩
abbrev main_c_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_21 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_cst_23 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_24 : Ref sig .tc := ⟨.hbm, 153, rfl⟩
abbrev main_v107 : Ref sig .tc := ⟨.hbm, 154, rfl⟩
abbrev main_v108 : Ref sig .tc := ⟨.hbm, 155, rfl⟩
abbrev main_c_25 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_26 : Ref sig .tc := ⟨.hbm, 160, rfl⟩
abbrev main_v112 : Ref sig .tc := ⟨.hbm, 161, rfl⟩
abbrev main_v113 : Ref sig .tc := ⟨.hbm, 162, rfl⟩
abbrev main_c_27 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_cst_28 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_29 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_c_30 : Ref sig .tc := ⟨.hbm, 190, rfl⟩
abbrev main_v138 : Ref sig .tc := ⟨.hbm, 191, rfl⟩
abbrev main_v139 : Ref sig .tc := ⟨.hbm, 192, rfl⟩
abbrev main_c_31 : Ref sig .tc := ⟨.hbm, 193, rfl⟩
abbrev main_v140 : Ref sig .tc := ⟨.hbm, 194, rfl⟩
abbrev main_v141 : Ref sig .tc := ⟨.hbm, 195, rfl⟩
abbrev main_c_32 : Ref sig .tc := ⟨.hbm, 196, rfl⟩
abbrev main_v142 : Ref sig .tc := ⟨.hbm, 197, rfl⟩
abbrev main_v143 : Ref sig .tc := ⟨.hbm, 198, rfl⟩
abbrev main_c_33 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_c_34 : Ref sig .tc := ⟨.hbm, 205, rfl⟩
abbrev main_v149 : Ref sig .tc := ⟨.hbm, 206, rfl⟩
abbrev main_v150 : Ref sig .tc := ⟨.hbm, 207, rfl⟩
abbrev main_c_35 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_c_36 : Ref sig .tc := ⟨.hbm, 214, rfl⟩
abbrev main_v156 : Ref sig .tc := ⟨.hbm, 215, rfl⟩
abbrev main_v157 : Ref sig .tc := ⟨.hbm, 216, rfl⟩
abbrev main_c_37 : Ref sig .tc := ⟨.hbm, 217, rfl⟩
abbrev main_v158 : Ref sig .tc := ⟨.hbm, 218, rfl⟩
abbrev main_v159 : Ref sig .tc := ⟨.hbm, 219, rfl⟩
abbrev main_c_38 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_cst_39 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_cst_40 : Ref sig .tc := ⟨.hbm, 228, rfl⟩
abbrev main_v166 : Ref sig .tc := ⟨.hbm, 229, rfl⟩
abbrev main_v167 : Ref sig .tc := ⟨.hbm, 230, rfl⟩
abbrev main_cst_41 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_c_42 : Ref sig .tc := ⟨.hbm, 235, rfl⟩
abbrev main_v171 : Ref sig .tc := ⟨.hbm, 236, rfl⟩
abbrev main_v172 : Ref sig .tc := ⟨.hbm, 237, rfl⟩
abbrev main_c_43 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_c_44 : Ref sig .tc := ⟨.hbm, 242, rfl⟩
abbrev main_v176 : Ref sig .tc := ⟨.hbm, 243, rfl⟩
abbrev main_v177 : Ref sig .tc := ⟨.hbm, 244, rfl⟩
abbrev main_c_45 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_cst_46 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_cst_47 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_c_48 : Ref sig .tc := ⟨.hbm, 272, rfl⟩
abbrev main_v202 : Ref sig .tc := ⟨.hbm, 273, rfl⟩
abbrev main_v203 : Ref sig .tc := ⟨.hbm, 274, rfl⟩
abbrev main_c_49 : Ref sig .tc := ⟨.hbm, 275, rfl⟩
abbrev main_v204 : Ref sig .tc := ⟨.hbm, 276, rfl⟩
abbrev main_v205 : Ref sig .tc := ⟨.hbm, 277, rfl⟩
abbrev main_c_50 : Ref sig .tc := ⟨.hbm, 278, rfl⟩
abbrev main_v206 : Ref sig .tc := ⟨.hbm, 279, rfl⟩
abbrev main_v207 : Ref sig .tc := ⟨.hbm, 280, rfl⟩
abbrev main_c_51 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_v211 : Ref sig .tc := ⟨.hbm, 285, rfl⟩
abbrev main_v212 : Ref sig .tc := ⟨.hbm, 286, rfl⟩
abbrev main_c_52 : Ref sig .tc := ⟨.hbm, 287, rfl⟩
abbrev main_v213 : Ref sig .tc := ⟨.hbm, 288, rfl⟩
abbrev main_v214 : Ref sig .tc := ⟨.hbm, 289, rfl⟩
abbrev main_c_53 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_c_54 : Ref sig .tc := ⟨.hbm, 296, rfl⟩
abbrev main_v220 : Ref sig .tc := ⟨.hbm, 297, rfl⟩
abbrev main_v221 : Ref sig .tc := ⟨.hbm, 298, rfl⟩
abbrev main_c_55 : Ref sig .tc := ⟨.hbm, 299, rfl⟩
abbrev main_v222 : Ref sig .tc := ⟨.hbm, 300, rfl⟩
abbrev main_v223 : Ref sig .tc := ⟨.hbm, 301, rfl⟩
abbrev main_c_56 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_cst_57 : Ref sig .tc := ⟨.hbm, 306, rfl⟩
abbrev main_v227 : Ref sig .tc := ⟨.hbm, 307, rfl⟩
abbrev main_v228 : Ref sig .tc := ⟨.hbm, 308, rfl⟩
abbrev main_v229 : Ref sig .tc := ⟨.hbm, 309, rfl⟩
abbrev main_cst_58 : Ref sig .tc := ⟨.hbm, 310, rfl⟩
abbrev main_v230 : Ref sig .tc := ⟨.hbm, 311, rfl⟩
abbrev main_v231 : Ref sig .tc := ⟨.hbm, 312, rfl⟩
abbrev main_cst_59 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_c_60 : Ref sig .tc := ⟨.hbm, 317, rfl⟩
abbrev main_v235 : Ref sig .tc := ⟨.hbm, 318, rfl⟩
abbrev main_v236 : Ref sig .tc := ⟨.hbm, 319, rfl⟩
abbrev main_c_61 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_c_62 : Ref sig .tc := ⟨.hbm, 324, rfl⟩
abbrev main_v240 : Ref sig .tc := ⟨.hbm, 325, rfl⟩
abbrev main_v241 : Ref sig .tc := ⟨.hbm, 326, rfl⟩
abbrev main_c_63 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_cst_64 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_cst_65 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_cst_66 : Ref sig .tc := ⟨.hbm, 357, rfl⟩
abbrev main_v269 : Ref sig .tc := ⟨.hbm, 358, rfl⟩
abbrev main_cst_67 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_cst_68 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_v280 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_cst_69 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_cst_70 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_v308 : Ref sig .tc := ⟨.hbm, 401, rfl⟩
abbrev main_v309 : Ref sig .tc := ⟨.hbm, 402, rfl⟩
abbrev main_v310 : Ref sig .tc := ⟨.hbm, 403, rfl⟩
abbrev main_v311 : Ref sig .tc := ⟨.hbm, 404, rfl⟩
abbrev main_v312 : Ref sig .tc := ⟨.hbm, 405, rfl⟩
abbrev main_v313 : Ref sig .tc := ⟨.hbm, 406, rfl⟩
abbrev main_v314 : Ref sig .tc := ⟨.hbm, 407, rfl⟩
abbrev main_v315 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev main_cst_71 : Ref sig .tc := ⟨.hbm, 416, rfl⟩
abbrev main_v323 : Ref sig .tc := ⟨.hbm, 417, rfl⟩
abbrev main_v324 : Ref sig .tc := ⟨.hbm, 418, rfl⟩
abbrev main_cst_72 : Ref sig .tc := ⟨.hbm, 419, rfl⟩
abbrev main_v325 : Ref sig .tc := ⟨.hbm, 420, rfl⟩
abbrev main_v326 : Ref sig .tc := ⟨.hbm, 421, rfl⟩
abbrev main_v327 : Ref sig .tc := ⟨.hbm, 422, rfl⟩
abbrev main_v328 : Ref sig .tc := ⟨.hbm, 423, rfl⟩
abbrev main_v329 : Ref sig .tc := ⟨.hbm, 424, rfl⟩
abbrev main_cst_73 : Ref sig .tc := ⟨.hbm, 425, rfl⟩
abbrev main_v330 : Ref sig .tc := ⟨.hbm, 426, rfl⟩
abbrev main_v331 : Ref sig .tc := ⟨.hbm, 427, rfl⟩
abbrev main_cst_74 : Ref sig .tc := ⟨.hbm, 428, rfl⟩
abbrev main_v332 : Ref sig .tc := ⟨.hbm, 429, rfl⟩
abbrev main_v333 : Ref sig .tc := ⟨.hbm, 430, rfl⟩
abbrev main_v334 : Ref sig .tc := ⟨.hbm, 431, rfl⟩
abbrev main_v335 : Ref sig .tc := ⟨.hbm, 432, rfl⟩
abbrev main_cst_75 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_call3_v0 : Ref sig .tc := ⟨.hbm, 441, rfl⟩
abbrev main_call3_v1 : Ref sig .tc := ⟨.hbm, 442, rfl⟩
abbrev main_call3_cst : Ref sig .tc := ⟨.hbm, 443, rfl⟩
abbrev main_call3_v2 : Ref sig .tc := ⟨.hbm, 444, rfl⟩
abbrev main_call3_v3 : Ref sig .tc := ⟨.hbm, 445, rfl⟩
abbrev main_call3_cst_0 : Ref sig .tc := ⟨.hbm, 446, rfl⟩
abbrev main_call3_v4 : Ref sig .tc := ⟨.hbm, 447, rfl⟩
abbrev main_call3_v5 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_cst_76 : Ref sig .tc := ⟨.hbm, 454, rfl⟩
abbrev main_v348 : Ref sig .tc := ⟨.hbm, 455, rfl⟩
abbrev main_v349 : Ref sig .tc := ⟨.hbm, 456, rfl⟩
abbrev main_v350 : Ref sig .tc := ⟨.hbm, 457, rfl⟩
abbrev main_cst_77 : Ref sig .tc := ⟨.hbm, 458, rfl⟩
abbrev main_v351 : Ref sig .tc := ⟨.hbm, 459, rfl⟩
abbrev main_v352 : Ref sig .tc := ⟨.hbm, 460, rfl⟩
abbrev main_cst_78 : Ref sig .tc := ⟨.hbm, 461, rfl⟩
abbrev main_v353 : Ref sig .tc := ⟨.hbm, 462, rfl⟩
abbrev main_v354 : Ref sig .tc := ⟨.hbm, 463, rfl⟩
abbrev main_v355 : Ref sig .tc := ⟨.hbm, 464, rfl⟩
abbrev main_v356 : Ref sig .tc := ⟨.hbm, 465, rfl⟩
abbrev main_v357 : Ref sig .tc := ⟨.hbm, 466, rfl⟩
abbrev main_cst_79 : Ref sig .tc := ⟨.hbm, 467, rfl⟩
abbrev main_v358 : Ref sig .tc := ⟨.hbm, 468, rfl⟩
abbrev main_v359 : Ref sig .tc := ⟨.hbm, 469, rfl⟩
abbrev main_cst_80 : Ref sig .tc := ⟨.hbm, 470, rfl⟩
abbrev main_v360 : Ref sig .tc := ⟨.hbm, 471, rfl⟩
abbrev main_v361 : Ref sig .tc := ⟨.hbm, 472, rfl⟩
abbrev main_v362 : Ref sig .tc := ⟨.hbm, 473, rfl⟩
abbrev main_v363 : Ref sig .tc := ⟨.hbm, 474, rfl⟩
abbrev main_cst_81 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_v367 : Ref sig .tc := ⟨.hbm, 479, rfl⟩
abbrev main_v368 : Ref sig .tc := ⟨.hbm, 480, rfl⟩
abbrev main_v369 : Ref sig .tc := ⟨.hbm, 481, rfl⟩
abbrev main_v370 : Ref sig .tc := ⟨.hbm, 482, rfl⟩
abbrev main_v371 : Ref sig .tc := ⟨.hbm, 483, rfl⟩
abbrev main_v372 : Ref sig .tc := ⟨.hbm, 484, rfl⟩
abbrev main_v373 : Ref sig .tc := ⟨.hbm, 485, rfl⟩
abbrev main_v374 : Ref sig .tc := ⟨.hbm, 486, rfl⟩
abbrev main_cst_82 : Ref sig .tc := ⟨.hbm, 487, rfl⟩
abbrev main_v375 : Ref sig .tc := ⟨.hbm, 488, rfl⟩
abbrev main_v376 : Ref sig .tc := ⟨.hbm, 489, rfl⟩
abbrev main_v377 : Ref sig .tc := ⟨.hbm, 490, rfl⟩
abbrev main_v378 : Ref sig .tc := ⟨.hbm, 491, rfl⟩
abbrev main_v379 : Ref sig .tc := ⟨.hbm, 492, rfl⟩
abbrev main_cst_83 : Ref sig .tc := ⟨.hbm, 493, rfl⟩
abbrev main_v380 : Ref sig .tc := ⟨.hbm, 494, rfl⟩
abbrev main_v381 : Ref sig .tc := ⟨.hbm, 495, rfl⟩
abbrev main_v382 : Ref sig .tc := ⟨.hbm, 496, rfl⟩
abbrev main_cst_84 : Ref sig .tc := ⟨.hbm, 497, rfl⟩
abbrev main_v383 : Ref sig .tc := ⟨.hbm, 498, rfl⟩
abbrev main_v384 : Ref sig .tc := ⟨.hbm, 499, rfl⟩
abbrev main_cst_85 : Ref sig .tc := ⟨.hbm, 500, rfl⟩
abbrev main_v385 : Ref sig .tc := ⟨.hbm, 501, rfl⟩
abbrev main_v386 : Ref sig .tc := ⟨.hbm, 502, rfl⟩
abbrev main_v387 : Ref sig .tc := ⟨.hbm, 503, rfl⟩
abbrev main_v388 : Ref sig .tc := ⟨.hbm, 504, rfl⟩
abbrev main_v389 : Ref sig .tc := ⟨.hbm, 505, rfl⟩
abbrev main_cst_86 : Ref sig .tc := ⟨.hbm, 506, rfl⟩
abbrev main_v390 : Ref sig .tc := ⟨.hbm, 507, rfl⟩
abbrev main_v391 : Ref sig .tc := ⟨.hbm, 508, rfl⟩
abbrev main_cst_87 : Ref sig .tc := ⟨.hbm, 509, rfl⟩
abbrev main_v392 : Ref sig .tc := ⟨.hbm, 510, rfl⟩
abbrev main_v393 : Ref sig .tc := ⟨.hbm, 511, rfl⟩
abbrev main_v394 : Ref sig .tc := ⟨.hbm, 512, rfl⟩
abbrev main_v395 : Ref sig .tc := ⟨.hbm, 513, rfl⟩
abbrev main_cst_88 : Ref sig .tc := ⟨.hbm, 514, rfl⟩
abbrev main_v396 : Ref sig .tc := ⟨.hbm, 515, rfl⟩
abbrev main_v397 : Ref sig .tc := ⟨.hbm, 516, rfl⟩
abbrev main_v398 : Ref sig .tc := ⟨.hbm, 517, rfl⟩
abbrev main_v399 : Ref sig .tc := ⟨.hbm, 518, rfl⟩
abbrev main_v400 : Ref sig .tc := ⟨.hbm, 519, rfl⟩
abbrev main_v401 : Ref sig .tc := ⟨.hbm, 520, rfl⟩
abbrev main_v402 : Ref sig .tc := ⟨.hbm, 521, rfl⟩
abbrev main_v403 : Ref sig .tc := ⟨.hbm, 522, rfl⟩
abbrev main_v404 : Ref sig .tc := ⟨.hbm, 523, rfl⟩

abbrev nD : Nat := 1
abbrev τ : Topo := Topo.v7x

variable {F : FTy → Type} [FloatOps F]
-- ==== Proof.BitRunA.lean ====
module

public import proofs.«01_k».proof.Proof.BitCond

@[expose] public section

set_option maxRecDepth 16384

noncomputable section

namespace Cert.Kernel.Bit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a sample token's grid point: it runs, and hands every input
    buffer back as it was and every output buffer at some contents. -/
theorem kernelRun0_A (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : isTok i) (hc1 : ¬isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_out_ffn_prompt_sample_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_out_ffn_prompt_sample_mixer_eq_skeleton]; unfold cc0_out_ffn_prompt_sample_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.Kernel.Bit

end
-- ==== Proof.BitRunB.lean ====
module

public import proofs.«01_k».proof.Proof.BitCond

@[expose] public section

set_option maxRecDepth 16384

noncomputable section

namespace Cert.Kernel.Bit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last grid point, where only the sample rows are computed: it runs, and hands every input
    buffer back as it was and every output buffer at some contents. -/
theorem kernelRun0_B (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : ¬isTok i) (hc1 : isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_out_ffn_prompt_sample_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_out_ffn_prompt_sample_mixer_eq_skeleton]; unfold cc0_out_ffn_prompt_sample_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    iexists _, _; isplitr; swap; · iexact H25
    ipureintro; rfl

end Cert.Kernel.Bit

end
-- ==== Proof.BitFrame.lean ====
module

public import proofs.«01_k».proof.Proof.BitRunA
public import proofs.«01_k».proof.Proof.BitRunB
public import Idealize.ShloMosaic.Lib.Claim

@[expose] public section

set_option maxRecDepth 16384

noncomputable section

namespace Cert.Kernel.Bit

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (21, 22, 23, 24, 25): nothing reads what the kernel leaves in them, so nothing
    of it is named (Lib/Pipeline/Dat.lean `Dat.toRForget`). -/
def forgets0 : Fin 26 → Bool := fun w => w.val == 21 || w.val == 22 || w.val == 23 || w.val == 24 || w.val == 25

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

theorem liveAt0_0 (t : Fin cfg0.N) : cfg0.idle 0 (cfg0.grid.coords t) = false := rfl
theorem liveAt0_1 (t : Fin cfg0.N) : cfg0.idle 1 (cfg0.grid.coords t) = false := rfl
theorem liveAt0_2 (t : Fin cfg0.N) : cfg0.idle 2 (cfg0.grid.coords t) = false := rfl
theorem liveAt0_3 (t : Fin cfg0.N) : cfg0.idle 3 (cfg0.grid.coords t) = false := rfl
theorem liveAt0_4 (t : Fin cfg0.N) : cfg0.idle 4 (cfg0.grid.coords t) = false := rfl
theorem liveAt0_5 (t : Fin cfg0.N) : cfg0.idle 5 (cfg0.grid.coords t) = false := rfl
theorem liveAt0_6 (t : Fin cfg0.N) : cfg0.idle 6 (cfg0.grid.coords t) = false := rfl
theorem liveAt0_7 (t : Fin cfg0.N) : cfg0.idle 7 (cfg0.grid.coords t) = false := rfl
theorem liveAt0_8 (t : Fin cfg0.N) : cfg0.idle 8 (cfg0.grid.coords t) = false := rfl
theorem liveAt0_9 (t : Fin cfg0.N) : cfg0.idle 9 (cfg0.grid.coords t) = false := rfl
theorem liveAt0_10 (t : Fin cfg0.N) : cfg0.idle 10 (cfg0.grid.coords t) = false := rfl
theorem liveAt0_11 (t : Fin cfg0.N) : cfg0.idle 11 (cfg0.grid.coords t) = false := rfl
theorem liveAt0_12 (t : Fin cfg0.N) : cfg0.idle 12 (cfg0.grid.coords t) = false := rfl
theorem liveAt0_13 (t : Fin cfg0.N) : cfg0.idle 13 (cfg0.grid.coords t) = false := rfl
theorem liveAt0_14 (t : Fin cfg0.N) : cfg0.idle 14 (cfg0.grid.coords t) = false := rfl
theorem liveAt0_15 (t : Fin cfg0.N) : cfg0.idle 15 (cfg0.grid.coords t) = false := rfl
theorem liveAt0_16 (t : Fin cfg0.N) : cfg0.idle 16 (cfg0.grid.coords t) = false := rfl
theorem liveAt0_17 (t : Fin cfg0.N) : cfg0.idle 17 (cfg0.grid.coords t) = false := rfl
theorem liveAt0_18 (t : Fin cfg0.N) : cfg0.idle 18 (cfg0.grid.coords t) = false := rfl
theorem liveAt0_19 (t : Fin cfg0.N) : cfg0.idle 19 (cfg0.grid.coords t) = false := rfl
theorem liveAt0_20 (t : Fin cfg0.N) : cfg0.idle 20 (cfg0.grid.coords t) = false := rfl

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

set_option maxHeartbeats 4800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl]
  have hN : t.val < 33 := lt_of_lt_of_eq t.isLt (show cfg0.N = 33 from N_0)
  by_cases h0 : t.val < 32
  · by_cases h1 : t.val = 32
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ ((isTok_iff t).mpr h0) (fun h => h1 ((isLast_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      iintro ⟨H0, H1, H2, H3, H4, H5, H6, H7, H8, H9, H10, H11, H12, H13, H14, H15, H16, H17, H18, H19, H20, H21, H22, H23, H24, H25⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25
  · by_cases h1 : t.val = 32
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ (fun h => h0 ((isTok_iff t).mp h)) ((isLast_iff t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      iintro ⟨H0, H1, H2, H3, H4, H5, H6, H7, H8, H9, H10, H11, H12, H13, H14, H15, H16, H17, H18, H19, H20, H21, H22, H23, H24, H25⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      iexact H25
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run of `run_main`, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run ends with every input array of the pipeline unchanged. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 1560000 in
/-- A frame run read at the argument arrays. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(Pipeline.RDat.FramePost.arr_in h c 0 rfl).trans ((hA c 0).trans (V_main_arg0 m c)),
      (Pipeline.RDat.FramePost.arr_in h c 20 rfl).trans ((hA c 20).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 10 rfl).trans ((hA c 10).trans (V_main_arg4 m c)),
      (Pipeline.RDat.FramePost.arr_in h c 11 rfl).trans ((hA c 11).trans (V_main_arg5 m c)),
      (Pipeline.RDat.FramePost.arr_in h c 12 rfl).trans ((hA c 12).trans (V_main_arg6 m c)),
      (Pipeline.RDat.FramePost.arr_in h c 13 rfl).trans ((hA c 13).trans (V_main_arg7 m c)),
      (Pipeline.RDat.FramePost.arr_in h c 14 rfl).trans ((hA c 14).trans (V_main_arg8 m c)),
      (Pipeline.RDat.FramePost.arr_in h c 15 rfl).trans ((hA c 15).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (Pipeline.RDat.FramePost.arr_in h c 3 rfl).trans ((hA c 3).trans (V_main_arg13 m c)),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      (Pipeline.RDat.FramePost.arr_in h c 6 rfl).trans ((hA c 6).trans (V_main_arg16 m c)),
      (Pipeline.RDat.FramePost.arr_in h c 7 rfl).trans ((hA c 7).trans (V_main_arg17 m c)),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (fun c => (dats m 0 c).toRForget forgets0) (A_eq m) (run_main m ρ)

/-- The kernel runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Kernel.Bit

end
-- ==== Proof.Spec.lean ====
module

public import Idealize.ShloMosaic.Lib.Pointwise

@[expose] public section

set_option maxRecDepth 16384

noncomputable section

namespace Cert.Mix

open Idealize.ShloMosaic

/-! The mathematics of one output row: layer norm, output projection and squared-ReLU feed-forward block,
over the extended reals. -/

/-- The row width as a value. -/
def c1024 : EReal := Ideal.ofBits .f32 0x44800000#32
/-- The layer norm's epsilon. -/
def cEps : EReal := Ideal.ofBits .f32 0x3727C5AC#32
/-- The residual scale. -/
def cAlpha : EReal := Ideal.ofBits .f32 0x3F9837F0#32

/-- The mean of a row. -/
def mean (z : Fin 1024 → EReal) : EReal := Ideal.div (∑ k, z k) c1024
/-- A row centred and divided by its standard deviation. -/
def lnc (z : Fin 1024 → EReal) (j : Fin 1024) : EReal :=
  (z j - mean z) * Ideal.rsqrt (Ideal.div (∑ k, (z k - mean z) * (z k - mean z)) c1024 + cEps)
/-- The layer norm of a row. -/
def ln (z g b : Fin 1024 → EReal) (j : Fin 1024) : EReal := lnc z j * g j + b j
/-- One squared-ReLU hidden unit. -/
def hid (x : Fin 1024 → EReal) (wu : Fin 1024 → Fin 4096 → EReal) (f : Fin 4096) : EReal :=
  max (∑ k, x k * wu k f) 0 * max (∑ k, x k * wu k f) 0
/-- The feed-forward block. -/
def ffn (x : Fin 1024 → EReal) (wu : Fin 1024 → Fin 4096 → EReal) (wd : Fin 4096 → Fin 1024 → EReal) (j : Fin 1024) : EReal :=
  ∑ f, hid x wu f * wd f j
/-- The output projection of the attention and the retention heads. -/
def mix (oa yr : Fin 512 → EReal) (wo : Fin 1024 → Fin 1024 → EReal) (j : Fin 1024) : EReal :=
  (∑ k : Fin 512, oa k * wo ⟨k.val, by omega⟩ j) + ∑ k : Fin 512, yr k * wo ⟨512 + k.val, by omega⟩ j
/-- The row after the first residual and layer norm. -/
def mid (x : Fin 1024 → EReal) (oa yr : Fin 512 → EReal) (wo : Fin 1024 → Fin 1024 → EReal) (g1 b1 : Fin 1024 → EReal) : Fin 1024 → EReal :=
  ln (fun j => cAlpha * x j + mix oa yr wo j) g1 b1
/-- The row after the second residual and layer norm. -/
def fin2 (x1 : Fin 1024 → EReal) (wu : Fin 1024 → Fin 4096 → EReal) (wd : Fin 4096 → Fin 1024 → EReal) (g2 b2 : Fin 1024 → EReal) : Fin 1024 → EReal :=
  ln (fun j => cAlpha * x1 j + ffn x1 wu wd j) g2 b2
/-- One output row of the layer. -/
def layer (x : Fin 1024 → EReal) (oa yr : Fin 512 → EReal) (wo : Fin 1024 → Fin 1024 → EReal) (g1 b1 : Fin 1024 → EReal)
    (wu : Fin 1024 → Fin 4096 → EReal) (wd : Fin 4096 → Fin 1024 → EReal) (g2 b2 : Fin 1024 → EReal) : Fin 1024 → EReal :=
  fin2 (mid x oa yr wo g1 b1) wu wd g2 b2

/-- A sum over the hidden units, by four chunks. -/
theorem sum_chunks (f : Fin 4096 → EReal) :
    ∑ k, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [Fin.sum_univ_tiles 4 1024 rfl f, Fin.sum_univ_four]
  have e : ∀ (a : ℕ) (h : a < 4) (b : ℕ) (hb : a * 1024 = b), (∑ t : Fin 1024, f ⟨(⟨a, h⟩ : Fin 4).val * 1024 + t.val, by simp; omega⟩)
      = ∑ k : Fin 1024, f ⟨b + k.val, by omega⟩ := by
    intro a h b hb; subst hb; rfl
  refine congrArg₂ (· + ·) (congrArg₂ (· + ·) (congrArg₂ (· + ·) ?_ ?_) ?_) ?_
  · refine Finset.sum_congr rfl fun k _ => congrArg f (Fin.ext ?_); simp
  · refine Finset.sum_congr rfl fun k _ => congrArg f (Fin.ext ?_); simp
  · refine Finset.sum_congr rfl fun k _ => congrArg f (Fin.ext ?_); simp
  · refine Finset.sum_congr rfl fun k _ => congrArg f (Fin.ext ?_); simp

end Cert.Mix

end
-- ==== Proof.Cond.lean ====
module

public import proofs.«01_k».proof.Proof.Gen.KernelIdeal.Skeleton
public import proofs.«01_k».proof.Proof.Gen.KernelIdeal.Launch
public import proofs.«01_k».proof.Proof.Gen.KernelIdeal.Frame

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditions of the body in closed form, and the staging memrefs of a point. -/

/-- The condition of the first branch: the point belongs to a sample token. -/
abbrev isTok (i : grid0.Coords) : Prop := k0_cond1 i = 1#1
/-- It holds at the points before point 32. -/
theorem isTok_iff : ∀ t : Fin cfg0.N, isTok (grid0.coords t) ↔ t.val < 32 :=
  (by decide +kernel : ∀ t : Fin grid0.N, isTok (grid0.coords t) ↔ t.val < 32)
/-- The condition of the second branch: the point is the last one. -/
abbrev isLast (i : grid0.Coords) : Prop := k0_cond2 i = 1#1
/-- It holds at point 32. -/
theorem isLast_iff : ∀ t : Fin cfg0.N, isLast (grid0.coords t) ↔ t.val = 32 :=
  (by decide +kernel : ∀ t : Fin grid0.N, isLast (grid0.coords t) ↔ t.val = 32)

/-! Each window's current staging memref at a point, and that it is whole. -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S32x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S32x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S32x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x2x8x64x2048 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x4x128x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S3x8x2048 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S8x128 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S32x1024 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S32x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S32x512 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x4x128x128 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S32x1024 .f32 := win0_25.stage (cfg0.slots t 25)
abbrev hs0_25 (t : Fin cfg0.N) : (ms0_25 t).IsWhole := hstage0_25 ((cfg0.slots t 25).cast nbuf0_25)

end Cert.KernelIdeal.Mix

end
-- ==== Proof.Vals.lean ====
module

public import proofs.«01_k».proof.Proof.Gen.KernelIdeal.Skeleton
public import proofs.«01_k».proof.Proof.Gen.KernelIdeal.Launch
public import proofs.«01_k».proof.Proof.Cond

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Each value the body computes at a grid point, as a function of the input blocks of that point. The names are the
value numbers of the printed body: `A` for the branch of a sample token, `B` for the last point. -/

/-- The input blocks of a point, window by window. -/
structure Ins (F : FTy → Type) where
  x0 : Vec F S512x1024 .f32
  x1 : Vec F S512x512 .bf16
  x2 : Vec F S512x512 .bf16
  x3 : Vec F S1024x1024 .bf16
  x4 : Vec F S1x1024 .f32
  x5 : Vec F S1x1024 .f32
  x6 : Vec F S1024x4096 .bf16
  x7 : Vec F S4096x1024 .bf16
  x8 : Vec F S1x1024 .f32
  x9 : Vec F S1x1024 .f32
  x10 : Vec F S32x512 .f32
  x11 : Vec F S32x1024 .f32
  x12 : Vec F S32x512 .f32
  x13 : Vec F S32x512 .f32
  x14 : Vec F S32x512 .f32
  x15 : Vec F S32x512 .f32
  x16 : Vec F S1x2x8x64x2048 .f32
  x17 : Vec F S1x4x128x128 .f32
  x18 : Vec F S3x8x2048 .f32
  x19 : Vec F S8x128 .f32
  x20 : Vec F S32x1024 .f32

def A.v7 (i : grid0.Coords) (h : k0_cond1 i = 1#1) (X : Ins F) : Vec F S1x512 .f32 := View.ld X.x10 (Rect.unit (s := S32x512) (k0_off1 i) S1x512.size (k0_off1_inb i h))
def A.v9 (i : grid0.Coords) (h : k0_cond1 i = 1#1) (X : Ins F) : Vec F S1x1024 .f32 := View.ld X.x11 (Rect.unit (s := S32x1024) (k0_off2 i) S1x1024.size (k0_off2_inb i h))
def A.v15 (i : grid0.Coords) (h : k0_cond1 i = 1#1) (X : Ins F) : Vec F S1x1x1x64x2048 .f32 := View.ld X.x16 (Rect.unit (s := S1x2x8x64x2048) ![0, 0, 0, 0, 0] S1x1x1x64x2048.size inb_S1x2x8x64x2048_S1x1x1x64x2048_0_0_0_0_0)
def A.v27 (i : grid0.Coords) (h : k0_cond1 i = 1#1) (X : Ins F) : Vec F S1x1x1x64x2048 .f32 := View.ld X.x16 (Rect.unit (s := S1x2x8x64x2048) ![0, 0, 1, 0, 0] S1x1x1x64x2048.size inb_S1x2x8x64x2048_S1x1x1x64x2048_0_0_1_0_0)
def A.v44 (i : grid0.Coords) (h : k0_cond1 i = 1#1) (X : Ins F) : Vec F S1x1x1x64x2048 .f32 := View.ld X.x16 (Rect.unit (s := S1x2x8x64x2048) ![0, 0, 2, 0, 0] S1x1x1x64x2048.size inb_S1x2x8x64x2048_S1x1x1x64x2048_0_0_2_0_0)
def A.v21 (i : grid0.Coords) (h : k0_cond1 i = 1#1) (X : Ins F) : FVec F S1x2048 .f32 := k0_pay6 (A.v7 i h X) (A.v15 i h X)
def A.v26 (i : grid0.Coords) (h : k0_cond1 i = 1#1) (X : Ins F) : FVec F S1x1 .f32 := k0_pay7 (A.v7 i h X) (A.v9 i h X)
def A.v33 (i : grid0.Coords) (h : k0_cond1 i = 1#1) (X : Ins F) : FVec F S1x2048 .f32 := k0_pay8 (A.v7 i h X) (A.v27 i h X)
def A.v38 (i : grid0.Coords) (h : k0_cond1 i = 1#1) (X : Ins F) : FVec F S1x1 .f32 := k0_pay9 (A.v7 i h X) (A.v9 i h X)
def A.v39 (i : grid0.Coords) (h : k0_cond1 i = 1#1) (X : Ins F) : FVec F S1x128 .f32 := k0_pay10 (A.v7 i h X)
def A.v40 (i : grid0.Coords) (h : k0_cond1 i = 1#1) (X : Ins F) : FVec F S1x128 .f32 := k0_pay11 (A.v9 i h X)
def A.v43 (i : grid0.Coords) (h : k0_cond1 i = 1#1) (X : Ins F) : FVec F S128x128 .f32 := k0_pay12 (A.v7 i h X)
def A.v56 (i : grid0.Coords) (h : k0_cond1 i = 1#1) (X : Ins F) : Vec F S1x1x1x64x2048 .f32 := View.ld X.x16 (Rect.unit (s := S1x2x8x64x2048) ![0, 0, 3, 0, 0] S1x1x1x64x2048.size inb_S1x2x8x64x2048_S1x1x1x64x2048_0_0_3_0_0)
def A.v73 (i : grid0.Coords) (h : k0_cond1 i = 1#1) (X : Ins F) : Vec F S1x1x1x64x2048 .f32 := View.ld X.x16 (Rect.unit (s := S1x2x8x64x2048) ![0, 0, 4, 0, 0] S1x1x1x64x2048.size inb_S1x2x8x64x2048_S1x1x1x64x2048_0_0_4_0_0)
def A.v50 (i : grid0.Coords) (h : k0_cond1 i = 1#1) (X : Ins F) : FVec F S1x2048 .f32 := k0_pay13 (A.v43 i h X) (A.v44 i h X)
def A.v55 (i : grid0.Coords) (h : k0_cond1 i = 1#1) (X : Ins F) : FVec F S1x1 .f32 := k0_pay14 (A.v39 i h X) (A.v40 i h X)
def A.v62 (i : grid0.Coords) (h : k0_cond1 i = 1#1) (X : Ins F) : FVec F S1x2048 .f32 := k0_pay15 (A.v43 i h X) (A.v56 i h X)
def A.v67 (i : grid0.Coords) (h : k0_cond1 i = 1#1) (X : Ins F) : FVec F S1x1 .f32 := k0_pay16 (A.v39 i h X) (A.v40 i h X)
def A.v68 (i : grid0.Coords) (h : k0_cond1 i = 1#1) (X : Ins F) : FVec F S1x128 .f32 := k0_pay17 (A.v7 i h X)
def A.v69 (i : grid0.Coords) (h : k0_cond1 i = 1#1) (X : Ins F) : FVec F S1x128 .f32 := k0_pay18 (A.v9 i h X)
def A.v72 (i : grid0.Coords) (h : k0_cond1 i = 1#1) (X : Ins F) : FVec F S128x128 .f32 := k0_pay19 (A.v7 i h X)
def A.v79 (i : grid0.Coords) (h : k0_cond1 i = 1#1) (X : Ins F) : FVec F S1x2048 .f32 := k0_pay20 (A.v7 i h X) (A.v73 i h X)
def A.v84 (i : grid0.Coords) (h : k0_cond1 i = 1#1) (X : Ins F) : FVec F S1x1 .f32 := k0_pay21 (A.v7 i h X) (A.v9 i h X)
def A.v85 (i : grid0.Coords) (h : k0_cond1 i = 1#1) (X : Ins F) : Vec F S1x1x1x64x2048 .f32 := View.ld X.x16 (Rect.unit (s := S1x2x8x64x2048) ![0, 0, 5, 0, 0] S1x1x1x64x2048.size inb_S1x2x8x64x2048_S1x1x1x64x2048_0_0_5_0_0)
def A.v102 (i : grid0.Coords) (h : k0_cond1 i = 1#1) (X : Ins F) : Vec F S1x1x1x64x2048 .f32 := View.ld X.x16 (Rect.unit (s := S1x2x8x64x2048) ![0, 0, 6, 0, 0] S1x1x1x64x2048.size inb_S1x2x8x64x2048_S1x1x1x64x2048_0_0_6_0_0)
def A.v114 (i : grid0.Coords) (h : k0_cond1 i = 1#1) (X : Ins F) : Vec F S1x1x1x64x2048 .f32 := View.ld X.x16 (Rect.unit (s := S1x2x8x64x2048) ![0, 0, 7, 0, 0] S1x1x1x64x2048.size inb_S1x2x8x64x2048_S1x1x1x64x2048_0_0_7_0_0)
def A.v126 (i : grid0.Coords) (h : k0_cond1 i = 1#1) (X : Ins F) : FVec F S8x2048 .f32 := k0_pay23 (A.v7 i h X) (A.v21 i h X) (A.v33 i h X) (A.v50 i h X) (A.v62 i h X) (A.v72 i h X) (A.v79 i h X) (A.v85 i h X) (A.v102 i h X) (A.v114 i h X)
def A.v127 (i : grid0.Coords) (h : k0_cond1 i = 1#1) (X : Ins F) : FVec F S8x1 .f32 := k0_pay24 (A.v7 i h X) (A.v9 i h X) (A.v26 i h X) (A.v38 i h X) (A.v55 i h X) (A.v67 i h X) (A.v68 i h X) (A.v69 i h X) (A.v84 i h X)
def A.v128 (i : grid0.Coords) (h : k0_cond1 i = 1#1) (X : Ins F) : Vec F S8x1 .f32 := View.ld X.x19 (Rect.unit (s := S8x128) ![0, 0] S8x1.size inb_S8x128_S8x1_0_0)
def A.v132 (i : grid0.Coords) (h : k0_cond1 i = 1#1) (X : Ins F) : Vec F S1x8x128 .f32 := View.ld X.x18 (Rect.unit (s := S3x8x2048) ![0, 0, 1920] S1x8x128.size inb_S3x8x2048_S1x8x128_0_0_1920)
def A.v149 (i : grid0.Coords) (h : k0_cond1 i = 1#1) (X : Ins F) : Vec F S1x8x512 .f32 := View.ld X.x18 (Rect.unit (s := S3x8x2048) ![1, 0, 1536] S1x8x512.size inb_S3x8x2048_S1x8x512_1_0_1536)
def A.v165 (i : grid0.Coords) (h : k0_cond1 i = 1#1) (X : Ins F) : Vec F S1x8x2048 .f32 := View.ld X.x18 (Rect.unit (s := S3x8x2048) ![2, 0, 0] S1x8x2048.size inb_S3x8x2048_S1x8x2048_2_0_0)
def A.v130 (i : grid0.Coords) (h : k0_cond1 i = 1#1) (X : Ins F) : FVec F S8x1 .f32 := k0_pay25 (A.v127 i h X) (A.v128 i h X)
def A.v140 (i : grid0.Coords) (h : k0_cond1 i = 1#1) (X : Ins F) : FVec F S8x128 .f32 := k0_pay28 (A.v126 i h X) (A.v127 i h X) (A.v128 i h X) (A.v132 i h X)
def A.v142 (i : grid0.Coords) (h : k0_cond1 i = 1#1) (X : Ins F) : FVec F S8x1 .f32 := k0_pay29 (A.v126 i h X) (A.v127 i h X) (A.v128 i h X) (A.v132 i h X)
def A.v145 (i : grid0.Coords) (h : k0_cond1 i = 1#1) (X : Ins F) : FVec F S8x1 .f32 := k0_pay30 (A.v126 i h X) (A.v127 i h X) (A.v128 i h X) (A.v132 i h X)
def A.v147 (i : grid0.Coords) (h : k0_cond1 i = 1#1) (X : Ins F) : FVec F S8x1 .f32 := k0_pay31 (A.v126 i h X) (A.v127 i h X) (A.v128 i h X) (A.v132 i h X)
def A.v157 (i : grid0.Coords) (h : k0_cond1 i = 1#1) (X : Ins F) : FVec F S8x512 .f32 := k0_pay34 (A.v126 i h X) (A.v127 i h X) (A.v128 i h X) (A.v149 i h X)
def A.v159 (i : grid0.Coords) (h : k0_cond1 i = 1#1) (X : Ins F) : FVec F S8x1 .f32 := k0_pay35 (A.v126 i h X) (A.v127 i h X) (A.v128 i h X) (A.v149 i h X)
def A.v162 (i : grid0.Coords) (h : k0_cond1 i = 1#1) (X : Ins F) : FVec F S8x1 .f32 := k0_pay36 (A.v126 i h X) (A.v127 i h X) (A.v128 i h X) (A.v149 i h X)
def A.v164 (i : grid0.Coords) (h : k0_cond1 i = 1#1) (X : Ins F) : FVec F S8x1 .f32 := k0_pay37 (A.v126 i h X) (A.v127 i h X) (A.v128 i h X) (A.v149 i h X)
def A.v167 (i : grid0.Coords) (h : k0_cond1 i = 1#1) (X : Ins F) : FVec F S8x2048 .f32 := k0_pay38 (A.v126 i h X) (A.v165 i h X)
def A.v170 (i : grid0.Coords) (h : k0_cond1 i = 1#1) (X : Ins F) : FVec F S8x1 .f32 := k0_pay39 (A.v126 i h X) (A.v127 i h X) (A.v128 i h X) (A.v165 i h X)
def A.v171 (i : grid0.Coords) (h : k0_cond1 i = 1#1) (X : Ins F) : FVec F S8x2048 .f32 := k0_pay40 (A.v126 i h X) (A.v127 i h X) (A.v128 i h X) (A.v165 i h X)
def A.v221 (i : grid0.Coords) (h : k0_cond1 i = 1#1) (X : Ins F) : Vec F S1x1x1x64x2048 .f32 := View.ld X.x16 (Rect.unit (s := S1x2x8x64x2048) ![0, 1, 0, 0, 0] S1x1x1x64x2048.size inb_S1x2x8x64x2048_S1x1x1x64x2048_0_1_0_0_0)
def A.v211 (i : grid0.Coords) (h : k0_cond1 i = 1#1) (X : Ins F) : FVec F S8x2048 .f32 := k0_pay53 (A.v130 i h X) (A.v140 i h X) (A.v145 i h X) (A.v147 i h X) (A.v157 i h X) (A.v162 i h X) (A.v164 i h X) (A.v167 i h X) (A.v170 i h X) (A.v171 i h X)
def A.v216 (i : grid0.Coords) (h : k0_cond1 i = 1#1) (X : Ins F) : FVec F S8x1 .f32 := k0_pay54 (A.v130 i h X) (A.v142 i h X) (A.v145 i h X) (A.v147 i h X) (A.v159 i h X) (A.v162 i h X) (A.v164 i h X) (A.v167 i h X) (A.v170 i h X) (A.v171 i h X)
def A.v220 (i : grid0.Coords) (h : k0_cond1 i = 1#1) (X : Ins F) : FVec F S128x128 .f32 := k0_pay55 (A.v9 i h X)
def A.v225 (i : grid0.Coords) (h : k0_cond1 i = 1#1) (X : Ins F) : FVec F S64x2048 .f32 := k0_pay56 (A.v130 i h X) (A.v140 i h X) (A.v145 i h X) (A.v147 i h X) (A.v157 i h X) (A.v162 i h X) (A.v164 i h X) (A.v167 i h X) (A.v170 i h X) (A.v171 i h X) (A.v221 i h X)
def A.v233 (i : grid0.Coords) (h : k0_cond1 i = 1#1) (X : Ins F) : Vec F S1x1x1x64x2048 .f32 := View.ld X.x16 (Rect.unit (s := S1x2x8x64x2048) ![0, 1, 1, 0, 0] S1x1x1x64x2048.size inb_S1x2x8x64x2048_S1x1x1x64x2048_0_1_1_0_0)
def A.v254 (i : grid0.Coords) (h : k0_cond1 i = 1#1) (X : Ins F) : Vec F S1x1x1x64x2048 .f32 := View.ld X.x16 (Rect.unit (s := S1x2x8x64x2048) ![0, 1, 2, 0, 0] S1x1x1x64x2048.size inb_S1x2x8x64x2048_S1x1x1x64x2048_0_1_2_0_0)
def A.v266 (i : grid0.Coords) (h : k0_cond1 i = 1#1) (X : Ins F) : Vec F S1x1x1x64x2048 .f32 := View.ld X.x16 (Rect.unit (s := S1x2x8x64x2048) ![0, 1, 3, 0, 0] S1x1x1x64x2048.size inb_S1x2x8x64x2048_S1x1x1x64x2048_0_1_3_0_0)
def A.v249 (i : grid0.Coords) (h : k0_cond1 i = 1#1) (X : Ins F) : FVec F S1x128 .f32 := k0_pay57 (A.v211 i h X) (A.v216 i h X) (A.v220 i h X) (A.v225 i h X) (A.v233 i h X)
def A.v253 (i : grid0.Coords) (h : k0_cond1 i = 1#1) (X : Ins F) : FVec F S128x128 .f32 := k0_pay58 (A.v9 i h X)
def A.v265 (i : grid0.Coords) (h : k0_cond1 i = 1#1) (X : Ins F) : FVec F S64x1 .f32 := k0_pay59 (A.v9 i h X) (A.v211 i h X) (A.v216 i h X) (A.v254 i h X)
def A.v267 (i : grid0.Coords) (h : k0_cond1 i = 1#1) (X : Ins F) : FVec F S64x2048 .f32 := k0_pay60 (A.v266 i h X)
def A.v287 (i : grid0.Coords) (h : k0_cond1 i = 1#1) (X : Ins F) : Vec F S1x1x1x64x2048 .f32 := View.ld X.x16 (Rect.unit (s := S1x2x8x64x2048) ![0, 1, 4, 0, 0] S1x1x1x64x2048.size inb_S1x2x8x64x2048_S1x1x1x64x2048_0_1_4_0_0)
def A.v299 (i : grid0.Coords) (h : k0_cond1 i = 1#1) (X : Ins F) : Vec F S1x1x1x64x2048 .f32 := View.ld X.x16 (Rect.unit (s := S1x2x8x64x2048) ![0, 1, 5, 0, 0] S1x1x1x64x2048.size inb_S1x2x8x64x2048_S1x1x1x64x2048_0_1_5_0_0)
def A.v282 (i : grid0.Coords) (h : k0_cond1 i = 1#1) (X : Ins F) : FVec F S1x128 .f32 := k0_pay61 (A.v211 i h X) (A.v216 i h X) (A.v253 i h X) (A.v265 i h X) (A.v267 i h X)
def A.v314 (i : grid0.Coords) (h : k0_cond1 i = 1#1) (X : Ins F) : FVec F S128x128 .f32 := k0_pay62 (A.v9 i h X) (A.v211 i h X) (A.v216 i h X) (A.v287 i h X) (A.v299 i h X)
def A.v320 (i : grid0.Coords) (h : k0_cond1 i = 1#1) (X : Ins F) : Vec F S1x1x1x64x2048 .f32 := View.ld X.x16 (Rect.unit (s := S1x2x8x64x2048) ![0, 1, 6, 0, 0] S1x1x1x64x2048.size inb_S1x2x8x64x2048_S1x1x1x64x2048_0_1_6_0_0)
def A.v332 (i : grid0.Coords) (h : k0_cond1 i = 1#1) (X : Ins F) : Vec F S1x1x1x64x2048 .f32 := View.ld X.x16 (Rect.unit (s := S1x2x8x64x2048) ![0, 1, 7, 0, 0] S1x1x1x64x2048.size inb_S1x2x8x64x2048_S1x1x1x64x2048_0_1_7_0_0)
def A.p22_0 (i : grid0.Coords) (h : k0_cond1 i = 1#1) (X : Ins F) : Vec F S1x512 .f32 := k0_pay63 (A.v9 i h X) (A.v211 i h X) (A.v216 i h X) (A.v249 i h X) (A.v282 i h X) (A.v314 i h X) (A.v320 i h X) (A.v332 i h X)
def A.v353 (i : grid0.Coords) (h : k0_cond1 i = 1#1) (X : Ins F) : Vec F S1x512 .f32 := View.ld X.x12 (Rect.unit (s := S32x512) (k0_off1 i) S1x512.size (k0_off1_inb i h))
def A.v355 (i : grid0.Coords) (h : k0_cond1 i = 1#1) (X : Ins F) : Vec F S1x512 .f32 := View.ld X.x13 (Rect.unit (s := S32x512) (k0_off1 i) S1x512.size (k0_off1_inb i h))
def A.v357 (i : grid0.Coords) (h : k0_cond1 i = 1#1) (X : Ins F) : Vec F S1x512 .f32 := View.ld X.x14 (Rect.unit (s := S32x512) (k0_off1 i) S1x512.size (k0_off1_inb i h))
def A.v359 (i : grid0.Coords) (h : k0_cond1 i = 1#1) (X : Ins F) : Vec F S1x512 .f32 := View.ld X.x15 (Rect.unit (s := S32x512) (k0_off1 i) S1x512.size (k0_off1_inb i h))
def A.v363 (i : grid0.Coords) (h : k0_cond1 i = 1#1) (X : Ins F) : Vec F S1x1x128x128 .f32 := View.ld X.x17 (Rect.unit (s := S1x4x128x128) ![0, 0, 0, 0] S1x1x128x128.size inb_S1x4x128x128_S1x1x128x128_0_0_0_0)
def A.p24_0 (i : grid0.Coords) (h : k0_cond1 i = 1#1) (X : Ins F) : Vec F S1x1x128x128 .f32 := k0_pay68 (A.v355 i h X) (A.v357 i h X) (A.v363 i h X)
def A.cst_134 (i : grid0.Coords) (h : k0_cond1 i = 1#1) (X : Ins F) : F .f32 := Scalar.ofBits .f32 0x43000000#32
def A.v378 (i : grid0.Coords) (h : k0_cond1 i = 1#1) (X : Ins F) : FVec F S1x128 .f32 := k0_pay67 (A.v353 i h X) (A.v355 i h X) (A.v357 i h X) (A.v363 i h X)
def A.v390 (i : grid0.Coords) (h : k0_cond1 i = 1#1) (X : Ins F) : FVec F S1x128 .f32 := k0_pay69 (A.v359 i h X)
def A.v394 (i : grid0.Coords) (h : k0_cond1 i = 1#1) (X : Ins F) : FVec F S1x1 .f32 := k0_pay70 (A.v353 i h X) (A.v355 i h X) (A.v357 i h X) (A.v363 i h X)
def A.v399 (i : grid0.Coords) (h : k0_cond1 i = 1#1) (X : Ins F) : FVec F S1x1 .f32 := k0_pay71 (A.v353 i h X) (A.v355 i h X) (A.v357 i h X) (A.v363 i h X)
def A.v415 (i : grid0.Coords) (h : k0_cond1 i = 1#1) (X : Ins F) : Vec F S1x1x128x128 .f32 := View.ld X.x17 (Rect.unit (s := S1x4x128x128) ![0, 1, 0, 0] S1x1x128x128.size inb_S1x4x128x128_S1x1x128x128_0_1_0_0)
def A.p24_1 (i : grid0.Coords) (h : k0_cond1 i = 1#1) (X : Ins F) : Vec F S1x1x128x128 .f32 := k0_pay77 (A.v355 i h X) (A.v357 i h X) (A.v415 i h X)
def A.v411 (i : grid0.Coords) (h : k0_cond1 i = 1#1) (X : Ins F) : FVec F S1x128 .f32 := k0_pay72 (A.v378 i h X) (A.v390 i h X) (A.v394 i h X) (A.v399 i h X) (A.cst_134 i h X)
def A.v430 (i : grid0.Coords) (h : k0_cond1 i = 1#1) (X : Ins F) : FVec F S1x128 .f32 := k0_pay76 (A.v353 i h X) (A.v355 i h X) (A.v357 i h X) (A.v415 i h X)
def A.v442 (i : grid0.Coords) (h : k0_cond1 i = 1#1) (X : Ins F) : FVec F S1x128 .f32 := k0_pay78 (A.v359 i h X)
def A.v444 (i : grid0.Coords) (h : k0_cond1 i = 1#1) (X : Ins F) : FVec F S1x1 .f32 := k0_pay79 (A.v353 i h X) (A.v355 i h X) (A.v357 i h X) (A.v415 i h X)
def A.v467 (i : grid0.Coords) (h : k0_cond1 i = 1#1) (X : Ins F) : Vec F S1x1x128x128 .f32 := View.ld X.x17 (Rect.unit (s := S1x4x128x128) ![0, 2, 0, 0] S1x1x128x128.size inb_S1x4x128x128_S1x1x128x128_0_2_0_0)
def A.v463 (i : grid0.Coords) (h : k0_cond1 i = 1#1) (X : Ins F) : FVec F S1x128 .f32 := k0_pay80 (A.v430 i h X) (A.v442 i h X) (A.v444 i h X)
def A.v482 (i : grid0.Coords) (h : k0_cond1 i = 1#1) (X : Ins F) : FVec F S1x128 .f32 := k0_pay84 (A.v353 i h X) (A.v355 i h X) (A.v357 i h X) (A.v467 i h X)
def A.v490 (i : grid0.Coords) (h : k0_cond1 i = 1#1) (X : Ins F) : FVec F S128x128 .f32 := k0_pay85 (A.v355 i h X) (A.v357 i h X) (A.v467 i h X)
def A.p24_2 (i : grid0.Coords) (h : k0_cond1 i = 1#1) (X : Ins F) : Vec F S1x1x128x128 .f32 := k0_pay86 (A.v490 i h X)
def A.v519 (i : grid0.Coords) (h : k0_cond1 i = 1#1) (X : Ins F) : Vec F S1x1x128x128 .f32 := View.ld X.x17 (Rect.unit (s := S1x4x128x128) ![0, 3, 0, 0] S1x1x128x128.size inb_S1x4x128x128_S1x1x128x128_0_3_0_0)
def A.cst_177 (i : grid0.Coords) (h : k0_cond1 i = 1#1) (X : Ins F) : F .f32 := Scalar.ofBits .f32 0x3F7F0000#32
def A.v515 (i : grid0.Coords) (h : k0_cond1 i = 1#1) (X : Ins F) : FVec F S1x128 .f32 := k0_pay87 (A.v359 i h X) (A.v482 i h X)
def A.v517 (i : grid0.Coords) (h : k0_cond1 i = 1#1) (X : Ins F) : FVec F S1x128 .f32 := k0_pay88 (A.v355 i h X)
def A.v518 (i : grid0.Coords) (h : k0_cond1 i = 1#1) (X : Ins F) : FVec F S1x128 .f32 := k0_pay89 (A.v357 i h X)
def A.v520 (i : grid0.Coords) (h : k0_cond1 i = 1#1) (X : Ins F) : FVec F S128x128 .f32 := k0_pay90 (A.v519 i h X)
def A.v534 (i : grid0.Coords) (h : k0_cond1 i = 1#1) (X : Ins F) : FVec F S1x128 .f32 := k0_pay91 (A.v353 i h X) (A.v355 i h X) (A.v357 i h X) (A.v519 i h X)
def A.p24_3 (i : grid0.Coords) (h : k0_cond1 i = 1#1) (X : Ins F) : Vec F S1x1x128x128 .f32 := k0_pay92 (A.v517 i h X) (A.v518 i h X) (A.v520 i h X) (A.cst_177 i h X)
def A.p23_0 (i : grid0.Coords) (h : k0_cond1 i = 1#1) (X : Ins F) : Vec F S1x512 .f32 := k0_pay93 (A.v359 i h X) (A.v411 i h X) (A.v463 i h X) (A.v515 i h X) (A.v534 i h X)
def A.v571 (i : grid0.Coords) (h : k0_cond1 i = 1#1) (X : Ins F) : Vec F S256x512 .bf16 := View.ld X.x1 (Rect.unit (s := S512x512) ![0, 0] S256x512.size inb_S512x512_S256x512_0_0)
def A.v572 (i : grid0.Coords) (h : k0_cond1 i = 1#1) (X : Ins F) : Vec F S512x1024 .bf16 := View.ld X.x3 (Rect.unit (s := S1024x1024) ![0, 0] S512x1024.size inb_S1024x1024_S512x1024_0_0)
def A.v574 (i : grid0.Coords) (h : k0_cond1 i = 1#1) (X : Ins F) : Vec F S256x512 .bf16 := View.ld X.x2 (Rect.unit (s := S512x512) ![0, 0] S256x512.size inb_S512x512_S256x512_0_0)
def A.v573 (i : grid0.Coords) (h : k0_cond1 i = 1#1) (X : Ins F) : FVec F S256x1024 .f32 := k0_pay94 (A.v571 i h X) (A.v572 i h X)
def A.v575 (i : grid0.Coords) (h : k0_cond1 i = 1#1) (X : Ins F) : Vec F S512x1024 .bf16 := View.ld X.x3 (Rect.unit (s := S1024x1024) ![512, 0] S512x1024.size inb_S1024x1024_S512x1024_512_0)
def A.v578 (i : grid0.Coords) (h : k0_cond1 i = 1#1) (X : Ins F) : Vec F S256x512 .bf16 := View.ld X.x1 (Rect.unit (s := S512x512) ![256, 0] S256x512.size inb_S512x512_S256x512_256_0)
def A.v579 (i : grid0.Coords) (h : k0_cond1 i = 1#1) (X : Ins F) : Vec F S512x1024 .bf16 := View.ld X.x3 (Rect.unit (s := S1024x1024) ![0, 0] S512x1024.size inb_S1024x1024_S512x1024_0_0)
def A.v581 (i : grid0.Coords) (h : k0_cond1 i = 1#1) (X : Ins F) : Vec F S256x512 .bf16 := View.ld X.x2 (Rect.unit (s := S512x512) ![256, 0] S256x512.size inb_S512x512_S256x512_256_0)
def A.v582 (i : grid0.Coords) (h : k0_cond1 i = 1#1) (X : Ins F) : Vec F S512x1024 .bf16 := View.ld X.x3 (Rect.unit (s := S1024x1024) ![512, 0] S512x1024.size inb_S1024x1024_S512x1024_512_0)
def A.v585 (i : grid0.Coords) (h : k0_cond1 i = 1#1) (X : Ins F) : Vec F S256x1024 .f32 := View.ld X.x0 (Rect.unit (s := S512x1024) ![0, 0] S256x1024.size inb_S512x1024_S256x1024_0_0)
def A.v589 (i : grid0.Coords) (h : k0_cond1 i = 1#1) (X : Ins F) : Vec F S1x1024 .f32 := View.ld X.x4 (Rect.unit (s := S1x1024) ![0, 0] S1x1024.size inb_S1x1024_S1x1024_0_0)
def A.v591 (i : grid0.Coords) (h : k0_cond1 i = 1#1) (X : Ins F) : Vec F S1x1024 .f32 := View.ld X.x5 (Rect.unit (s := S1x1024) ![0, 0] S1x1024.size inb_S1x1024_S1x1024_0_0)
def A.v584 (i : grid0.Coords) (h : k0_cond1 i = 1#1) (X : Ins F) : FVec F S256x1024 .f32 := k0_pay95 (A.v578 i h X) (A.v579 i h X) (A.v581 i h X) (A.v582 i h X)
def A.v590 (i : grid0.Coords) (h : k0_cond1 i = 1#1) (X : Ins F) : FVec F S1x1024 .f32 := k0_pay96 (A.v589 i h X)
def A.v592 (i : grid0.Coords) (h : k0_cond1 i = 1#1) (X : Ins F) : FVec F S1x1024 .f32 := k0_pay97 (A.v591 i h X)
def A.v610 (i : grid0.Coords) (h : k0_cond1 i = 1#1) (X : Ins F) : FVec F S256x1024 .f32 := k0_pay98 (A.v573 i h X) (A.v574 i h X) (A.v575 i h X) (A.v585 i h X)
def A.v617 (i : grid0.Coords) (h : k0_cond1 i = 1#1) (X : Ins F) : Vec F S1024x1024 .bf16 := View.ld X.x6 (Rect.unit (s := S1024x4096) ![0, 0] S1024x1024.size inb_S1024x4096_S1024x1024_0_0)
def A.v623 (i : grid0.Coords) (h : k0_cond1 i = 1#1) (X : Ins F) : Vec F S1024x1024 .bf16 := View.ld X.x6 (Rect.unit (s := S1024x4096) ![0, 1024] S1024x1024.size inb_S1024x4096_S1024x1024_0_1024)
def A.v629 (i : grid0.Coords) (h : k0_cond1 i = 1#1) (X : Ins F) : Vec F S1024x1024 .bf16 := View.ld X.x7 (Rect.unit (s := S4096x1024) ![0, 0] S1024x1024.size inb_S4096x1024_S1024x1024_0_0)
def A.v632 (i : grid0.Coords) (h : k0_cond1 i = 1#1) (X : Ins F) : Vec F S1024x1024 .bf16 := View.ld X.x6 (Rect.unit (s := S1024x4096) ![0, 2048] S1024x1024.size inb_S1024x4096_S1024x1024_0_2048)
def A.v638 (i : grid0.Coords) (h : k0_cond1 i = 1#1) (X : Ins F) : Vec F S1024x1024 .bf16 := View.ld X.x7 (Rect.unit (s := S4096x1024) ![1024, 0] S1024x1024.size inb_S4096x1024_S1024x1024_1024_0)
def A.v641 (i : grid0.Coords) (h : k0_cond1 i = 1#1) (X : Ins F) : Vec F S1024x1024 .bf16 := View.ld X.x6 (Rect.unit (s := S1024x4096) ![0, 3072] S1024x1024.size inb_S1024x4096_S1024x1024_0_3072)
def A.v614 (i : grid0.Coords) (h : k0_cond1 i = 1#1) (X : Ins F) : FVec F S256x1024 .f32 := k0_pay99 (A.v590 i h X) (A.v592 i h X) (A.v610 i h X)
def A.v637 (i : grid0.Coords) (h : k0_cond1 i = 1#1) (X : Ins F) : FVec F S256x1024 .bf16 := k0_pay101 (A.v590 i h X) (A.v592 i h X) (A.v610 i h X) (A.v632 i h X)
def A.v640 (i : grid0.Coords) (h : k0_cond1 i = 1#1) (X : Ins F) : FVec F S256x1024 .f32 := k0_pay102 (A.v590 i h X) (A.v592 i h X) (A.v610 i h X) (A.v617 i h X) (A.v623 i h X) (A.v629 i h X) (A.v638 i h X)
def A.v646 (i : grid0.Coords) (h : k0_cond1 i = 1#1) (X : Ins F) : FVec F S256x1024 .bf16 := k0_pay103 (A.v590 i h X) (A.v592 i h X) (A.v610 i h X) (A.v641 i h X)
def A.v647 (i : grid0.Coords) (h : k0_cond1 i = 1#1) (X : Ins F) : Vec F S1024x1024 .bf16 := View.ld X.x7 (Rect.unit (s := S4096x1024) ![2048, 0] S1024x1024.size inb_S4096x1024_S1024x1024_2048_0)
def A.v650 (i : grid0.Coords) (h : k0_cond1 i = 1#1) (X : Ins F) : Vec F S1024x1024 .bf16 := View.ld X.x7 (Rect.unit (s := S4096x1024) ![3072, 0] S1024x1024.size inb_S4096x1024_S1024x1024_3072_0)
def A.v656 (i : grid0.Coords) (h : k0_cond1 i = 1#1) (X : Ins F) : Vec F S1x1024 .f32 := View.ld X.x8 (Rect.unit (s := S1x1024) ![0, 0] S1x1024.size inb_S1x1024_S1x1024_0_0)
def A.v658 (i : grid0.Coords) (h : k0_cond1 i = 1#1) (X : Ins F) : Vec F S1x1024 .f32 := View.ld X.x9 (Rect.unit (s := S1x1024) ![0, 0] S1x1024.size inb_S1x1024_S1x1024_0_0)
def A.p21_0 (i : grid0.Coords) (h : k0_cond1 i = 1#1) (X : Ins F) : Vec F S256x1024 .f32 := k0_pay104 (A.v614 i h X) (A.v637 i h X) (A.v640 i h X) (A.v646 i h X) (A.v647 i h X) (A.v650 i h X) (A.v656 i h X) (A.v658 i h X)
def A.v683 (i : grid0.Coords) (h : k0_cond1 i = 1#1) (X : Ins F) : Vec F S256x1024 .f32 := View.ld X.x0 (Rect.unit (s := S512x1024) ![256, 0] S256x1024.size inb_S512x1024_S256x1024_256_0)
def A.v685 (i : grid0.Coords) (h : k0_cond1 i = 1#1) (X : Ins F) : FVec F S256x1024 .f32 := k0_pay105 (A.v683 i h X)
def A.v687 (i : grid0.Coords) (h : k0_cond1 i = 1#1) (X : Ins F) : Vec F S1x1024 .f32 := View.ld X.x4 (Rect.unit (s := S1x1024) ![0, 0] S1x1024.size inb_S1x1024_S1x1024_0_0)
def A.v689 (i : grid0.Coords) (h : k0_cond1 i = 1#1) (X : Ins F) : Vec F S1x1024 .f32 := View.ld X.x5 (Rect.unit (s := S1x1024) ![0, 0] S1x1024.size inb_S1x1024_S1x1024_0_0)
def A.v715 (i : grid0.Coords) (h : k0_cond1 i = 1#1) (X : Ins F) : Vec F S1024x1024 .bf16 := View.ld X.x6 (Rect.unit (s := S1024x4096) ![0, 0] S1024x1024.size inb_S1024x4096_S1024x1024_0_0)
def A.v721 (i : grid0.Coords) (h : k0_cond1 i = 1#1) (X : Ins F) : Vec F S1024x1024 .bf16 := View.ld X.x6 (Rect.unit (s := S1024x4096) ![0, 1024] S1024x1024.size inb_S1024x4096_S1024x1024_0_1024)
def A.v712 (i : grid0.Coords) (h : k0_cond1 i = 1#1) (X : Ins F) : FVec F S256x1024 .f32 := k0_pay106 (A.v584 i h X) (A.v685 i h X) (A.v687 i h X) (A.v689 i h X)
def A.v713 (i : grid0.Coords) (h : k0_cond1 i = 1#1) (X : Ins F) : FVec F S256x1024 .bf16 := k0_pay107 (A.v584 i h X) (A.v685 i h X) (A.v687 i h X) (A.v689 i h X)
def A.v714 (i : grid0.Coords) (h : k0_cond1 i = 1#1) (X : Ins F) : FVec F S256x1024 .f32 := k0_pay108
def A.v720 (i : grid0.Coords) (h : k0_cond1 i = 1#1) (X : Ins F) : FVec F S256x1024 .bf16 := k0_pay109 (A.v584 i h X) (A.v685 i h X) (A.v687 i h X) (A.v689 i h X) (A.v715 i h X)
def A.v726 (i : grid0.Coords) (h : k0_cond1 i = 1#1) (X : Ins F) : FVec F S256x1024 .bf16 := k0_pay110 (A.v584 i h X) (A.v685 i h X) (A.v687 i h X) (A.v689 i h X) (A.v721 i h X)
def A.v727 (i : grid0.Coords) (h : k0_cond1 i = 1#1) (X : Ins F) : Vec F S1024x1024 .bf16 := View.ld X.x7 (Rect.unit (s := S4096x1024) ![0, 0] S1024x1024.size inb_S4096x1024_S1024x1024_0_0)
def A.v730 (i : grid0.Coords) (h : k0_cond1 i = 1#1) (X : Ins F) : Vec F S1024x1024 .bf16 := View.ld X.x6 (Rect.unit (s := S1024x4096) ![0, 2048] S1024x1024.size inb_S1024x4096_S1024x1024_0_2048)
def A.v736 (i : grid0.Coords) (h : k0_cond1 i = 1#1) (X : Ins F) : Vec F S1024x1024 .bf16 := View.ld X.x7 (Rect.unit (s := S4096x1024) ![1024, 0] S1024x1024.size inb_S4096x1024_S1024x1024_1024_0)
def A.v739 (i : grid0.Coords) (h : k0_cond1 i = 1#1) (X : Ins F) : Vec F S1024x1024 .bf16 := View.ld X.x6 (Rect.unit (s := S1024x4096) ![0, 3072] S1024x1024.size inb_S1024x4096_S1024x1024_0_3072)
def A.v745 (i : grid0.Coords) (h : k0_cond1 i = 1#1) (X : Ins F) : Vec F S1024x1024 .bf16 := View.ld X.x7 (Rect.unit (s := S4096x1024) ![2048, 0] S1024x1024.size inb_S4096x1024_S1024x1024_2048_0)
def A.v748 (i : grid0.Coords) (h : k0_cond1 i = 1#1) (X : Ins F) : Vec F S1024x1024 .bf16 := View.ld X.x7 (Rect.unit (s := S4096x1024) ![3072, 0] S1024x1024.size inb_S4096x1024_S1024x1024_3072_0)
def A.v754 (i : grid0.Coords) (h : k0_cond1 i = 1#1) (X : Ins F) : Vec F S1x1024 .f32 := View.ld X.x8 (Rect.unit (s := S1x1024) ![0, 0] S1x1024.size inb_S1x1024_S1x1024_0_0)
def A.v756 (i : grid0.Coords) (h : k0_cond1 i = 1#1) (X : Ins F) : Vec F S1x1024 .f32 := View.ld X.x9 (Rect.unit (s := S1x1024) ![0, 0] S1x1024.size inb_S1x1024_S1x1024_0_0)
def A.v753 (i : grid0.Coords) (h : k0_cond1 i = 1#1) (X : Ins F) : FVec F S256x1024 .f32 := k0_pay111 (A.v712 i h X) (A.v713 i h X) (A.v714 i h X) (A.v720 i h X) (A.v726 i h X) (A.v727 i h X) (A.v730 i h X) (A.v736 i h X) (A.v739 i h X) (A.v745 i h X) (A.v748 i h X)
def A.v755 (i : grid0.Coords) (h : k0_cond1 i = 1#1) (X : Ins F) : FVec F S1x1024 .f32 := k0_pay112 (A.v754 i h X)
def A.v757 (i : grid0.Coords) (h : k0_cond1 i = 1#1) (X : Ins F) : FVec F S1x1024 .f32 := k0_pay113 (A.v756 i h X)
def A.v759 (i : grid0.Coords) (h : k0_cond1 i = 1#1) (X : Ins F) : FVec F S256x1 .f32 := k0_pay114 (A.v712 i h X) (A.v713 i h X) (A.v714 i h X) (A.v720 i h X) (A.v726 i h X) (A.v727 i h X) (A.v730 i h X) (A.v736 i h X) (A.v739 i h X) (A.v745 i h X) (A.v748 i h X)
def A.v760 (i : grid0.Coords) (h : k0_cond1 i = 1#1) (X : Ins F) : FVec F S256x1 .f32 := k0_pay115 (F := F)
def A.p21_1 (i : grid0.Coords) (h : k0_cond1 i = 1#1) (X : Ins F) : Vec F S256x1024 .f32 := k0_pay1 (A.v753 i h X) (A.v755 i h X) (A.v757 i h X) (A.v759 i h X) (A.v760 i h X)
def B.v6 (X : Ins F) (Y22 Y23 : Vec F S32x512 .f32) : Vec F S32x512 .f32 := View.ld Y22 (Rect.unit (s := S32x512) ![0, 0] S32x512.size inb_S32x512_S32x512_0_0)
def B.v9 (X : Ins F) (Y22 Y23 : Vec F S32x512 .f32) : Vec F S512x1024 .bf16 := View.ld X.x3 (Rect.unit (s := S1024x1024) ![0, 0] S512x1024.size inb_S1024x1024_S512x1024_0_0)
def B.v11 (X : Ins F) (Y22 Y23 : Vec F S32x512 .f32) : Vec F S32x512 .f32 := View.ld Y23 (Rect.unit (s := S32x512) ![0, 0] S32x512.size inb_S32x512_S32x512_0_0)
def B.v14 (X : Ins F) (Y22 Y23 : Vec F S32x512 .f32) : Vec F S512x1024 .bf16 := View.ld X.x3 (Rect.unit (s := S1024x1024) ![512, 0] S512x1024.size inb_S1024x1024_S512x1024_512_0)
def B.v17 (X : Ins F) (Y22 Y23 : Vec F S32x512 .f32) : Vec F S32x1024 .f32 := View.ld X.x20 (Rect.unit (s := S32x1024) ![0, 0] S32x1024.size inb_S32x1024_S32x1024_0_0)
def B.v21 (X : Ins F) (Y22 Y23 : Vec F S32x512 .f32) : Vec F S1x1024 .f32 := View.ld X.x4 (Rect.unit (s := S1x1024) ![0, 0] S1x1024.size inb_S1x1024_S1x1024_0_0)
def B.v23 (X : Ins F) (Y22 Y23 : Vec F S32x512 .f32) : Vec F S1x1024 .f32 := View.ld X.x5 (Rect.unit (s := S1x1024) ![0, 0] S1x1024.size inb_S1x1024_S1x1024_0_0)
def B.v24 (X : Ins F) (Y22 Y23 : Vec F S32x512 .f32) : FVec F S1x1024 .f32 := k0_pay116 (B.v23 X Y22 Y23)
def B.v42 (X : Ins F) (Y22 Y23 : Vec F S32x512 .f32) : FVec F S32x1024 .f32 := k0_pay117 (B.v6 X Y22 Y23) (B.v9 X Y22 Y23) (B.v11 X Y22 Y23) (B.v14 X Y22 Y23) (B.v17 X Y22 Y23)
def B.v43 (X : Ins F) (Y22 Y23 : Vec F S32x512 .f32) : FVec F S32x1024 .f32 := k0_pay118 (B.v21 X Y22 Y23)
def B.v49 (X : Ins F) (Y22 Y23 : Vec F S32x512 .f32) : Vec F S1024x1024 .bf16 := View.ld X.x6 (Rect.unit (s := S1024x4096) ![0, 0] S1024x1024.size inb_S1024x4096_S1024x1024_0_0)
def B.v55 (X : Ins F) (Y22 Y23 : Vec F S32x512 .f32) : Vec F S1024x1024 .bf16 := View.ld X.x6 (Rect.unit (s := S1024x4096) ![0, 1024] S1024x1024.size inb_S1024x4096_S1024x1024_0_1024)
def B.v61 (X : Ins F) (Y22 Y23 : Vec F S32x512 .f32) : Vec F S1024x1024 .bf16 := View.ld X.x7 (Rect.unit (s := S4096x1024) ![0, 0] S1024x1024.size inb_S4096x1024_S1024x1024_0_0)
def B.v64 (X : Ins F) (Y22 Y23 : Vec F S32x512 .f32) : Vec F S1024x1024 .bf16 := View.ld X.x6 (Rect.unit (s := S1024x4096) ![0, 2048] S1024x1024.size inb_S1024x4096_S1024x1024_0_2048)
def B.v70 (X : Ins F) (Y22 Y23 : Vec F S32x512 .f32) : Vec F S1024x1024 .bf16 := View.ld X.x7 (Rect.unit (s := S4096x1024) ![1024, 0] S1024x1024.size inb_S4096x1024_S1024x1024_1024_0)
def B.v73 (X : Ins F) (Y22 Y23 : Vec F S32x512 .f32) : Vec F S1024x1024 .bf16 := View.ld X.x6 (Rect.unit (s := S1024x4096) ![0, 3072] S1024x1024.size inb_S1024x4096_S1024x1024_0_3072)
def B.v46 (X : Ins F) (Y22 Y23 : Vec F S32x512 .f32) : FVec F S32x1024 .f32 := k0_pay119 (B.v24 X Y22 Y23) (B.v42 X Y22 Y23) (B.v43 X Y22 Y23)
def B.v69 (X : Ins F) (Y22 Y23 : Vec F S32x512 .f32) : FVec F S32x1024 .bf16 := k0_pay121 (B.v24 X Y22 Y23) (B.v42 X Y22 Y23) (B.v43 X Y22 Y23) (B.v64 X Y22 Y23)
def B.v72 (X : Ins F) (Y22 Y23 : Vec F S32x512 .f32) : FVec F S32x1024 .f32 := k0_pay122 (B.v24 X Y22 Y23) (B.v42 X Y22 Y23) (B.v43 X Y22 Y23) (B.v49 X Y22 Y23) (B.v55 X Y22 Y23) (B.v61 X Y22 Y23) (B.v70 X Y22 Y23)
def B.v78 (X : Ins F) (Y22 Y23 : Vec F S32x512 .f32) : FVec F S32x1024 .bf16 := k0_pay123 (B.v24 X Y22 Y23) (B.v42 X Y22 Y23) (B.v43 X Y22 Y23) (B.v73 X Y22 Y23)
def B.v79 (X : Ins F) (Y22 Y23 : Vec F S32x512 .f32) : Vec F S1024x1024 .bf16 := View.ld X.x7 (Rect.unit (s := S4096x1024) ![2048, 0] S1024x1024.size inb_S4096x1024_S1024x1024_2048_0)
def B.v82 (X : Ins F) (Y22 Y23 : Vec F S32x512 .f32) : Vec F S1024x1024 .bf16 := View.ld X.x7 (Rect.unit (s := S4096x1024) ![3072, 0] S1024x1024.size inb_S4096x1024_S1024x1024_3072_0)
def B.v88 (X : Ins F) (Y22 Y23 : Vec F S32x512 .f32) : Vec F S1x1024 .f32 := View.ld X.x8 (Rect.unit (s := S1x1024) ![0, 0] S1x1024.size inb_S1x1024_S1x1024_0_0)
def B.v90 (X : Ins F) (Y22 Y23 : Vec F S32x512 .f32) : Vec F S1x1024 .f32 := View.ld X.x9 (Rect.unit (s := S1x1024) ![0, 0] S1x1024.size inb_S1x1024_S1x1024_0_0)
def B.p25_0 (X : Ins F) (Y22 Y23 : Vec F S32x512 .f32) : Vec F S32x1024 .f32 := k0_pay2 (B.v46 X Y22 Y23) (B.v69 X Y22 Y23) (B.v72 X Y22 Y23) (B.v78 X Y22 Y23) (B.v79 X Y22 Y23) (B.v82 X Y22 Y23) (B.v88 X Y22 Y23) (B.v90 X Y22 Y23)
/-- What the branch stores into window 22, last first. -/
def A.L22 (i : grid0.Coords) (h : k0_cond1 i = 1#1) (X : Ins F) : List (View.Piece (Elt F) S32x512 .f32) :=
  [⟨Rect.unit (s := S32x512) (k0_off1 i) S1x512.size (k0_off1_inb i h), A.p22_0 i h X⟩]
/-- What the branch stores into window 24, last first. -/
def A.L24 (i : grid0.Coords) (h : k0_cond1 i = 1#1) (X : Ins F) : List (View.Piece (Elt F) S1x4x128x128 .f32) :=
  [⟨Rect.unit (s := S1x4x128x128) ![0, 3, 0, 0] S1x1x128x128.size inb_S1x4x128x128_S1x1x128x128_0_3_0_0, A.p24_3 i h X⟩,
    ⟨Rect.unit (s := S1x4x128x128) ![0, 2, 0, 0] S1x1x128x128.size inb_S1x4x128x128_S1x1x128x128_0_2_0_0, A.p24_2 i h X⟩,
    ⟨Rect.unit (s := S1x4x128x128) ![0, 1, 0, 0] S1x1x128x128.size inb_S1x4x128x128_S1x1x128x128_0_1_0_0, A.p24_1 i h X⟩,
    ⟨Rect.unit (s := S1x4x128x128) ![0, 0, 0, 0] S1x1x128x128.size inb_S1x4x128x128_S1x1x128x128_0_0_0_0, A.p24_0 i h X⟩]
/-- What the branch stores into window 23, last first. -/
def A.L23 (i : grid0.Coords) (h : k0_cond1 i = 1#1) (X : Ins F) : List (View.Piece (Elt F) S32x512 .f32) :=
  [⟨Rect.unit (s := S32x512) (k0_off1 i) S1x512.size (k0_off1_inb i h), A.p23_0 i h X⟩]
/-- What the branch stores into window 21, last first. -/
def A.L21 (i : grid0.Coords) (h : k0_cond1 i = 1#1) (X : Ins F) : List (View.Piece (Elt F) S512x1024 .f32) :=
  [⟨Rect.unit (s := S512x1024) ![256, 0] S256x1024.size inb_S512x1024_S256x1024_256_0, A.p21_1 i h X⟩,
    ⟨Rect.unit (s := S512x1024) ![0, 0] S256x1024.size inb_S512x1024_S256x1024_0_0, A.p21_0 i h X⟩]
/-- What the branch stores into window 25, last first. -/
def B.L25 (X : Ins F) (Y22 Y23 : Vec F S32x512 .f32) : List (View.Piece (Elt F) S32x1024 .f32) :=
  [⟨Rect.unit (s := S32x1024) ![0, 0] S32x1024.size inb_S32x1024_S32x1024_0_0, B.p25_0 X Y22 Y23⟩]

end Cert.KernelIdeal.Mix

end
-- ==== Proof.Data.lean ====
module

public import proofs.«01_k».proof.Proof.Gen.KernelIdeal.Frame
public import proofs.«01_k».proof.Proof.Vals
public import Idealize.ShloMosaic.Lib.Pipeline.DatRel
public import Idealize.ShloMosaic.Lib.Pipeline.ArrRel
public import Idealize.ShloMosaic.Lib.Claim
public import Idealize.ShloMosaic.Lib.WritesUnit
public import Idealize.ShloMosaic.Lib.Pointwise.Index

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes, as functions of the argument arrays -/

/-- The input blocks of grid point `t`. -/
def ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t
  x18 := iblk m c 18 t
  x19 := iblk m c 19 t
  x20 := iblk m c 20 t

/-- The grid point of sample token `u`. -/
def tokPt (u : Fin 32) : Fin cfg0.N := ⟨u.val, lt_trans u.isLt (by rw [show cfg0.N = 33 from N_0]; decide)⟩

theorem isTok_tokPt (u : Fin 32) : isTok (grid0.coords (tokPt u)) := (isTok_iff (tokPt u)).2 u.isLt

/-- The last grid point. -/
def lastPt : Fin cfg0.N := ⟨32, by rw [show cfg0.N = 33 from N_0]; decide⟩

theorem isLast_lastPt : isLast (grid0.coords lastPt) := (isLast_iff lastPt).2 rfl

/-- The token whose values the blocks written back by point `t` hold: its own, and the last token's after the last token. -/
def tokOf (n : ℕ) : Fin 32 := ⟨min n 31, by omega⟩

theorem tokPt_tokOf (t : Fin cfg0.N) (h : t.val < 32) : tokPt (tokOf t.val) = t := by
  apply Fin.ext; show min t.val 31 = t.val; omega

/-- The prompt rows that token `u`'s point stores. -/
def rowsY (c : Dev nD) (u : Fin 32) : Vec F S512x1024 .f32 := View.canon (A.L21 (grid0.coords (tokPt u)) (isTok_tokPt u) (ins m c (tokPt u)))

/-- The retention state that token `u`'s point stores. -/
def stBlk (c : Dev nD) (u : Fin 32) : Vec F S1x4x128x128 .f32 := View.canon (A.L24 (grid0.coords (tokPt u)) (isTok_tokPt u) (ins m c (tokPt u)))

/-- The attention output of token `u`, one row. -/
def attRow (c : Dev nD) (u : Fin 32) : Vec F S1x512 .f32 := A.p22_0 (grid0.coords (tokPt u)) (isTok_tokPt u) (ins m c (tokPt u))

/-- The retention output of token `u`, one row. -/
def retRow (c : Dev nD) (u : Fin 32) : Vec F S1x512 .f32 := A.p23_0 (grid0.coords (tokPt u)) (isTok_tokPt u) (ins m c (tokPt u))

/-- The attention outputs of all sample tokens. -/
def attRows (c : Dev nD) : Vec F S32x512 .f32 := fun j => attRow m c (j 0) (ix2 0 (j 1))

/-- The retention outputs of all sample tokens. -/
def retRows (c : Dev nD) : Vec F S32x512 .f32 := fun j => retRow m c (j 0) (ix2 0 (j 1))

/-- The output rows of the sample tokens. -/
def rowsS (c : Dev nD) : Vec F S32x1024 .f32 := B.p25_0 (ins m c lastPt) (attRows m c) (retRows m c)

/-! ## What each output buffer holds after a point -/

/-- The outputs, which the certificate describes by a predicate. -/
def fgt0 : Fin 26 → Bool := fun w => w.val == 21 || w.val == 22 || w.val == 23 || w.val == 24 || w.val == 25

/-- What output `w`'s buffer satisfies after point `t`. -/
def Rl (c : Dev nD) : (w : Fin cfg0.W) → Fin cfg0.N → ((cfg0.win w).block.Idx → Elt F (cfg0.win w).elt) → Prop := fun w => match w with
  | ⟨21, _⟩ => fun t (X : Vec F S512x1024 .f32) => X = rowsY m c (tokOf t.val)
  | ⟨22, _⟩ => fun t (X : Vec F S32x512 .f32) => ∀ j : S32x512.Idx, (j 0).val ≤ t.val → X j = attRows m c j
  | ⟨23, _⟩ => fun t (X : Vec F S32x512 .f32) => ∀ j : S32x512.Idx, (j 0).val ≤ t.val → X j = retRows m c j
  | ⟨24, _⟩ => fun t (X : Vec F S1x4x128x128 .f32) => X = stBlk m c (tokOf t.val)
  | ⟨25, _⟩ => fun t (X : Vec F S32x1024 .f32) => t.val = 32 → X = rowsS m c
  | _ => fun _ _ => True

/-- The proof data: inputs at their blocks, outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

/-- The data with every output held to its predicate. -/
def rdat (c : Dev nD) : Pipeline.RDat τ (Elt F) Unit ℕ (UR sig nD τ) ℕ cfg0 c := (dats m 0 c).toRRel fgt0 (Rl m c)

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

end Cert.KernelIdeal.Mix

end
-- ==== Proof.Ent.lean ====
module

public import proofs.«01_k».proof.Proof.Spec
public import proofs.«01_k».proof.Proof.Data
public import Idealize.ShloMosaic.Lib.Pipeline.ValueKit

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! What the host prepares for the call, read at an index. -/

theorem ent1 (c : Dev nD) (k : Fin 1024) : (show FVec Ideal S1x1024 .f32 from V m c main_v1) (ix2 0 k) = (show FVec Ideal S1x1024 .f32 from m ((c.tc : Thread nD τ).loc main_arg14)) (ix2 0 k) := by
  simp only [V, hostOps0, hostOps0_1, hostOps0_2, hostOps0_3, hostOps0_4, hostOps0_5, hostOps0_6, List.flatten_cons, List.flatten_nil, List.append_nil, List.cons_append, List.nil_append]
  entry_read
  pointwise []

theorem ent3 (c : Dev nD) (k : Fin 1024) : (show FVec Ideal S1x1024 .f32 from V m c main_v3) (ix2 0 k) = (show FVec Ideal S1x1024 .f32 from m ((c.tc : Thread nD τ).loc main_arg15)) (ix2 0 k) := by
  simp only [V, hostOps0, hostOps0_1, hostOps0_2, hostOps0_3, hostOps0_4, hostOps0_5, hostOps0_6, List.flatten_cons, List.flatten_nil, List.append_nil, List.cons_append, List.nil_append]
  entry_read
  pointwise []

theorem ent5 (c : Dev nD) (k : Fin 1024) : (show FVec Ideal S1x1024 .f32 from V m c main_v5) (ix2 0 k) = (show FVec Ideal S1x1024 .f32 from m ((c.tc : Thread nD τ).loc main_arg18)) (ix2 0 k) := by
  simp only [V, hostOps0, hostOps0_1, hostOps0_2, hostOps0_3, hostOps0_4, hostOps0_5, hostOps0_6, List.flatten_cons, List.flatten_nil, List.append_nil, List.cons_append, List.nil_append]
  entry_read
  pointwise []

theorem ent7 (c : Dev nD) (k : Fin 1024) : (show FVec Ideal S1x1024 .f32 from V m c main_v7) (ix2 0 k) = (show FVec Ideal S1x1024 .f32 from m ((c.tc : Thread nD τ).loc main_arg19)) (ix2 0 k) := by
  simp only [V, hostOps0, hostOps0_1, hostOps0_2, hostOps0_3, hostOps0_4, hostOps0_5, hostOps0_6, List.flatten_cons, List.flatten_nil, List.append_nil, List.cons_append, List.nil_append]
  entry_read
  pointwise []

theorem ent83 (c : Dev nD) (u : Fin 32) (h : Fin 4) (a b : Fin 128) : (show FVec Ideal S32x4x128x128 .f32 from V m c main_v83) (ix4 u h a b)
    = (show FVec Ideal S1x32x4x128x128 .f32 from m ((c.tc : Thread nD τ).loc main_arg11)) (ix5 0 u h a b) := by
  simp only [V, hostOps0, hostOps0_1, hostOps0_2, hostOps0_3, hostOps0_4, hostOps0_5, hostOps0_6, List.flatten_cons, List.flatten_nil, List.append_nil, List.cons_append, List.nil_append]
  entry_read
  pointwise []

theorem ent82 (c : Dev nD) (u : Fin 32) (i : Fin 2) (h : Fin 8) (e : Fin 64) (l : Fin 2048) : (show FVec Ideal S32x2x8x64x2048 .f32 from V m c main_v82) (ix5 u i h e l)
    = (show FVec Ideal S1x32x2048x2x8x64 .f32 from m ((c.tc : Thread nD τ).loc main_arg10)) (ix6 0 u l i h e) := by
  simp only [V, hostOps0, hostOps0_1, hostOps0_2, hostOps0_3, hostOps0_4, hostOps0_5, hostOps0_6, List.flatten_cons, List.flatten_nil, List.append_nil, List.cons_append, List.nil_append]
  entry_read
  pointwise []

end Cert.KernelIdeal.Mix

end
-- ==== Proof.FfnK.lean ====
module

public import proofs.«01_k».proof.Proof.Spec
public import proofs.«01_k».proof.Proof.Data

@[expose] public section

set_option maxRecDepth 16384

noncomputable section

namespace Cert.KernelIdeal.Mix

open Cert.KernelIdeal Cert.KernelIdeal.Gen Cert.Mix
open Idealize.ShloMosaic Idealize.ShloMosaic.TcCoe

/-! The feed-forward block of the kernel body, stage by stage at an index: first half of the prompt rows (`98`–`104`),
second half (`105`–`115`, `1`), sample rows (`116`–`123`, `2`). -/

/-- One hidden unit of a chunk of the up projection. -/
def hidC (x : Fin 1024 → EReal) (w : FVec Ideal S1024x1024 .bf16) (f : Fin 1024) : EReal :=
  max (∑ k, x k * w (ix2 k f)) 0 * max (∑ k, x k * w (ix2 k f)) 0

theorem pay94_at  (v571 : FVec Ideal S256x512 .bf16) (v572 : FVec Ideal S512x1024 .bf16) (r : Fin 256) (j : Fin 1024) : k0_pay94 (F := Ideal) v571 v572 (ix2 r j) = (∑ q : Fin 512, v571 (ix2 r q) * v572 (ix2 q j)) := by
  pointwise [k0_pay94]
  all_goals first | rfl | (simp only []; first | done | rfl)

theorem pay95_at  (v578 : FVec Ideal S256x512 .bf16) (v579 : FVec Ideal S512x1024 .bf16) (v581 : FVec Ideal S256x512 .bf16) (v582 : FVec Ideal S512x1024 .bf16) (r : Fin 256) (j : Fin 1024) : k0_pay95 (F := Ideal) v578 v579 v581 v582 (ix2 r j) = (∑ q : Fin 512, v578 (ix2 r q) * v579 (ix2 q j)) + (∑ q : Fin 512, v581 (ix2 r q) * v582 (ix2 q j)) := by
  pointwise [k0_pay95]
  all_goals first | rfl | (simp only []; first | done | rfl)

theorem pay96_at  (v589 : FVec Ideal S1x1024 .f32) (j : Fin 1024) : k0_pay96 (F := Ideal) v589 (ix2 0 j) = v589 (ix2 0 j) := by
  pointwise [k0_pay96]
  all_goals first | rfl | (simp only []; first | done | rfl)

theorem pay97_at  (v591 : FVec Ideal S1x1024 .f32) (j : Fin 1024) : k0_pay97 (F := Ideal) v591 (ix2 0 j) = v591 (ix2 0 j) := by
  pointwise [k0_pay97]
  all_goals first | rfl | (simp only []; first | done | rfl)

theorem pay98_at  (v573 : FVec Ideal S256x1024 .f32) (v574 : FVec Ideal S256x512 .bf16) (v575 : FVec Ideal S512x1024 .bf16) (v585 : FVec Ideal S256x1024 .f32) (r : Fin 256) (j : Fin 1024) : k0_pay98 (F := Ideal) v573 v574 v575 v585 (ix2 r j) = lnc (fun k => cAlpha * v585 (ix2 r k) + (v573 (ix2 r k) + ∑ q : Fin 512, v574 (ix2 r q) * v575 (ix2 q k))) j := by
  pointwise [k0_pay98]
  all_goals first | rfl | (simp only []; first | done | rfl)

theorem pay99_at  (v590 : FVec Ideal S1x1024 .f32) (v592 : FVec Ideal S1x1024 .f32) (v610 : FVec Ideal S256x1024 .f32) (r : Fin 256) (j : Fin 1024) : k0_pay99 (F := Ideal) v590 v592 v610 (ix2 r j) = v610 (ix2 r j) * v590 (ix2 0 j) + v592 (ix2 0 j) := by
  pointwise [k0_pay99]
  all_goals first | rfl | (simp only []; first | done | rfl)

theorem pay100_at  (v590 : FVec Ideal S1x1024 .f32) (v592 : FVec Ideal S1x1024 .f32) (v610 : FVec Ideal S256x1024 .f32) (r : Fin 256) (j : Fin 1024) : k0_pay100 (F := Ideal) v590 v592 v610 (ix2 r j) = (fun k => v610 (ix2 r k) * v590 (ix2 0 k) + v592 (ix2 0 k)) j := by
  pointwise [k0_pay100]
  all_goals first | rfl | (simp only [pay99_at]; first | done | rfl)

theorem pay101_at  (v590 : FVec Ideal S1x1024 .f32) (v592 : FVec Ideal S1x1024 .f32) (v610 : FVec Ideal S256x1024 .f32) (v632 : FVec Ideal S1024x1024 .bf16) (r : Fin 256) (j : Fin 1024) : k0_pay101 (F := Ideal) v590 v592 v610 v632 (ix2 r j) = hidC (fun k => v610 (ix2 r k) * v590 (ix2 0 k) + v592 (ix2 0 k)) v632 j := by
  pointwise [k0_pay101]
  all_goals first | rfl | (simp only [pay100_at]; first | done | rfl)

theorem pay102_at  (v590 : FVec Ideal S1x1024 .f32) (v592 : FVec Ideal S1x1024 .f32) (v610 : FVec Ideal S256x1024 .f32) (v617 : FVec Ideal S1024x1024 .bf16) (v623 : FVec Ideal S1024x1024 .bf16) (v629 : FVec Ideal S1024x1024 .bf16) (v638 : FVec Ideal S1024x1024 .bf16) (r : Fin 256) (j : Fin 1024) : k0_pay102 (F := Ideal) v590 v592 v610 v617 v623 v629 v638 (ix2 r j) = (∑ f : Fin 1024, (hidC (fun k => v610 (ix2 r k) * v590 (ix2 0 k) + v592 (ix2 0 k)) v617 f) * v629 (ix2 f j)) + ∑ f : Fin 1024, hidC (fun k => v610 (ix2 r k) * v590 (ix2 0 k) + v592 (ix2 0 k)) v623 f * v638 (ix2 f j) := by
  pointwise [k0_pay102]
  all_goals first | rfl | (simp only [pay100_at]; first | done | rfl)

theorem pay103_at  (v590 : FVec Ideal S1x1024 .f32) (v592 : FVec Ideal S1x1024 .f32) (v610 : FVec Ideal S256x1024 .f32) (v641 : FVec Ideal S1024x1024 .bf16) (r : Fin 256) (j : Fin 1024) : k0_pay103 (F := Ideal) v590 v592 v610 v641 (ix2 r j) = hidC (fun k => v610 (ix2 r k) * v590 (ix2 0 k) + v592 (ix2 0 k)) v641 j := by
  pointwise [k0_pay103]
  all_goals first | rfl | (simp only [pay100_at]; first | done | rfl)

theorem pay104_at  (v614 : FVec Ideal S256x1024 .f32) (v637 : FVec Ideal S256x1024 .bf16) (v640 : FVec Ideal S256x1024 .f32) (v646 : FVec Ideal S256x1024 .bf16) (v647 : FVec Ideal S1024x1024 .bf16) (v650 : FVec Ideal S1024x1024 .bf16) (v656 : FVec Ideal S1x1024 .f32) (v658 : FVec Ideal S1x1024 .f32) (r : Fin 256) (j : Fin 1024) : k0_pay104 (F := Ideal) v614 v637 v640 v646 v647 v650 v656 v658 (ix2 r j) = ln (fun k => cAlpha * v614 (ix2 r k) + ((v640 (ix2 r k) + ∑ f : Fin 1024, v637 (ix2 r f) * v647 (ix2 f k)) + ∑ f : Fin 1024, v646 (ix2 r f) * v650 (ix2 f k))) (fun k => v656 (ix2 0 k)) (fun k => v658 (ix2 0 k)) j := by
  pointwise [k0_pay104]
  all_goals first | rfl | (simp only []; first | done | rfl)

theorem pay105_at  (v683 : FVec Ideal S256x1024 .f32) (r : Fin 256) (j : Fin 1024) : k0_pay105 (F := Ideal) v683 (ix2 r j) = cAlpha * v683 (ix2 r j) := by
  pointwise [k0_pay105]
  all_goals first | rfl | (simp only []; first | done | rfl)

theorem pay106_at  (v584 : FVec Ideal S256x1024 .f32) (v685 : FVec Ideal S256x1024 .f32) (v687 : FVec Ideal S1x1024 .f32) (v689 : FVec Ideal S1x1024 .f32) (r : Fin 256) (j : Fin 1024) : k0_pay106 (F := Ideal) v584 v685 v687 v689 (ix2 r j) = (ln (fun k => v685 (ix2 r k) + v584 (ix2 r k)) (fun k => v687 (ix2 0 k)) (fun k => v689 (ix2 0 k))) j := by
  pointwise [k0_pay106]
  all_goals first | rfl | (simp only []; first | done | rfl)

theorem pay107_at  (v584 : FVec Ideal S256x1024 .f32) (v685 : FVec Ideal S256x1024 .f32) (v687 : FVec Ideal S1x1024 .f32) (v689 : FVec Ideal S1x1024 .f32) (r : Fin 256) (j : Fin 1024) : k0_pay107 (F := Ideal) v584 v685 v687 v689 (ix2 r j) = (ln (fun k => v685 (ix2 r k) + v584 (ix2 r k)) (fun k => v687 (ix2 0 k)) (fun k => v689 (ix2 0 k))) j := by
  pointwise [k0_pay107]
  all_goals first | rfl | (simp only [pay106_at]; first | done | rfl)

theorem pay108_at  (r : Fin 256) (j : Fin 1024) : k0_pay108 (F := Ideal)  (ix2 r j) = 0 := by
  pointwise [k0_pay108]
  all_goals first | rfl | (simp only []; first | done | rfl)

theorem pay109_at  (v584 : FVec Ideal S256x1024 .f32) (v685 : FVec Ideal S256x1024 .f32) (v687 : FVec Ideal S1x1024 .f32) (v689 : FVec Ideal S1x1024 .f32) (v715 : FVec Ideal S1024x1024 .bf16) (r : Fin 256) (j : Fin 1024) : k0_pay109 (F := Ideal) v584 v685 v687 v689 v715 (ix2 r j) = hidC (ln (fun k => v685 (ix2 r k) + v584 (ix2 r k)) (fun k => v687 (ix2 0 k)) (fun k => v689 (ix2 0 k))) v715 j := by
  pointwise [k0_pay109]
  all_goals first | rfl | (simp only [pay107_at]; first | done | rfl)

theorem pay110_at  (v584 : FVec Ideal S256x1024 .f32) (v685 : FVec Ideal S256x1024 .f32) (v687 : FVec Ideal S1x1024 .f32) (v689 : FVec Ideal S1x1024 .f32) (v721 : FVec Ideal S1024x1024 .bf16) (r : Fin 256) (j : Fin 1024) : k0_pay110 (F := Ideal) v584 v685 v687 v689 v721 (ix2 r j) = hidC (ln (fun k => v685 (ix2 r k) + v584 (ix2 r k)) (fun k => v687 (ix2 0 k)) (fun k => v689 (ix2 0 k))) v721 j := by
  pointwise [k0_pay110]
  all_goals first | rfl | (simp only [pay107_at]; first | done | rfl)

theorem pay111_at  (v712 : FVec Ideal S256x1024 .f32) (v713 : FVec Ideal S256x1024 .bf16) (v714 : FVec Ideal S256x1024 .f32) (v720 : FVec Ideal S256x1024 .bf16) (v726 : FVec Ideal S256x1024 .bf16) (v727 : FVec Ideal S1024x1024 .bf16) (v730 : FVec Ideal S1024x1024 .bf16) (v736 : FVec Ideal S1024x1024 .bf16) (v739 : FVec Ideal S1024x1024 .bf16) (v745 : FVec Ideal S1024x1024 .bf16) (v748 : FVec Ideal S1024x1024 .bf16) (r : Fin 256) (j : Fin 1024) : k0_pay111 (F := Ideal) v712 v713 v714 v720 v726 v727 v730 v736 v739 v745 v748 (ix2 r j) = cAlpha * v712 (ix2 r j) + ((((v714 (ix2 r j) + ∑ f : Fin 1024, v720 (ix2 r f) * v727 (ix2 f j)) + ∑ f : Fin 1024, v726 (ix2 r f) * v736 (ix2 f j)) + ∑ f : Fin 1024, hidC (fun k => v713 (ix2 r k)) v730 f * v745 (ix2 f j)) + ∑ f : Fin 1024, hidC (fun k => v713 (ix2 r k)) v739 f * v748 (ix2 f j)) := by
  pointwise [k0_pay111]
  all_goals first | rfl | (simp only []; first | done | rfl)

theorem pay112_at  (v754 : FVec Ideal S1x1024 .f32) (j : Fin 1024) : k0_pay112 (F := Ideal) v754 (ix2 0 j) = v754 (ix2 0 j) := by
  pointwise [k0_pay112]
  all_goals first | rfl | (simp only []; first | done | rfl)

theorem pay113_at  (v756 : FVec Ideal S1x1024 .f32) (j : Fin 1024) : k0_pay113 (F := Ideal) v756 (ix2 0 j) = v756 (ix2 0 j) := by
  pointwise [k0_pay113]
  all_goals first | rfl | (simp only []; first | done | rfl)

theorem pay114_at  (v712 : FVec Ideal S256x1024 .f32) (v713 : FVec Ideal S256x1024 .bf16) (v714 : FVec Ideal S256x1024 .f32) (v720 : FVec Ideal S256x1024 .bf16) (v726 : FVec Ideal S256x1024 .bf16) (v727 : FVec Ideal S1024x1024 .bf16) (v730 : FVec Ideal S1024x1024 .bf16) (v736 : FVec Ideal S1024x1024 .bf16) (v739 : FVec Ideal S1024x1024 .bf16) (v745 : FVec Ideal S1024x1024 .bf16) (v748 : FVec Ideal S1024x1024 .bf16) (r : Fin 256)  : k0_pay114 (F := Ideal) v712 v713 v714 v720 v726 v727 v730 v736 v739 v745 v748 (ix2 r 0) = ∑ j : Fin 1024, (cAlpha * v712 (ix2 r j) + ((((v714 (ix2 r j) + ∑ f : Fin 1024, v720 (ix2 r f) * v727 (ix2 f j)) + ∑ f : Fin 1024, v726 (ix2 r f) * v736 (ix2 f j)) + ∑ f : Fin 1024, hidC (fun k => v713 (ix2 r k)) v730 f * v745 (ix2 f j)) + ∑ f : Fin 1024, hidC (fun k => v713 (ix2 r k)) v739 f * v748 (ix2 f j))) := by
  pointwise [k0_pay114]
  all_goals first | rfl | (simp only [pay111_at]; first | done | rfl)

theorem pay115_at  (r : Fin 256)  : k0_pay115 (F := Ideal)  (ix2 r 0) = c1024 := by
  pointwise [k0_pay115]
  all_goals first | rfl | (simp only []; first | done | rfl)

theorem pay1_at  (v753 : FVec Ideal S256x1024 .f32) (v755 : FVec Ideal S1x1024 .f32) (v757 : FVec Ideal S1x1024 .f32) (v759 : FVec Ideal S256x1 .f32) (v760 : FVec Ideal S256x1 .f32) (r : Fin 256) (j : Fin 1024) : k0_pay1 (F := Ideal) v753 v755 v757 v759 v760 (ix2 r j) = (fun (mu : EReal) => (v753 (ix2 r j) - mu) * Ideal.rsqrt (Ideal.div (∑ k : Fin 1024, (v753 (ix2 r k) - mu) * (v753 (ix2 r k) - mu)) c1024 + cEps) * v755 (ix2 0 j) + v757 (ix2 0 j)) (Ideal.div (v759 (ix2 r 0)) (v760 (ix2 r 0))) := by
  pointwise [k0_pay1]
  all_goals first | rfl | (simp only []; first | done | rfl)

theorem pay116_at  (v23 : FVec Ideal S1x1024 .f32) (j : Fin 1024) : k0_pay116 (F := Ideal) v23 (ix2 0 j) = v23 (ix2 0 j) := by
  pointwise [k0_pay116]
  all_goals first | rfl | (simp only []; first | done | rfl)

theorem pay117_at  (v6 : FVec Ideal S32x512 .f32) (v9 : FVec Ideal S512x1024 .bf16) (v11 : FVec Ideal S32x512 .f32) (v14 : FVec Ideal S512x1024 .bf16) (v17 : FVec Ideal S32x1024 .f32) (r : Fin 32) (j : Fin 1024) : k0_pay117 (F := Ideal) v6 v9 v11 v14 v17 (ix2 r j) = lnc (fun k => cAlpha * v17 (ix2 r k) + ((∑ q : Fin 512, v6 (ix2 r q) * v9 (ix2 q k)) + ∑ q : Fin 512, v11 (ix2 r q) * v14 (ix2 q k))) j := by
  pointwise [k0_pay117]
  all_goals first | rfl | (simp only []; first | done | rfl)

theorem pay118_at  (v21 : FVec Ideal S1x1024 .f32) (r : Fin 32) (j : Fin 1024) : k0_pay118 (F := Ideal) v21 (ix2 r j) = v21 (ix2 0 j) := by
  pointwise [k0_pay118]
  all_goals first | rfl | (simp only []; first | done | rfl)

theorem pay119_at  (v24 : FVec Ideal S1x1024 .f32) (v42 : FVec Ideal S32x1024 .f32) (v43 : FVec Ideal S32x1024 .f32) (r : Fin 32) (j : Fin 1024) : k0_pay119 (F := Ideal) v24 v42 v43 (ix2 r j) = (fun k => v42 (ix2 r k) * v43 (ix2 r k) + v24 (ix2 0 k)) j := by
  pointwise [k0_pay119]
  all_goals first | rfl | (simp only []; first | done | rfl)

theorem pay120_at  (v24 : FVec Ideal S1x1024 .f32) (v42 : FVec Ideal S32x1024 .f32) (v43 : FVec Ideal S32x1024 .f32) (r : Fin 32) (j : Fin 1024) : k0_pay120 (F := Ideal) v24 v42 v43 (ix2 r j) = (fun k => v42 (ix2 r k) * v43 (ix2 r k) + v24 (ix2 0 k)) j := by
  pointwise [k0_pay120]
  all_goals first | rfl | (simp only [pay119_at]; first | done | rfl)

theorem pay121_at  (v24 : FVec Ideal S1x1024 .f32) (v42 : FVec Ideal S32x1024 .f32) (v43 : FVec Ideal S32x1024 .f32) (v64 : FVec Ideal S1024x1024 .bf16) (r : Fin 32) (j : Fin 1024) : k0_pay121 (F := Ideal) v24 v42 v43 v64 (ix2 r j) = hidC (fun k => v42 (ix2 r k) * v43 (ix2 r k) + v24 (ix2 0 k)) v64 j := by
  pointwise [k0_pay121]
  all_goals first | rfl | (simp only [pay120_at]; first | done | rfl)

theorem pay122_at  (v24 : FVec Ideal S1x1024 .f32) (v42 : FVec Ideal S32x1024 .f32) (v43 : FVec Ideal S32x1024 .f32) (v49 : FVec Ideal S1024x1024 .bf16) (v55 : FVec Ideal S1024x1024 .bf16) (v61 : FVec Ideal S1024x1024 .bf16) (v70 : FVec Ideal S1024x1024 .bf16) (r : Fin 32) (j : Fin 1024) : k0_pay122 (F := Ideal) v24 v42 v43 v49 v55 v61 v70 (ix2 r j) = (∑ f : Fin 1024, (hidC (fun k => v42 (ix2 r k) * v43 (ix2 r k) + v24 (ix2 0 k)) v49 f) * v61 (ix2 f j)) + ∑ f : Fin 1024, hidC (fun k => v42 (ix2 r k) * v43 (ix2 r k) + v24 (ix2 0 k)) v55 f * v70 (ix2 f j) := by
  pointwise [k0_pay122]
  all_goals first | rfl | (simp only [pay120_at]; first | done | rfl)

theorem pay123_at  (v24 : FVec Ideal S1x1024 .f32) (v42 : FVec Ideal S32x1024 .f32) (v43 : FVec Ideal S32x1024 .f32) (v73 : FVec Ideal S1024x1024 .bf16) (r : Fin 32) (j : Fin 1024) : k0_pay123 (F := Ideal) v24 v42 v43 v73 (ix2 r j) = hidC (fun k => v42 (ix2 r k) * v43 (ix2 r k) + v24 (ix2 0 k)) v73 j := by
  pointwise [k0_pay123]
  all_goals first | rfl | (simp only [pay120_at]; first | done | rfl)

theorem pay2_at  (v46 : FVec Ideal S32x1024 .f32) (v69 : FVec Ideal S32x1024 .bf16) (v72 : FVec Ideal S32x1024 .f32) (v78 : FVec Ideal S32x1024 .bf16) (v79 : FVec Ideal S1024x1024 .bf16) (v82 : FVec Ideal S1024x1024 .bf16) (v88 : FVec Ideal S1x1024 .f32) (v90 : FVec Ideal S1x1024 .f32) (r : Fin 32) (j : Fin 1024) : k0_pay2 (F := Ideal) v46 v69 v72 v78 v79 v82 v88 v90 (ix2 r j) = ln (fun k => cAlpha * v46 (ix2 r k) + ((v72 (ix2 r k) + ∑ f : Fin 1024, v69 (ix2 r f) * v79 (ix2 f k)) + ∑ f : Fin 1024, v78 (ix2 r f) * v82 (ix2 f k))) (fun k => v88 (ix2 0 k)) (fun k => v90 (ix2 0 k)) j := by
  pointwise [k0_pay2]
  all_goals first | rfl | (simp only []; first | done | rfl)

/-- A prompt row of the first half. -/
theorem p21_0_at (i : grid0.Coords) (h : k0_cond1 i = 1#1) (X : Ins Ideal) (r : Fin 256) (j : Fin 1024) :
    A.p21_0 i h X (ix2 r j) = layer (fun k => X.x0 (ix2 ⟨r.val, by omega⟩ k)) (fun k => X.x1 (ix2 ⟨r.val, by omega⟩ k)) (fun k => X.x2 (ix2 ⟨r.val, by omega⟩ k))
      (fun q k => X.x3 (ix2 q k)) (fun k => X.x4 (ix2 0 k)) (fun k => X.x5 (ix2 0 k)) (fun k f => X.x6 (ix2 k f)) (fun f k => X.x7 (ix2 f k)) (fun k => X.x8 (ix2 0 k)) (fun k => X.x9 (ix2 0 k)) j := by
  rw [A.p21_0, pay104_at]
  simp only [A.v614, A.v637, A.v640, A.v646, pay99_at, pay101_at, pay102_at, pay103_at, A.v590, A.v592, A.v610, pay96_at, pay97_at, pay98_at, A.v573, pay94_at]
  pointwise [hidC, A.v571, A.v572, A.v574, A.v575, A.v585, A.v589, A.v591, A.v617, A.v623, A.v629, A.v632, A.v638, A.v641, A.v647, A.v650, A.v656, A.v658]
  rw [layer, fin2]
  simp only [ffn, sum_chunks, hid]
  rfl

/-- A prompt row of the second half. -/
theorem p21_1_at (i : grid0.Coords) (h : k0_cond1 i = 1#1) (X : Ins Ideal) (r : Fin 256) (j : Fin 1024) :
    A.p21_1 i h X (ix2 r j) = layer (fun k => X.x0 (ix2 ⟨256 + r.val, by omega⟩ k)) (fun k => X.x1 (ix2 ⟨256 + r.val, by omega⟩ k)) (fun k => X.x2 (ix2 ⟨256 + r.val, by omega⟩ k))
      (fun q k => X.x3 (ix2 q k)) (fun k => X.x4 (ix2 0 k)) (fun k => X.x5 (ix2 0 k)) (fun k f => X.x6 (ix2 k f)) (fun f k => X.x7 (ix2 f k)) (fun k => X.x8 (ix2 0 k)) (fun k => X.x9 (ix2 0 k)) j := by
  rw [A.p21_1, pay1_at]
  simp only [A.v753, A.v755, A.v757, A.v759, A.v760, pay111_at, pay112_at, pay113_at, pay114_at, pay115_at, A.v712, A.v713, A.v714, A.v720, A.v726, pay106_at, pay107_at, pay108_at, pay109_at, pay110_at, A.v685, pay105_at, A.v584, pay95_at, zero_add]
  pointwise [hidC, A.v578, A.v579, A.v581, A.v582, A.v683, A.v687, A.v689, A.v715, A.v721, A.v727, A.v730, A.v736, A.v739, A.v745, A.v748, A.v754, A.v756]
  rw [layer, fin2]
  simp only [ffn, sum_chunks, hid]
  rfl

/-- A sample row. -/
theorem p25_0_at (X : Ins Ideal) (Y22 Y23 : Vec Ideal S32x512 .f32) (r : Fin 32) (j : Fin 1024) :
    B.p25_0 X Y22 Y23 (ix2 r j) = layer (fun k => X.x20 (ix2 r k)) (fun k => Y22 (ix2 r k)) (fun k => Y23 (ix2 r k))
      (fun q k => X.x3 (ix2 q k)) (fun k => X.x4 (ix2 0 k)) (fun k => X.x5 (ix2 0 k)) (fun k f => X.x6 (ix2 k f)) (fun f k => X.x7 (ix2 f k)) (fun k => X.x8 (ix2 0 k)) (fun k => X.x9 (ix2 0 k)) j := by
  rw [B.p25_0, pay2_at]
  simp only [B.v46, B.v69, B.v72, B.v78, pay119_at, pay121_at, pay122_at, pay123_at, B.v24, B.v42, B.v43, pay116_at, pay117_at, pay118_at]
  pointwise [hidC, B.v6, B.v9, B.v11, B.v14, B.v17, B.v21, B.v23, B.v49, B.v55, B.v61, B.v64, B.v70, B.v73, B.v79, B.v82, B.v88, B.v90]
  rw [layer, fin2]
  simp only [ffn, sum_chunks, hid]
  rfl

end Cert.KernelIdeal.Mix

end
-- ==== Proof.RunA.lean ====
module

public import proofs.«01_k».proof.Proof.Gen.KernelIdeal.Skeleton
public import proofs.«01_k».proof.Proof.Gen.KernelIdeal.Launch
public import proofs.«01_k».proof.Proof.Cond

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a sample token's point. `L21` and `L24` are what it stores into the prompt rows and into the
    retention state; `L22` and `L23` are what it stores over the contents the two row buffers already have.
    The buffer of the last output keeps its contents. -/
def runA (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : isTok i) (hc1 : ¬isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) (xo22 : Vec F S32x512 .f32) (xo23 : Vec F S32x512 .f32) (xo25 : Vec F S32x1024 .f32) :
    Σ' (L21 : List (View.Piece (Elt F) S512x1024 .f32)), Σ' (L22 : List (View.Piece (Elt F) S32x512 .f32)), Σ' (L23 : List (View.Piece (Elt F) S32x512 .f32)), { L24 : List (View.Piece (Elt F) S1x4x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ owns (c : Thread nD τ) arg23 fullShare xo22 ∗ owns (c : Thread nD τ) arg24 fullShare xo23 ∗ (∃ d, owns (c : Thread nD τ) arg25 fullShare d) ∗ owns (c : Thread nD τ) arg26 fullShare xo25
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (arg23.view.loc (c : Thread nD τ) ↦[arg23.view.set]{fullShare} arg23.view.writes (Elt F) (harg23.unread xo22) L22) ∗ (arg24.view.loc (c : Thread nD τ) ↦[arg24.view.set]{fullShare} arg24.view.writes (Elt F) (harg24.unread xo23) L23) ∗ (∃ f, arg25.view.loc (c : Thread nD τ) ↦[arg25.view.set]{fullShare} arg25.view.writes (Elt F) f L24) ∗ owns (c : Thread nD τ) arg26 fullShare xo25) -∗ K ⟨⟩))
          ⊢ wp frame (wpE (defs₀ (F := F)) Variants.none c none) E (cc0_out_ffn_prompt_sample_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, fun E K => ?run⟩
  case run =>
    simp only [cc0_out_ffn_prompt_sample_mixer_eq_skeleton]; unfold cc0_out_ffn_prompt_sample_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%f22, %hf22, H22⟩, ⟨%f23, %hf23, H23⟩, ⟨%d24, %f24, -, H24⟩, ⟨%f25, %hf25, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg23.eq_unread hf22; obtain rfl := harg24.eq_unread hf23; obtain rfl := harg26.eq_unread hf25
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexact H22
    isplitl [H23]; · iexact H23
    isplitl [H24]; · iexists _; iexact H24
    iexists _; isplitr; · ipureintro; exact harg26.read_unread _
    iexact H25

end Cert.KernelIdeal.Mix

end
-- ==== Proof.RunB.lean ====
module

public import proofs.«01_k».proof.Proof.Gen.KernelIdeal.Skeleton
public import proofs.«01_k».proof.Proof.Gen.KernelIdeal.Launch
public import proofs.«01_k».proof.Proof.Cond

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point. `L25` is what it stores into the sample rows; it reads the two row buffers and
    leaves every other buffer as it found it. -/
def runB (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : ¬isTok i) (hc1 : isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) (xo21 : Vec F S512x1024 .f32) (xo22 : Vec F S32x512 .f32) (xo23 : Vec F S32x512 .f32) (xo24 : Vec F S1x4x128x128 .f32) :
    { L25 : List (View.Piece (Elt F) S32x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare xo21 ∗ owns (c : Thread nD τ) arg23 fullShare xo22 ∗ owns (c : Thread nD τ) arg24 fullShare xo23 ∗ owns (c : Thread nD τ) arg25 fullShare xo24 ∗ (∃ d, owns (c : Thread nD τ) arg26 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare xo21 ∗ owns (c : Thread nD τ) arg23 fullShare xo22 ∗ owns (c : Thread nD τ) arg24 fullShare xo23 ∗ owns (c : Thread nD τ) arg25 fullShare xo24 ∗ (∃ f, arg26.view.loc (c : Thread nD τ) ↦[arg26.view.set]{fullShare} arg26.view.writes (Elt F) f L25)) -∗ K ⟨⟩))
          ⊢ wp frame (wpE (defs₀ (F := F)) Variants.none c none) E (cc0_out_ffn_prompt_sample_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0_out_ffn_prompt_sample_mixer_eq_skeleton]; unfold cc0_out_ffn_prompt_sample_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    iexists _; iexact H25

end Cert.KernelIdeal.Mix

end
-- ==== Proof.Pieces.lean ====
module

public import proofs.«01_k».proof.Proof.RunA
public import proofs.«01_k».proof.Proof.RunB
public import proofs.«01_k».proof.Proof.Vals

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stored pieces, named -/

theorem runA_L21  (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : isTok i) (hc1 : ¬isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) (xo22 : Vec F S32x512 .f32) (xo23 : Vec F S32x512 .f32) (xo25 : Vec F S32x1024 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).1 = A.L21 i hc0 ⟨x0, x1, x2, x3, x4, x5, x6, x7, x8, x9, x10, x11, x12, x13, x14, x15, x16, x17, x18, x19, x20⟩ := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).1 = A.L21 i hc0 ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6), arg8.view.read (Elt F) (harg8.unread x7), arg9.view.read (Elt F) (harg9.unread x8), arg10.view.read (Elt F) (harg10.unread x9), arg11.view.read (Elt F) (harg11.unread x10), arg12.view.read (Elt F) (harg12.unread x11), arg13.view.read (Elt F) (harg13.unread x12), arg14.view.read (Elt F) (harg14.unread x13), arg15.view.read (Elt F) (harg15.unread x14), arg16.view.read (Elt F) (harg16.unread x15), arg17.view.read (Elt F) (harg17.unread x16), arg18.view.read (Elt F) (harg18.unread x17), arg19.view.read (Elt F) (harg19.unread x18), arg20.view.read (Elt F) (harg20.unread x19), arg21.view.read (Elt F) (harg21.unread x20)⟩ := by sl_kernel_rfl
  rw [h]; simp only [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]

theorem runA_L22  (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : isTok i) (hc1 : ¬isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) (xo22 : Vec F S32x512 .f32) (xo23 : Vec F S32x512 .f32) (xo25 : Vec F S32x1024 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).2.1 = A.L22 i hc0 ⟨x0, x1, x2, x3, x4, x5, x6, x7, x8, x9, x10, x11, x12, x13, x14, x15, x16, x17, x18, x19, x20⟩ := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).2.1 = A.L22 i hc0 ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6), arg8.view.read (Elt F) (harg8.unread x7), arg9.view.read (Elt F) (harg9.unread x8), arg10.view.read (Elt F) (harg10.unread x9), arg11.view.read (Elt F) (harg11.unread x10), arg12.view.read (Elt F) (harg12.unread x11), arg13.view.read (Elt F) (harg13.unread x12), arg14.view.read (Elt F) (harg14.unread x13), arg15.view.read (Elt F) (harg15.unread x14), arg16.view.read (Elt F) (harg16.unread x15), arg17.view.read (Elt F) (harg17.unread x16), arg18.view.read (Elt F) (harg18.unread x17), arg19.view.read (Elt F) (harg19.unread x18), arg20.view.read (Elt F) (harg20.unread x19), arg21.view.read (Elt F) (harg21.unread x20)⟩ := by sl_kernel_rfl
  rw [h]; simp only [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]

theorem runA_L23  (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : isTok i) (hc1 : ¬isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) (xo22 : Vec F S32x512 .f32) (xo23 : Vec F S32x512 .f32) (xo25 : Vec F S32x1024 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).2.2.1 = A.L23 i hc0 ⟨x0, x1, x2, x3, x4, x5, x6, x7, x8, x9, x10, x11, x12, x13, x14, x15, x16, x17, x18, x19, x20⟩ := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).2.2.1 = A.L23 i hc0 ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6), arg8.view.read (Elt F) (harg8.unread x7), arg9.view.read (Elt F) (harg9.unread x8), arg10.view.read (Elt F) (harg10.unread x9), arg11.view.read (Elt F) (harg11.unread x10), arg12.view.read (Elt F) (harg12.unread x11), arg13.view.read (Elt F) (harg13.unread x12), arg14.view.read (Elt F) (harg14.unread x13), arg15.view.read (Elt F) (harg15.unread x14), arg16.view.read (Elt F) (harg16.unread x15), arg17.view.read (Elt F) (harg17.unread x16), arg18.view.read (Elt F) (harg18.unread x17), arg19.view.read (Elt F) (harg19.unread x18), arg20.view.read (Elt F) (harg20.unread x19), arg21.view.read (Elt F) (harg21.unread x20)⟩ := by sl_kernel_rfl
  rw [h]; simp only [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]

theorem runA_L24  (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : isTok i) (hc1 : ¬isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) (xo22 : Vec F S32x512 .f32) (xo23 : Vec F S32x512 .f32) (xo25 : Vec F S32x1024 .f32) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).2.2.2.1 = A.L24 i hc0 ⟨x0, x1, x2, x3, x4, x5, x6, x7, x8, x9, x10, x11, x12, x13, x14, x15, x16, x17, x18, x19, x20⟩ := by
  have h : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo22 xo23 xo25).2.2.2.1 = A.L24 i hc0 ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6), arg8.view.read (Elt F) (harg8.unread x7), arg9.view.read (Elt F) (harg9.unread x8), arg10.view.read (Elt F) (harg10.unread x9), arg11.view.read (Elt F) (harg11.unread x10), arg12.view.read (Elt F) (harg12.unread x11), arg13.view.read (Elt F) (harg13.unread x12), arg14.view.read (Elt F) (harg14.unread x13), arg15.view.read (Elt F) (harg15.unread x14), arg16.view.read (Elt F) (harg16.unread x15), arg17.view.read (Elt F) (harg17.unread x16), arg18.view.read (Elt F) (harg18.unread x17), arg19.view.read (Elt F) (harg19.unread x18), arg20.view.read (Elt F) (harg20.unread x19), arg21.view.read (Elt F) (harg21.unread x20)⟩ := by sl_kernel_rfl
  rw [h]; simp only [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread]

theorem runB_L25  (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x4096 .bf16) (harg7 : arg7.IsWhole) (arg8 : Memref sig .tc .vmem S4096x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S32x512 .f32) (harg11 : arg11.IsWhole) (arg12 : Memref sig .tc .vmem S32x1024 .f32) (harg12 : arg12.IsWhole) (arg13 : Memref sig .tc .vmem S32x512 .f32) (harg13 : arg13.IsWhole) (arg14 : Memref sig .tc .vmem S32x512 .f32) (harg14 : arg14.IsWhole) (arg15 : Memref sig .tc .vmem S32x512 .f32) (harg15 : arg15.IsWhole) (arg16 : Memref sig .tc .vmem S32x512 .f32) (harg16 : arg16.IsWhole) (arg17 : Memref sig .tc .vmem S1x2x8x64x2048 .f32) (harg17 : arg17.IsWhole) (arg18 : Memref sig .tc .vmem S1x4x128x128 .f32) (harg18 : arg18.IsWhole) (arg19 : Memref sig .tc .vmem S3x8x2048 .f32) (harg19 : arg19.IsWhole) (arg20 : Memref sig .tc .vmem S8x128 .f32) (harg20 : arg20.IsWhole) (arg21 : Memref sig .tc .vmem S32x1024 .f32) (harg21 : arg21.IsWhole) (arg22 : Memref sig .tc .vmem S512x1024 .f32) (harg22 : arg22.IsWhole) (arg23 : Memref sig .tc .vmem S32x512 .f32) (harg23 : arg23.IsWhole) (arg24 : Memref sig .tc .vmem S32x512 .f32) (harg24 : arg24.IsWhole) (arg25 : Memref sig .tc .vmem S1x4x128x128 .f32) (harg25 : arg25.IsWhole) (arg26 : Memref sig .tc .vmem S32x1024 .f32) (harg26 : arg26.IsWhole) (hc0 : ¬isTok i) (hc1 : isLast i)
    (x0 : Vec F S512x1024 .f32) (x1 : Vec F S512x512 .bf16) (x2 : Vec F S512x512 .bf16) (x3 : Vec F S1024x1024 .bf16) (x4 : Vec F S1x1024 .f32) (x5 : Vec F S1x1024 .f32) (x6 : Vec F S1024x4096 .bf16) (x7 : Vec F S4096x1024 .bf16) (x8 : Vec F S1x1024 .f32) (x9 : Vec F S1x1024 .f32) (x10 : Vec F S32x512 .f32) (x11 : Vec F S32x1024 .f32) (x12 : Vec F S32x512 .f32) (x13 : Vec F S32x512 .f32) (x14 : Vec F S32x512 .f32) (x15 : Vec F S32x512 .f32) (x16 : Vec F S1x2x8x64x2048 .f32) (x17 : Vec F S1x4x128x128 .f32) (x18 : Vec F S3x8x2048 .f32) (x19 : Vec F S8x128 .f32) (x20 : Vec F S32x1024 .f32) (xo21 : Vec F S512x1024 .f32) (xo22 : Vec F S32x512 .f32) (xo23 : Vec F S32x512 .f32) (xo24 : Vec F S1x4x128x128 .f32) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo21 xo22 xo23 xo24).1 = B.L25 ⟨x0, x1, x2, x3, x4, x5, x6, x7, x8, x9, x10, x11, x12, x13, x14, x15, x16, x17, x18, x19, x20⟩ xo22 xo23 := by
  have h : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 x16 x17 x18 x19 x20 xo21 xo22 xo23 xo24).1 = B.L25 ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6), arg8.view.read (Elt F) (harg8.unread x7), arg9.view.read (Elt F) (harg9.unread x8), arg10.view.read (Elt F) (harg10.unread x9), arg11.view.read (Elt F) (harg11.unread x10), arg12.view.read (Elt F) (harg12.unread x11), arg13.view.read (Elt F) (harg13.unread x12), arg14.view.read (Elt F) (harg14.unread x13), arg15.view.read (Elt F) (harg15.unread x14), arg16.view.read (Elt F) (harg16.unread x15), arg17.view.read (Elt F) (harg17.unread x16), arg18.view.read (Elt F) (harg18.unread x17), arg19.view.read (Elt F) (harg19.unread x18), arg20.view.read (Elt F) (harg20.unread x19), arg21.view.read (Elt F) (harg21.unread x20)⟩ (arg23.view.read (Elt F) (harg23.unread xo22)) (arg24.view.read (Elt F) (harg24.unread xo23)) := by sl_kernel_rfl
  rw [h]; simp only [harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg23.read_unread, harg24.read_unread]

end Cert.KernelIdeal.Mix

end
-- ==== Proof.Obl.lean ====
module

public import proofs.«01_k».proof.Proof.Gen.KernelIdeal.Frame
public import proofs.«01_k».proof.Proof.Pieces
public import proofs.«01_k».proof.Proof.Data
public import Idealize.ShloMosaic.Lib.Pipeline.DatRel
public import Idealize.ShloMosaic.Lib.Pipeline.ArrRel
public import Idealize.ShloMosaic.Lib.Claim
public import Idealize.ShloMosaic.Lib.WritesUnit
public import Idealize.ShloMosaic.Lib.Pointwise.Index

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading the stored pieces back -/

theorem off1_eq : ∀ t : Fin cfg0.N, t.val < 32 → k0_off1 (grid0.coords t) = ![t.val, 0] :=
  (by decide +kernel : ∀ t : Fin grid0.N, t.val < 32 → k0_off1 (grid0.coords t) = ![t.val, 0])

theorem cover21 (i : grid0.Coords) (h : isTok i) (X : Ins F) : ∀ y, ∃ p ∈ A.L21 i h X, y ∈ p.1.set := by
  unfold A.L21; exact View.cover_of_tiledL _ ![256, 1024] (by sl_kernel_rfl)

theorem cover24 (i : grid0.Coords) (h : isTok i) (X : Ins F) : ∀ y, ∃ p ∈ A.L24 i h X, y ∈ p.1.set := by
  unfold A.L24; exact View.cover_of_tiledL _ ![1, 1, 128, 128] (by sl_kernel_rfl)

theorem cover25 (X : Ins F) (Y22 Y23 : Vec F S32x512 .f32) : ∀ y, ∃ p ∈ B.L25 X Y22 Y23, y ∈ p.1.set := by
  unfold B.L25; exact View.cover_of_tiledL _ ![32, 1024] (by sl_kernel_rfl)

theorem canon25 (X : Ins F) (Y22 Y23 : Vec F S32x512 .f32) : View.canon (B.L25 X Y22 Y23) = B.p25_0 X Y22 Y23 := by
  unfold B.L25; exact View.canon_cons_unit_zero (by decide) _ _ _

/-- One row stored over rows already right keeps them right and adds the row. -/
theorem row_step {κ : Kind} {sp : Space} (v : View sig κ sp S32x512 .f32) (f : v.ty.Contents (Elt F)) (t : ℕ) (ht : t < 32)
    {off : Fin 2 → ℕ} (inb : ∀ a, off a + S1x512.size a ≤ S32x512.size a) (hoff : off = ![t, 0])
    (p : Vec F S1x512 .f32) (R : Vec F S32x512 .f32) (hp : ∀ k : Fin 512, p (ix2 0 k) = R (ix2 ⟨t, ht⟩ k))
    (hY : ∀ j : S32x512.Idx, (j 0).val < t → v.read (Elt F) f j = R j) (j : S32x512.Idx) (hj : (j 0).val ≤ t) :
    v.read (Elt F) (v.writes (Elt F) f [⟨Rect.unit (s := S32x512) off S1x512.size inb, p⟩]) j = R j := by
  by_cases h : (j 0).val = t
  · rw [View.read_writes_cons_rows_of_mem v f inb p [] j (ix2 0 (j 1) : S1x512.Idx) hoff (by show (j 0).val = t + 0; omega) (by rfl)]
    refine (hp (j 1)).trans (congrArg R ?_); funext a; fin_cases a
    · exact Fin.ext h.symm
    · rfl
  · rw [View.read_writes_cons_rows_of_not_mem (W := 1) v f inb p [] j hoff rfl (by left; omega)]
    exact hY j (by omega)

/-! ## What the body finds in the output buffers -/

theorem flush21 : ∀ t : Fin cfg0.N, t.val = 31 → (cfg0.win 21).flush t = false :=
  (by decide +kernel : ∀ t : Fin grid0.N, t.val = 31 → win0_21.flush t = false)

theorem flush24 : ∀ t : Fin cfg0.N, t.val = 31 → (cfg0.win 24).flush t = false :=
  (by decide +kernel : ∀ t : Fin grid0.N, t.val = 31 → win0_24.flush t = false)

/-- What an unfetched output's buffer holds at a point after one that did not write it back. -/
theorem finds_Rl (c : Dev nD) (w : Fin cfg0.W) (hw : fgt0 w = true) (t : Fin cfg0.N) (ht : t.val ≠ 0) (hf : (cfg0.win w).fetch t = false)
    (hfl : (cfg0.win w).flush ⟨t.val - 1, Nat.lt_of_le_of_lt (Nat.sub_le _ _) t.isLt⟩ = false)
    (X : (cfg0.win w).block.Idx → Elt F (cfg0.win w).elt) (h : ((dats m 0 c).toRRel fgt0 (Rl m c)).Finds w t X) :
    Rl m c w ⟨t.val - 1, Nat.lt_of_le_of_lt (Nat.sub_le _ _) t.isLt⟩ X := by
  rcases ((dats m 0 c).toRRel fgt0 (Rl m c)).finds_of_pos hf ht X |>.1 h with h | h
  · rw [hfl] at h; exact absurd h (by decide)
  · exact (dats m 0 c).toRRel_leaves hw h

theorem flush22_false (t : Fin cfg0.N) (h : t.val < 32) : (cfg0.win 22).flush t = false := by
  rw [Bool.eq_false_iff]; intro e; have := (flush0_22 t).1 e; omega

theorem finds22 (c : Dev nD) (t : Fin cfg0.N) (X : Vec F S32x512 .f32) (h : ((dats m 0 c).toRRel fgt0 (Rl m c)).Finds 22 t X)
    (j : S32x512.Idx) (hj : (j 0).val < t.val) : X j = attRows m c j := by
  have hN : t.val < 33 := lt_of_lt_of_eq t.isLt (show cfg0.N = 33 from N_0)
  have := finds_Rl m c 22 rfl t (by omega) rfl (flush22_false _ (by show t.val - 1 < 32; omega)) X h
  exact this j (by show (j 0).val ≤ t.val - 1; omega)

theorem flush23_false (t : Fin cfg0.N) (h : t.val < 32) : (cfg0.win 23).flush t = false := by
  rw [Bool.eq_false_iff]; intro e; have := (flush0_23 t).1 e; omega

theorem finds23 (c : Dev nD) (t : Fin cfg0.N) (X : Vec F S32x512 .f32) (h : ((dats m 0 c).toRRel fgt0 (Rl m c)).Finds 23 t X)
    (j : S32x512.Idx) (hj : (j 0).val < t.val) : X j = retRows m c j := by
  have hN : t.val < 33 := lt_of_lt_of_eq t.isLt (show cfg0.N = 33 from N_0)
  have := finds_Rl m c 23 rfl t (by omega) rfl (flush23_false _ (by show t.val - 1 < 32; omega)) X h
  exact this j (by show (j 0).val ≤ t.val - 1; omega)

theorem finds21 (c : Dev nD) (t : Fin cfg0.N) (ht : t.val = 32) (X : (cfg0.win 21).block.Idx → Elt F (cfg0.win 21).elt)
    (h : ((dats m 0 c).toRRel fgt0 (Rl m c)).Finds 21 t X) : X = rowsY m c (tokOf t.val) := by
  have := finds_Rl m c 21 rfl t (by omega) rfl (flush21 _ (by show t.val - 1 = 31; omega)) X h
  have e : tokOf (t.val - 1) = tokOf t.val := Fin.ext (by show min (t.val - 1) 31 = min t.val 31; omega)
  rw [← e]; exact this

theorem finds24 (c : Dev nD) (t : Fin cfg0.N) (ht : t.val = 32) (X : (cfg0.win 24).block.Idx → Elt F (cfg0.win 24).elt)
    (h : ((dats m 0 c).toRRel fgt0 (Rl m c)).Finds 24 t X) : X = stBlk m c (tokOf t.val) := by
  have := finds_Rl m c 24 rfl t (by omega) rfl (flush24 _ (by show t.val - 1 = 31; omega)) X h
  have e : tokOf (t.val - 1) = tokOf t.val := Fin.ext (by show min (t.val - 1) 31 = min t.val 31; omega)
  rw [← e]; exact this

theorem rowsY_eq (c : Dev nD) (t : Fin cfg0.N) (h : t.val < 32) (hc : isTok (grid0.coords t)) :
    View.canon (A.L21 (grid0.coords t) hc ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩) = rowsY m c (tokOf t.val) := by
  have e := tokPt_tokOf t h
  generalize tokOf t.val = u at e; subst e; rfl

theorem stBlk_eq (c : Dev nD) (t : Fin cfg0.N) (h : t.val < 32) (hc : isTok (grid0.coords t)) :
    View.canon (A.L24 (grid0.coords t) hc ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩) = stBlk m c (tokOf t.val) := by
  have e := tokPt_tokOf t h
  generalize tokOf t.val = u at e; subst e; rfl

theorem att_eq (c : Dev nD) (t : Fin cfg0.N) (h : t.val < 32) (hc : isTok (grid0.coords t)) (k : Fin 512) :
    A.p22_0 (grid0.coords t) hc ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩ (ix2 0 k) = attRows m c (ix2 ⟨t.val, h⟩ k) := rfl

theorem ret_eq (c : Dev nD) (t : Fin cfg0.N) (h : t.val < 32) (hc : isTok (grid0.coords t)) (k : Fin 512) :
    A.p23_0 (grid0.coords t) hc ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩ (ix2 0 k) = retRows m c (ix2 ⟨t.val, h⟩ k) := rfl

theorem rowsS_eq (c : Dev nD) (t : Fin cfg0.N) (h : t.val = 32) :
    B.p25_0 ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t, iblk m c 19 t, iblk m c 20 t⟩ (attRows m c) (retRows m c) = rowsS m c := by
  have e : t = lastPt := Fin.ext h
  subst e; rfl

/-! ## The body obligation -/

theorem liveAt0_0 (t : Fin cfg0.N) : cfg0.idle 0 (cfg0.grid.coords t) = false := rfl
theorem liveAt0_1 (t : Fin cfg0.N) : cfg0.idle 1 (cfg0.grid.coords t) = false := rfl
theorem liveAt0_2 (t : Fin cfg0.N) : cfg0.idle 2 (cfg0.grid.coords t) = false := rfl
theorem liveAt0_3 (t : Fin cfg0.N) : cfg0.idle 3 (cfg0.grid.coords t) = false := rfl
theorem liveAt0_4 (t : Fin cfg0.N) : cfg0.idle 4 (cfg0.grid.coords t) = false := rfl
theorem liveAt0_5 (t : Fin cfg0.N) : cfg0.idle 5 (cfg0.grid.coords t) = false := rfl
theorem liveAt0_6 (t : Fin cfg0.N) : cfg0.idle 6 (cfg0.grid.coords t) = false := rfl
theorem liveAt0_7 (t : Fin cfg0.N) : cfg0.idle 7 (cfg0.grid.coords t) = false := rfl
theorem liveAt0_8 (t : Fin cfg0.N) : cfg0.idle 8 (cfg0.grid.coords t) = false := rfl
theorem liveAt0_9 (t : Fin cfg0.N) : cfg0.idle 9 (cfg0.grid.coords t) = false := rfl
theorem liveAt0_10 (t : Fin cfg0.N) : cfg0.idle 10 (cfg0.grid.coords t) = false := rfl
theorem liveAt0_11 (t : Fin cfg0.N) : cfg0.idle 11 (cfg0.grid.coords t) = false := rfl
theorem liveAt0_12 (t : Fin cfg0.N) : cfg0.idle 12 (cfg0.grid.coords t) = false := rfl
theorem liveAt0_13 (t : Fin cfg0.N) : cfg0.idle 13 (cfg0.grid.coords t) = false := rfl
theorem liveAt0_14 (t : Fin cfg0.N) : cfg0.idle 14 (cfg0.grid.coords t) = false := rfl
theorem liveAt0_15 (t : Fin cfg0.N) : cfg0.idle 15 (cfg0.grid.coords t) = false := rfl
theorem liveAt0_16 (t : Fin cfg0.N) : cfg0.idle 16 (cfg0.grid.coords t) = false := rfl
theorem liveAt0_17 (t : Fin cfg0.N) : cfg0.idle 17 (cfg0.grid.coords t) = false := rfl
theorem liveAt0_18 (t : Fin cfg0.N) : cfg0.idle 18 (cfg0.grid.coords t) = false := rfl
theorem liveAt0_19 (t : Fin cfg0.N) : cfg0.idle 19 (cfg0.grid.coords t) = false := rfl
theorem liveAt0_20 (t : Fin cfg0.N) : cfg0.idle 20 (cfg0.grid.coords t) = false := rfl
/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)) ∗ (∃ d, owns (c : Thread nD τ) (ms0_15 t) fullShare ((dats m 0 c).before 15 t d)) ∗ (∃ d, owns (c : Thread nD τ) (ms0_16 t) fullShare ((dats m 0 c).before 16 t d)) ∗ (∃ d, owns (c : Thread nD τ) (ms0_17 t) fullShare ((dats m 0 c).before 17 t d)) ∗ (∃ d, owns (c : Thread nD τ) (ms0_18 t) fullShare ((dats m 0 c).before 18 t d)) ∗ (∃ d, owns (c : Thread nD τ) (ms0_19 t) fullShare ((dats m 0 c).before 19 t d)) ∗ (∃ d, owns (c : Thread nD τ) (ms0_20 t) fullShare ((dats m 0 c).before 20 t d)) ∗ (∃ Y, ⌜((dats m 0 c).toRRel fgt0 (Rl m c)).Finds 21 t Y⌝ ∗ owns (c : Thread nD τ) (ms0_21 t) fullShare Y) ∗ (∃ Y, ⌜((dats m 0 c).toRRel fgt0 (Rl m c)).Finds 22 t Y⌝ ∗ owns (c : Thread nD τ) (ms0_22 t) fullShare Y) ∗ (∃ Y, ⌜((dats m 0 c).toRRel fgt0 (Rl m c)).Finds 23 t Y⌝ ∗ owns (c : Thread nD τ) (ms0_23 t) fullShare Y) ∗ (∃ Y, ⌜((dats m 0 c).toRRel fgt0 (Rl m c)).Finds 24 t Y⌝ ∗ owns (c : Thread nD τ) (ms0_24 t) fullShare Y) ∗ (∃ Y, ⌜((dats m 0 c).toRRel fgt0 (Rl m c)).Finds 25 t Y⌝ ∗ owns (c : Thread nD τ) (ms0_25 t) fullShare Y))

/-- What it returns. -/
def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t) ∗ owns (c : Thread nD τ) (ms0_15 t) fullShare ((dats m 0 c).after 15 t) ∗ owns (c : Thread nD τ) (ms0_16 t) fullShare ((dats m 0 c).after 16 t) ∗ owns (c : Thread nD τ) (ms0_17 t) fullShare ((dats m 0 c).after 17 t) ∗ owns (c : Thread nD τ) (ms0_18 t) fullShare ((dats m 0 c).after 18 t) ∗ owns (c : Thread nD τ) (ms0_19 t) fullShare ((dats m 0 c).after 19 t) ∗ owns (c : Thread nD τ) (ms0_20 t) fullShare ((dats m 0 c).after 20 t) ∗ (∃ X, ⌜Rl m c 21 t X⌝ ∗ owns (c : Thread nD τ) (ms0_21 t) fullShare X) ∗ (∃ X, ⌜Rl m c 22 t X⌝ ∗ owns (c : Thread nD τ) (ms0_22 t) fullShare X) ∗ (∃ X, ⌜Rl m c 23 t X⌝ ∗ owns (c : Thread nD τ) (ms0_23 t) fullShare X) ∗ (∃ X, ⌜Rl m c 24 t X⌝ ∗ owns (c : Thread nD τ) (ms0_24 t) fullShare X) ∗ (∃ X, ⌜Rl m c 25 t X⌝ ∗ owns (c : Thread nD τ) (ms0_25 t) fullShare X))

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl]
  rw [after0_0, after0_1, after0_2, after0_3, after0_4, after0_5, after0_6, after0_7, after0_8, after0_9, after0_10, after0_11, after0_12, after0_13, after0_14, after0_15, after0_16, after0_17, after0_18, after0_19, after0_20]
  have hN : t.val < 33 := lt_of_lt_of_eq t.isLt (show cfg0.N = 33 from N_0)
  by_cases h0 : t.val < 32
  · have hc0 : isTok (grid0.coords t) := (isTok_iff t).2 h0
    have hc1 : ¬ isLast (grid0.coords t) := fun h => by have := (isLast_iff t).1 h; omega
    have e := tokPt_tokOf t h0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%Y21, %hY21, H21⟩, ⟨%Y22, %hY22, H22⟩, ⟨%Y23, %hY23, H23⟩, ⟨%Y24, %hY24, H24⟩, ⟨%Y25, %hY25, H25⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) Y22 Y23 Y25).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexists _; iexact H21
    isplitl [H22]; · iexact H22
    isplitl [H23]; · iexact H23
    isplitl [H24]; · iexists _; iexact H24
    isplitl [H25]; · iexact H25
    iintro ⟨H0, H1, H2, H3, H4, H5, H6, H7, H8, H9, H10, H11, H12, H13, H14, H15, H16, H17, H18, H19, H20, ⟨%f21, H21⟩, H22, H23, ⟨%f24, H24⟩, H25⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]
    · iexists _; isplitr; swap
      · unfold owns; iexists _; isplitr; swap; · iexact H21
        ipureintro; rfl
      ipureintro
      show _ = rowsY m c (tokOf t.val)
      rw [runA_L21, View.read_writes_eq_canon _ _ _ (cover21 _ _ _)]
      exact rowsY_eq m c t h0 hc0
    isplitl [H22]
    · iexists _; isplitr; swap
      · unfold owns; iexists _; isplitr; swap; · iexact H22
        ipureintro; rfl
      ipureintro
      show ∀ j : S32x512.Idx, (j 0).val ≤ t.val → _ = attRows m c j
      rw [runA_L22]
      refine row_step _ _ t.val h0 _ (off1_eq t h0) _ _ (att_eq m c t h0 hc0) ?_
      rw [(hs0_22 t).read_unread]
      exact finds22 m c t Y22 hY22
    isplitl [H23]
    · iexists _; isplitr; swap
      · unfold owns; iexists _; isplitr; swap; · iexact H23
        ipureintro; rfl
      ipureintro
      show ∀ j : S32x512.Idx, (j 0).val ≤ t.val → _ = retRows m c j
      rw [runA_L23]
      refine row_step _ _ t.val h0 _ (off1_eq t h0) _ _ (ret_eq m c t h0 hc0) ?_
      rw [(hs0_23 t).read_unread]
      exact finds23 m c t Y23 hY23
    isplitl [H24]
    · iexists _; isplitr; swap
      · unfold owns; iexists _; isplitr; swap; · iexact H24
        ipureintro; rfl
      ipureintro
      show _ = stBlk m c (tokOf t.val)
      rw [runA_L24, View.read_writes_eq_canon _ _ _ (cover24 _ _ _)]
      exact stBlk_eq m c t h0 hc0
    iexists _; isplitr; swap
    · iexact H25
    ipureintro
    show t.val = 32 → _
    intro h; omega
  · have h1 : t.val = 32 := by omega
    have hc0 : ¬ isTok (grid0.coords t) := fun h => h0 ((isTok_iff t).1 h)
    have hc1 : isLast (grid0.coords t) := (isLast_iff t).2 h1
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%Y21, %hY21, H21⟩, ⟨%Y22, %hY22, H22⟩, ⟨%Y23, %hY23, H23⟩, ⟨%Y24, %hY24, H24⟩, ⟨%Y25, %hY25, H25⟩⟩
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) Y21 Y22 Y23 Y24).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    iintro ⟨H0, H1, H2, H3, H4, H5, H6, H7, H8, H9, H10, H11, H12, H13, H14, H15, H16, H17, H18, H19, H20, H21, H22, H23, H24, ⟨%f25, H25⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]
    · iexists _; isplitr; swap; · iexact H21
      ipureintro; exact finds21 m c t h1 Y21 hY21
    isplitl [H22]
    · iexists _; isplitr; swap; · iexact H22
      ipureintro
      show ∀ j : S32x512.Idx, (j 0).val ≤ t.val → _ = attRows m c j
      intro j _; exact finds22 m c t Y22 hY22 j (by have : (j 0).val < 32 := (j 0).isLt; omega)
    isplitl [H23]
    · iexists _; isplitr; swap; · iexact H23
      ipureintro
      show ∀ j : S32x512.Idx, (j 0).val ≤ t.val → _ = retRows m c j
      intro j _; exact finds23 m c t Y23 hY23 j (by have : (j 0).val < 32 := (j 0).isLt; omega)
    isplitl [H24]
    · iexists _; isplitr; swap; · iexact H24
      ipureintro; exact finds24 m c t h1 Y24 hY24
    iexists _; isplitr; swap
    · unfold owns; iexists _; isplitr; swap; · iexact H25
      ipureintro; rfl
    ipureintro
    show t.val = 32 → _ = rowsS m c
    intro _
    have e22 : Y22 = attRows m c := funext fun j => finds22 m c t Y22 hY22 j (by have : (j 0).val < 32 := (j 0).isLt; omega)
    have e23 : Y23 = retRows m c := funext fun j => finds23 m c t Y23 hY23 j (by have : (j 0).val < 32 := (j 0).isLt; omega)
    rw [runB_L25, View.read_writes_eq_canon _ _ _ (cover25 _ _ _), canon25]
    rw [e22, e23]
    exact rowsS_eq m c t h1

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : Pipeline.BodyObligationRel (dats (F := F) m 0 c) (defs₀ (F := F)) Variants.none () Set.univ fgt0 (Rl m c) := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (rdat m) (V m)) :=
  (θ_run defs _ _).mono (fun _ h => h.1) (run_main_quiescent m ρ)

set_option maxHeartbeats 1560000 in
/-- A frame run read at the argument arrays. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(Pipeline.RDat.FramePost.arr_in h c 0 rfl).trans ((hA c 0).trans (V_main_arg0 m c)),
      (Pipeline.RDat.FramePost.arr_in h c 20 rfl).trans ((hA c 20).trans (V_main_arg1 m c)),
      (Pipeline.RDat.FramePost.arr_in h c 1 rfl).trans ((hA c 1).trans (V_main_arg2 m c)),
      (Pipeline.RDat.FramePost.arr_in h c 2 rfl).trans ((hA c 2).trans (V_main_arg3 m c)),
      (Pipeline.RDat.FramePost.arr_in h c 10 rfl).trans ((hA c 10).trans (V_main_arg4 m c)),
      (Pipeline.RDat.FramePost.arr_in h c 11 rfl).trans ((hA c 11).trans (V_main_arg5 m c)),
      (Pipeline.RDat.FramePost.arr_in h c 12 rfl).trans ((hA c 12).trans (V_main_arg6 m c)),
      (Pipeline.RDat.FramePost.arr_in h c 13 rfl).trans ((hA c 13).trans (V_main_arg7 m c)),
      (Pipeline.RDat.FramePost.arr_in h c 14 rfl).trans ((hA c 14).trans (V_main_arg8 m c)),
      (Pipeline.RDat.FramePost.arr_in h c 15 rfl).trans ((hA c 15).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (Pipeline.RDat.FramePost.arr_in h c 3 rfl).trans ((hA c 3).trans (V_main_arg13 m c)),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      (Pipeline.RDat.FramePost.arr_in h c 6 rfl).trans ((hA c 6).trans (V_main_arg16 m c)),
      (Pipeline.RDat.FramePost.arr_in h c 7 rfl).trans ((hA c 7).trans (V_main_arg17 m c)),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (rdat m) (A_eq m) (run_main m ρ)

/-- The kernel runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.KernelIdeal.Mix

end
-- ==== Proof.Final.lean ====
module

public import proofs.«01_k».proof.Proof.FfnK
public import proofs.«01_k».proof.Proof.Obl
public import Idealize.ShloMosaic.Lib.Pipeline.ValueKit

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The blocks' places, at every grid point. -/
theorem idx : ∀ t : Fin cfg0.N, win0_0.index t = ![min t.val 31, 0] ∧ win0_1.index t = ![min t.val 31, 0] ∧ win0_2.index t = ![min t.val 31, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0]
    ∧ win0_16.index t = ![min t.val 31, 0, 0, 0, 0] ∧ win0_17.index t = ![min t.val 31, 0, 0, 0] ∧ win0_18.index t = ![0, 0, 0] ∧ win0_19.index t = ![0, 0]
    ∧ win0_20.index t = ![0, 0] ∧ win0_21.index t = ![min t.val 31, 0] ∧ win0_24.index t = ![min t.val 31, 0, 0, 0] ∧ win0_25.index t = ![0, 0] :=
  (by decide +kernel : ∀ t : Fin grid0.N, _)

/-- The prompt result as one array: row `512 u + r` is row `r` of token `u`'s block. -/
def yArr (c : Dev nD) : FVec Ideal S16384x1024 .f32 := fun j =>
  rowsY m c ⟨(j 0).val / 512, by have : (j 0).val < 16384 := (j 0).isLt; omega⟩ (ix2 ⟨(j 0).val % 512, by omega⟩ (j 1))

theorem yArr_of (c : Dev nD) (u : Fin 32) (y : S512x1024.Idx) (e : S16384x1024.Idx) (h0 : (e 0).val = u.val * 512 + (y 0).val)
    (h1 : (e 1).val = (y 1).val) : rowsY m c u y = yArr m c e := by
  have hy : (y 0).val < 512 := (y 0).isLt
  have a : (⟨(e 0).val / 512, by have : (e 0).val < 16384 := (e 0).isLt; omega⟩ : Fin 32) = u := Fin.ext (by show (e 0).val / 512 = u.val; omega)
  have b : (ix2 (⟨(e 0).val % 512, by omega⟩ : Fin 512) (e 1) : S512x1024.Idx) = y := by
    funext k
    match k with
    | ⟨0, _⟩ => exact Fin.ext (by show (e 0).val % 512 = (y 0).val; omega)
    | ⟨1, _⟩ => exact Fin.ext h1
  unfold yArr
  rw [a, b]

/-- The state result as one array. -/
def stArr (c : Dev nD) : FVec Ideal S32x4x128x128 .f32 := fun j => stBlk m c (j 0) (ix4 0 (j 1) (j 2) (j 3))

theorem stArr_of (c : Dev nD) (u : Fin 32) (y : S1x4x128x128.Idx) (e : S32x4x128x128.Idx) (h0 : (e 0).val = u.val)
    (h1 : (e 1).val = (y 1).val) (h2 : (e 2).val = (y 2).val) (h3 : (e 3).val = (y 3).val) : stBlk m c u y = stArr m c e := by
  have a : (e 0 : Fin 32) = u := Fin.ext h0
  have hy : (y 0).val < 1 := (y 0).isLt
  have b : (ix4 (0 : Fin 1) (e 1) (e 2) (e 3) : S1x4x128x128.Idx) = y := by
    funext k
    match k with
    | ⟨0, _⟩ => exact Fin.ext (by show 0 = (y 0).val; omega)
    | ⟨1, _⟩ => exact Fin.ext h1
    | ⟨2, _⟩ => exact Fin.ext h2
    | ⟨3, _⟩ => exact Fin.ext h3
  show _ = stBlk m c (e 0) _
  rw [← b]
  exact congrArg (fun u => stBlk m c u _) a.symm

theorem arr21 (c : Dev nD) (after : (w' : Fin cfg0.W) → Fin cfg0.N → (cfg0.win w').block.Idx → Elt Ideal (cfg0.win w').elt)
    (h : ∀ u : Fin cfg0.N, (cfg0.win 21).flush u = true → after 21 u = rowsY m c (tokOf u.val)) :
    ((rdat m c).withAfter after).arrAt 21 cfg0.N = yArr m c := by
  refine ((rdat m c).withAfter after).arrAt_eq_of_covers 21 _ (by decide +kernel) fun t hf y => ?_
  rw [Pipeline.RDat.withAfter_after, h t hf]
  blk_simp
  refine yArr_of m c _ _ _ ?_ ?_
  · blk_simp [idx t]; rfl
  · blk_simp [idx t]

theorem arr24 (c : Dev nD) (after : (w' : Fin cfg0.W) → Fin cfg0.N → (cfg0.win w').block.Idx → Elt Ideal (cfg0.win w').elt)
    (h : ∀ u : Fin cfg0.N, (cfg0.win 24).flush u = true → after 24 u = stBlk m c (tokOf u.val)) :
    ((rdat m c).withAfter after).arrAt 24 cfg0.N = stArr m c := by
  refine ((rdat m c).withAfter after).arrAt_eq_of_covers 24 _ (by decide +kernel) fun t hf y => ?_
  rw [Pipeline.RDat.withAfter_after, h t hf]
  blk_simp
  refine stArr_of m c _ _ _ ?_ ?_ ?_ ?_
  · blk_simp [idx t]; have : (y 0).val < 1 := (y 0).isLt; rfl
  · blk_simp [idx t]
  · blk_simp [idx t]
  · blk_simp [idx t]

theorem arr25 (c : Dev nD) (after : (w' : Fin cfg0.W) → Fin cfg0.N → (cfg0.win w').block.Idx → Elt Ideal (cfg0.win w').elt)
    (h : ∀ u : Fin cfg0.N, (cfg0.win 25).flush u = true → after 25 u = rowsS m c) :
    ((rdat m c).withAfter after).arrAt 25 cfg0.N = rowsS m c := by
  refine ((rdat m c).withAfter after).arrAt_eq_of_covers 25 _ (by decide +kernel) fun t hf y => ?_
  rw [Pipeline.RDat.withAfter_after, h t hf]
  blk_simp
  blk_ext [idx t]

/-- After every run the three results are `yArr`, `stArr` and `rowsS`, and the arguments are unchanged. -/
theorem finals (r : PUnit × MemSt nD τ sig (Elt Ideal)) (h : Pipeline.RDat.FramePost (cfgs 0) (rdat m) (V m) r) (c : Dev nD) :
    r.2.mem ((c.tc : Thread nD τ).loc main_v118_0) = yArr m c ∧ r.2.mem ((c.tc : Thread nD τ).loc main_v118_3) = stArr m c
      ∧ r.2.mem ((c.tc : Thread nD τ).loc main_v118_4) = rowsS m c := by
  obtain ⟨after, hL, hA⟩ := h.exists_exact c
  refine ⟨(hA 21).trans (arr21 m c after fun u hu => ?_), (hA 24).trans (arr24 m c after fun u hu => ?_), (hA 25).trans (arr25 m c after fun u hu => ?_)⟩
  · exact (dats m 0 c).toRRel_leaves (fgt := fgt0) (Rl := Rl m c) rfl (hL 21 u hu)
  · exact (dats m 0 c).toRRel_leaves (fgt := fgt0) (Rl := Rl m c) rfl (hL 24 u hu)
  · refine (dats m 0 c).toRRel_leaves (fgt := fgt0) (Rl := Rl m c) rfl (hL 25 u hu) ?_
    have := (flush0_25 u).1 hu
    have hu : u.val < 33 := lt_of_lt_of_eq u.isLt N_0
    omega

end Cert.KernelIdeal.Mix

end
-- ==== Proof.Args.lean ====
module

public import proofs.«01_k».proof.Proof.Ent
public import proofs.«01_k».proof.Proof.Final
public import Idealize.ShloMosaic.Lib.Pipeline.ValueKit

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The kernel's argument arrays. -/

abbrev a0 (c : Dev nD) : FVec Ideal S16384x1024 .f32 := m ((c.tc : Thread nD τ).loc main_arg0)
abbrev a1 (c : Dev nD) : FVec Ideal S32x1024 .f32 := m ((c.tc : Thread nD τ).loc main_arg1)
abbrev a2 (c : Dev nD) : FVec Ideal S16384x512 .bf16 := m ((c.tc : Thread nD τ).loc main_arg2)
abbrev a3 (c : Dev nD) : FVec Ideal S16384x512 .bf16 := m ((c.tc : Thread nD τ).loc main_arg3)
abbrev a4 (c : Dev nD) : FVec Ideal S32x512 .f32 := m ((c.tc : Thread nD τ).loc main_arg4)
abbrev a5 (c : Dev nD) : FVec Ideal S32x1024 .f32 := m ((c.tc : Thread nD τ).loc main_arg5)
abbrev a6 (c : Dev nD) : FVec Ideal S32x512 .f32 := m ((c.tc : Thread nD τ).loc main_arg6)
abbrev a7 (c : Dev nD) : FVec Ideal S32x512 .f32 := m ((c.tc : Thread nD τ).loc main_arg7)
abbrev a8 (c : Dev nD) : FVec Ideal S32x512 .f32 := m ((c.tc : Thread nD τ).loc main_arg8)
abbrev a9 (c : Dev nD) : FVec Ideal S32x512 .f32 := m ((c.tc : Thread nD τ).loc main_arg9)
abbrev a10 (c : Dev nD) : FVec Ideal S1x32x2048x2x8x64 .f32 := m ((c.tc : Thread nD τ).loc main_arg10)
abbrev a11 (c : Dev nD) : FVec Ideal S1x32x4x128x128 .f32 := m ((c.tc : Thread nD τ).loc main_arg11)
abbrev a12 (c : Dev nD) : FVec Ideal S32x8 .f32 := m ((c.tc : Thread nD τ).loc main_arg12)
abbrev a13 (c : Dev nD) : FVec Ideal S1024x1024 .bf16 := m ((c.tc : Thread nD τ).loc main_arg13)
abbrev a14 (c : Dev nD) : FVec Ideal S1x1024 .f32 := m ((c.tc : Thread nD τ).loc main_arg14)
abbrev a15 (c : Dev nD) : FVec Ideal S1x1024 .f32 := m ((c.tc : Thread nD τ).loc main_arg15)
abbrev a16 (c : Dev nD) : FVec Ideal S1024x4096 .bf16 := m ((c.tc : Thread nD τ).loc main_arg16)
abbrev a17 (c : Dev nD) : FVec Ideal S4096x1024 .bf16 := m ((c.tc : Thread nD τ).loc main_arg17)
abbrev a18 (c : Dev nD) : FVec Ideal S1x1024 .f32 := m ((c.tc : Thread nD τ).loc main_arg18)
abbrev a19 (c : Dev nD) : FVec Ideal S1x1024 .f32 := m ((c.tc : Thread nD τ).loc main_arg19)

/-! The blocks of a point, read at an index. -/

theorem ins_x3 (c : Dev nD) (t : Fin cfg0.N) (q : Fin 1024) (k : Fin 1024) : (ins m c t).x3 (ix2 q k) = a13 m c (ix2 q k) := by
  show iblk m c 3 t _ = _
  blk_simp [iblk, V, idx t]
  blk_ext [idx t]

theorem ins_x6 (c : Dev nD) (t : Fin cfg0.N) (q : Fin 1024) (k : Fin 4096) : (ins m c t).x6 (ix2 q k) = a16 m c (ix2 q k) := by
  show iblk m c 6 t _ = _
  blk_simp [iblk, V, idx t]
  blk_ext [idx t]

theorem ins_x7 (c : Dev nD) (t : Fin cfg0.N) (q : Fin 4096) (k : Fin 1024) : (ins m c t).x7 (ix2 q k) = a17 m c (ix2 q k) := by
  show iblk m c 7 t _ = _
  blk_simp [iblk, V, idx t]
  blk_ext [idx t]

theorem ins_x4 (c : Dev nD) (t : Fin cfg0.N) (k : Fin 1024) : (ins m c t).x4 (ix2 0 k) = a14 m c (ix2 0 k) := by
  refine Eq.trans ?_ (ent1 m c k)
  show iblk m c 4 t _ = _
  blk_simp [iblk, idx t]
  blk_ext [idx t]

theorem ins_x5 (c : Dev nD) (t : Fin cfg0.N) (k : Fin 1024) : (ins m c t).x5 (ix2 0 k) = a15 m c (ix2 0 k) := by
  refine Eq.trans ?_ (ent3 m c k)
  show iblk m c 5 t _ = _
  blk_simp [iblk, idx t]
  blk_ext [idx t]

theorem ins_x8 (c : Dev nD) (t : Fin cfg0.N) (k : Fin 1024) : (ins m c t).x8 (ix2 0 k) = a18 m c (ix2 0 k) := by
  refine Eq.trans ?_ (ent5 m c k)
  show iblk m c 8 t _ = _
  blk_simp [iblk, idx t]
  blk_ext [idx t]

theorem ins_x9 (c : Dev nD) (t : Fin cfg0.N) (k : Fin 1024) : (ins m c t).x9 (ix2 0 k) = a19 m c (ix2 0 k) := by
  refine Eq.trans ?_ (ent7 m c k)
  show iblk m c 9 t _ = _
  blk_simp [iblk, idx t]
  blk_ext [idx t]

theorem ins_x0 (c : Dev nD) (u : Fin 32) (r : Fin 512) (k : Fin 1024) (R : Fin 16384) (hR : R.val = u.val * 512 + r.val) : (ins m c (tokPt u)).x0 (ix2 r k) = a0 m c (ix2 R k) := by
  show iblk m c 0 (tokPt u) _ = _
  have hu : (tokPt u).val = u.val := rfl
  blk_simp [iblk, V, idx (tokPt u)]
  refine congrArg (a0 m c) ?_
  funext d
  match d with
  | ⟨0, _⟩ => exact Fin.ext (by blk_simp [idx (tokPt u)]; omega)
  | ⟨1, _⟩ => exact Fin.ext (by blk_simp [idx (tokPt u)])

theorem ins_x1 (c : Dev nD) (u : Fin 32) (r : Fin 512) (k : Fin 512) (R : Fin 16384) (hR : R.val = u.val * 512 + r.val) : (ins m c (tokPt u)).x1 (ix2 r k) = a2 m c (ix2 R k) := by
  show iblk m c 1 (tokPt u) _ = _
  have hu : (tokPt u).val = u.val := rfl
  blk_simp [iblk, V, idx (tokPt u)]
  refine congrArg (a2 m c) ?_
  funext d
  match d with
  | ⟨0, _⟩ => exact Fin.ext (by blk_simp [idx (tokPt u)]; omega)
  | ⟨1, _⟩ => exact Fin.ext (by blk_simp [idx (tokPt u)])

theorem ins_x2 (c : Dev nD) (u : Fin 32) (r : Fin 512) (k : Fin 512) (R : Fin 16384) (hR : R.val = u.val * 512 + r.val) : (ins m c (tokPt u)).x2 (ix2 r k) = a3 m c (ix2 R k) := by
  show iblk m c 2 (tokPt u) _ = _
  have hu : (tokPt u).val = u.val := rfl
  blk_simp [iblk, V, idx (tokPt u)]
  refine congrArg (a3 m c) ?_
  funext d
  match d with
  | ⟨0, _⟩ => exact Fin.ext (by blk_simp [idx (tokPt u)]; omega)
  | ⟨1, _⟩ => exact Fin.ext (by blk_simp [idx (tokPt u)])

theorem ins_x10 (c : Dev nD) (t : Fin cfg0.N) (q : Fin 32) (k : Fin 512) : (ins m c t).x10 (ix2 q k) = a4 m c (ix2 q k) := by
  show iblk m c 10 t _ = _
  blk_simp [iblk, V, idx t]
  blk_ext [idx t]

theorem ins_x11 (c : Dev nD) (t : Fin cfg0.N) (q : Fin 32) (k : Fin 1024) : (ins m c t).x11 (ix2 q k) = a5 m c (ix2 q k) := by
  show iblk m c 11 t _ = _
  blk_simp [iblk, V, idx t]
  blk_ext [idx t]

theorem ins_x12 (c : Dev nD) (t : Fin cfg0.N) (q : Fin 32) (k : Fin 512) : (ins m c t).x12 (ix2 q k) = a6 m c (ix2 q k) := by
  show iblk m c 12 t _ = _
  blk_simp [iblk, V, idx t]
  blk_ext [idx t]

theorem ins_x13 (c : Dev nD) (t : Fin cfg0.N) (q : Fin 32) (k : Fin 512) : (ins m c t).x13 (ix2 q k) = a7 m c (ix2 q k) := by
  show iblk m c 13 t _ = _
  blk_simp [iblk, V, idx t]
  blk_ext [idx t]

theorem ins_x14 (c : Dev nD) (t : Fin cfg0.N) (q : Fin 32) (k : Fin 512) : (ins m c t).x14 (ix2 q k) = a8 m c (ix2 q k) := by
  show iblk m c 14 t _ = _
  blk_simp [iblk, V, idx t]
  blk_ext [idx t]

theorem ins_x15 (c : Dev nD) (t : Fin cfg0.N) (q : Fin 32) (k : Fin 512) : (ins m c t).x15 (ix2 q k) = a9 m c (ix2 q k) := by
  show iblk m c 15 t _ = _
  blk_simp [iblk, V, idx t]
  blk_ext [idx t]

theorem ins_x20 (c : Dev nD) (t : Fin cfg0.N) (q : Fin 32) (k : Fin 1024) : (ins m c t).x20 (ix2 q k) = a1 m c (ix2 q k) := by
  show iblk m c 20 t _ = _
  blk_simp [iblk, V, idx t]
  blk_ext [idx t]

theorem ins_x16 (c : Dev nD) (u : Fin 32) (i : Fin 2) (h : Fin 8) (e : Fin 64) (l : Fin 2048) : (ins m c (tokPt u)).x16 (ix5 0 i h e l) = a10 m c (ix6 0 u l i h e) := by
  refine Eq.trans ?_ (ent82 m c u i h e l)
  show iblk m c 16 (tokPt u) _ = _
  have hu : (tokPt u).val = u.val := rfl
  have hu' := u.isLt
  blk_simp [iblk, idx (tokPt u)]
  refine congrArg (V m c main_v82) ?_
  funext d
  match d with
  | ⟨0, _⟩ => exact Fin.ext (by blk_simp [idx (tokPt u)]; try omega)
  | ⟨1, _⟩ => exact Fin.ext (by blk_simp [idx (tokPt u)])
  | ⟨2, _⟩ => exact Fin.ext (by blk_simp [idx (tokPt u)])
  | ⟨3, _⟩ => exact Fin.ext (by blk_simp [idx (tokPt u)])
  | ⟨4, _⟩ => exact Fin.ext (by blk_simp [idx (tokPt u)])

theorem ins_x17 (c : Dev nD) (u : Fin 32) (h : Fin 4) (a b : Fin 128) : (ins m c (tokPt u)).x17 (ix4 0 h a b) = a11 m c (ix5 0 u h a b) := by
  refine Eq.trans ?_ (ent83 m c u h a b)
  show iblk m c 17 (tokPt u) _ = _
  have hu : (tokPt u).val = u.val := rfl
  have hu' := u.isLt
  blk_simp [iblk, idx (tokPt u)]
  refine congrArg (V m c main_v83) ?_
  funext d
  match d with
  | ⟨0, _⟩ => exact Fin.ext (by blk_simp [idx (tokPt u)]; try omega)
  | ⟨1, _⟩ => exact Fin.ext (by blk_simp [idx (tokPt u)])
  | ⟨2, _⟩ => exact Fin.ext (by blk_simp [idx (tokPt u)])
  | ⟨3, _⟩ => exact Fin.ext (by blk_simp [idx (tokPt u)])

theorem ins_x18 (c : Dev nD) (t : Fin cfg0.N) (i : Fin 3) (h : Fin 8) (l : Fin 2048) : (ins m c t).x18 (ix3 i h l) = (show FVec Ideal S3x8x2048 .f32 from V m c main_v117) (ix3 i h l) := by
  show iblk m c 18 t _ = _
  blk_simp [iblk, idx t]
  blk_ext [idx t]

theorem ins_x19 (c : Dev nD) (t : Fin cfg0.N) (h : Fin 8) (l : Fin 128) : (ins m c t).x19 (ix2 h l) = (show FVec Ideal S8x128 .f32 from V m c main_v86) (ix2 h l) := by
  show iblk m c 19 t _ = _
  blk_simp [iblk, idx t]
  blk_ext [idx t]

end Cert.KernelIdeal.Mix

end
-- ==== Proof.Ret.lean ====
module

public import proofs.«01_k».proof.Proof.Args
public import Idealize.ShloMosaic.Lib.Pipeline.ValueKit

@[expose] public section

set_option maxRecDepth 16384

noncomputable section

namespace Cert.Mix

open Idealize.ShloMosaic

/-! One head of one step of the retention recurrence, over the extended reals. -/

/-- The head width as a value. -/
def c128 : EReal := Ideal.ofBits .f32 0x43000000#32
/-- The head norm's epsilon. -/
def cEpsR : EReal := Ideal.ofBits .f32 0x358637BD#32
/-- The output of a head before the norm. -/
def retv (q k v : Fin 128 → EReal) (S : Fin 128 → Fin 128 → EReal) (γ : EReal) (e : Fin 128) : EReal :=
  (∑ d, q d * k d) * v e + (∑ d, q d * S d e) * γ
/-- The mean of a head. -/
def meanR (z : Fin 128 → EReal) : EReal := Ideal.div (∑ k, z k) c128
/-- A head, centred, divided by its standard deviation and gated. -/
def gnv (g : EReal) (z : Fin 128 → EReal) (e : Fin 128) : EReal :=
  (g * Ideal.logistic g) * ((z e - meanR z) * Ideal.rsqrt (Ideal.div (∑ k, (z k - meanR z) * (z k - meanR z)) c128 + cEpsR))
/-- The decays of the four heads. -/
def dec : Fin 4 → EReal := ![Ideal.ofBits .f32 0x3F780000#32, Ideal.ofBits .f32 0x3F7C0000#32, Ideal.ofBits .f32 0x3F7E0000#32, Ideal.ofBits .f32 0x3F7F0000#32]

/-- The column of entry `e` of head `hd`. -/
def hx (hd : Fin 4) (e : Fin 128) : Fin 512 := ⟨hd.val * 128 + e.val, by omega⟩

theorem hx0 (e : Fin 128) (h : e.val < 512) : (⟨e.val, h⟩ : Fin 512) = hx 0 e := Fin.ext (by simp [hx])
theorem hx1 (e : Fin 128) (h : 128 + e.val < 512) : (⟨128 + e.val, h⟩ : Fin 512) = hx 1 e := Fin.ext (by simp [hx])
theorem hx2 (e : Fin 128) (h : 256 + e.val < 512) : (⟨256 + e.val, h⟩ : Fin 512) = hx 2 e := Fin.ext (by simp [hx])
theorem hx3 (e : Fin 128) (h : 384 + e.val < 512) : (⟨384 + e.val, h⟩ : Fin 512) = hx 3 e := Fin.ext (by simp [hx])

end Cert.Mix

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The row loads and the state loads. -/

theorem v353_at (c : Dev nD) (u : Fin 32) (k : Fin 512) : A.v353 (grid0.coords (tokPt u)) (isTok_tokPt u) (ins m c (tokPt u)) (ix2 0 k) = a6 m c (ix2 u k) := by
  have e : (k0_off1 (grid0.coords (tokPt u))) 0 = u.val := by revert u; decide +kernel
  have e1 : (k0_off1 (grid0.coords (tokPt u))) 1 = 0 := by revert u; decide +kernel
  rw [← ins_x12 m c (tokPt u) u k]
  unfold A.v353
  pointwise []
  refine congrArg (ins m c (tokPt u)).x12 ?_
  funext d
  match d with
  | ⟨0, _⟩ => exact Fin.ext e
  | ⟨1, _⟩ => exact Fin.ext (by show (k0_off1 (grid0.coords (tokPt u))) 1 + k.val = k.val; omega)

theorem v355_at (c : Dev nD) (u : Fin 32) (k : Fin 512) : A.v355 (grid0.coords (tokPt u)) (isTok_tokPt u) (ins m c (tokPt u)) (ix2 0 k) = a7 m c (ix2 u k) := by
  have e : (k0_off1 (grid0.coords (tokPt u))) 0 = u.val := by revert u; decide +kernel
  have e1 : (k0_off1 (grid0.coords (tokPt u))) 1 = 0 := by revert u; decide +kernel
  rw [← ins_x13 m c (tokPt u) u k]
  unfold A.v355
  pointwise []
  refine congrArg (ins m c (tokPt u)).x13 ?_
  funext d
  match d with
  | ⟨0, _⟩ => exact Fin.ext e
  | ⟨1, _⟩ => exact Fin.ext (by show (k0_off1 (grid0.coords (tokPt u))) 1 + k.val = k.val; omega)

theorem v357_at (c : Dev nD) (u : Fin 32) (k : Fin 512) : A.v357 (grid0.coords (tokPt u)) (isTok_tokPt u) (ins m c (tokPt u)) (ix2 0 k) = a8 m c (ix2 u k) := by
  have e : (k0_off1 (grid0.coords (tokPt u))) 0 = u.val := by revert u; decide +kernel
  have e1 : (k0_off1 (grid0.coords (tokPt u))) 1 = 0 := by revert u; decide +kernel
  rw [← ins_x14 m c (tokPt u) u k]
  unfold A.v357
  pointwise []
  refine congrArg (ins m c (tokPt u)).x14 ?_
  funext d
  match d with
  | ⟨0, _⟩ => exact Fin.ext e
  | ⟨1, _⟩ => exact Fin.ext (by show (k0_off1 (grid0.coords (tokPt u))) 1 + k.val = k.val; omega)

theorem v359_at (c : Dev nD) (u : Fin 32) (k : Fin 512) : A.v359 (grid0.coords (tokPt u)) (isTok_tokPt u) (ins m c (tokPt u)) (ix2 0 k) = a9 m c (ix2 u k) := by
  have e : (k0_off1 (grid0.coords (tokPt u))) 0 = u.val := by revert u; decide +kernel
  have e1 : (k0_off1 (grid0.coords (tokPt u))) 1 = 0 := by revert u; decide +kernel
  rw [← ins_x15 m c (tokPt u) u k]
  unfold A.v359
  pointwise []
  refine congrArg (ins m c (tokPt u)).x15 ?_
  funext d
  match d with
  | ⟨0, _⟩ => exact Fin.ext e
  | ⟨1, _⟩ => exact Fin.ext (by show (k0_off1 (grid0.coords (tokPt u))) 1 + k.val = k.val; omega)

theorem v363_at (c : Dev nD) (u : Fin 32) (a b : Fin 128) : A.v363 (grid0.coords (tokPt u)) (isTok_tokPt u) (ins m c (tokPt u)) (ix4 0 0 a b) = a11 m c (ix5 0 u 0 a b) := by
  rw [← ins_x17 m c u 0 a b]
  unfold A.v363
  pointwise []

theorem v415_at (c : Dev nD) (u : Fin 32) (a b : Fin 128) : A.v415 (grid0.coords (tokPt u)) (isTok_tokPt u) (ins m c (tokPt u)) (ix4 0 0 a b) = a11 m c (ix5 0 u 1 a b) := by
  rw [← ins_x17 m c u 1 a b]
  unfold A.v415
  pointwise []

theorem v467_at (c : Dev nD) (u : Fin 32) (a b : Fin 128) : A.v467 (grid0.coords (tokPt u)) (isTok_tokPt u) (ins m c (tokPt u)) (ix4 0 0 a b) = a11 m c (ix5 0 u 2 a b) := by
  rw [← ins_x17 m c u 2 a b]
  unfold A.v467
  pointwise []

theorem v519_at (c : Dev nD) (u : Fin 32) (a b : Fin 128) : A.v519 (grid0.coords (tokPt u)) (isTok_tokPt u) (ins m c (tokPt u)) (ix4 0 0 a b) = a11 m c (ix5 0 u 3 a b) := by
  rw [← ins_x17 m c u 3 a b]
  unfold A.v519
  pointwise []

theorem pay67_at (v353 v355 v357 : Vec Ideal S1x512 .f32) (v363 : Vec Ideal S1x1x128x128 .f32) (e : Fin 128) : k0_pay67 (F := Ideal) v353 v355 v357 v363 (ix2 0 e)
    = retv (fun d => v353 (ix2 0 (hx 0 d))) (fun d => v355 (ix2 0 (hx 0 d))) (fun d => v357 (ix2 0 (hx 0 d))) (fun d e => v363 (ix4 0 0 d e)) (dec 0) e := by
  pointwise [k0_pay67, k0_pay64, k0_pay65, k0_pay66]
  simp only [hx0]
  rfl

theorem pay76_at (v353 v355 v357 : Vec Ideal S1x512 .f32) (v363 : Vec Ideal S1x1x128x128 .f32) (e : Fin 128) : k0_pay76 (F := Ideal) v353 v355 v357 v363 (ix2 0 e)
    = retv (fun d => v353 (ix2 0 (hx 1 d))) (fun d => v355 (ix2 0 (hx 1 d))) (fun d => v357 (ix2 0 (hx 1 d))) (fun d e => v363 (ix4 0 0 d e)) (dec 1) e := by
  pointwise [k0_pay76, k0_pay73, k0_pay74, k0_pay75]
  simp only [hx1]
  rfl

theorem pay84_at (v353 v355 v357 : Vec Ideal S1x512 .f32) (v363 : Vec Ideal S1x1x128x128 .f32) (e : Fin 128) : k0_pay84 (F := Ideal) v353 v355 v357 v363 (ix2 0 e)
    = retv (fun d => v353 (ix2 0 (hx 2 d))) (fun d => v355 (ix2 0 (hx 2 d))) (fun d => v357 (ix2 0 (hx 2 d))) (fun d e => v363 (ix4 0 0 d e)) (dec 2) e := by
  pointwise [k0_pay84, k0_pay81, k0_pay82, k0_pay83]
  simp only [hx2]
  rfl

theorem pay91_at (v353 v355 v357 : Vec Ideal S1x512 .f32) (v363 : Vec Ideal S1x1x128x128 .f32) (e : Fin 128) : k0_pay91 (F := Ideal) v353 v355 v357 v363 (ix2 0 e)
    = retv (fun d => v353 (ix2 0 (hx 3 d))) (fun d => v355 (ix2 0 (hx 3 d))) (fun d => v357 (ix2 0 (hx 3 d))) (fun d e => v363 (ix4 0 0 d e)) (dec 3) e := by
  pointwise [k0_pay91, k0_pay88, k0_pay89, k0_pay90]
  simp only [hx3]
  rfl

theorem v411_at (c : Dev nD) (u : Fin 32) (e : Fin 128) : A.v411 (grid0.coords (tokPt u)) (isTok_tokPt u) (ins m c (tokPt u)) (ix2 0 e)
    = gnv (a9 m c (ix2 u (hx 0 e))) (retv (fun d => a6 m c (ix2 u (hx 0 d))) (fun d => a7 m c (ix2 u (hx 0 d))) (fun d => a8 m c (ix2 u (hx 0 d)))
      (fun d e => a11 m c (ix5 0 u 0 d e)) (dec 0)) e := by
  pointwise [A.v411, k0_pay72, A.v390, k0_pay69, A.cst_134, A.v394, k0_pay70, A.v399, k0_pay71, A.v378]
  simp only [pay67_at, hx0, v353_at, v355_at, v357_at, v359_at, v363_at, v415_at, v467_at, v519_at]
  rfl

theorem v463_at (c : Dev nD) (u : Fin 32) (e : Fin 128) : A.v463 (grid0.coords (tokPt u)) (isTok_tokPt u) (ins m c (tokPt u)) (ix2 0 e)
    = gnv (a9 m c (ix2 u (hx 1 e))) (retv (fun d => a6 m c (ix2 u (hx 1 d))) (fun d => a7 m c (ix2 u (hx 1 d))) (fun d => a8 m c (ix2 u (hx 1 d)))
      (fun d e => a11 m c (ix5 0 u 1 d e)) (dec 1)) e := by
  pointwise [A.v463, k0_pay80, A.v430, A.v442, k0_pay78, A.v444, k0_pay79]
  simp only [pay76_at, hx1, v353_at, v355_at, v357_at, v359_at, v363_at, v415_at, v467_at, v519_at]
  rfl

theorem v515_at (c : Dev nD) (u : Fin 32) (e : Fin 128) : A.v515 (grid0.coords (tokPt u)) (isTok_tokPt u) (ins m c (tokPt u)) (ix2 0 e)
    = gnv (a9 m c (ix2 u (hx 2 e))) (retv (fun d => a6 m c (ix2 u (hx 2 d))) (fun d => a7 m c (ix2 u (hx 2 d))) (fun d => a8 m c (ix2 u (hx 2 d)))
      (fun d e => a11 m c (ix5 0 u 2 d e)) (dec 2)) e := by
  pointwise [A.v515, k0_pay87, A.v482]
  simp only [pay84_at, hx2, v353_at, v355_at, v357_at, v359_at, v363_at, v415_at, v467_at, v519_at]
  rfl

/-- A token's retention output. -/
theorem retRow_at (c : Dev nD) (u : Fin 32) (hd : Fin 4) (e : Fin 128) : retRow m c u (ix2 0 (hx hd e))
    = gnv (a9 m c (ix2 u (hx hd e))) (retv (fun d => a6 m c (ix2 u (hx hd d))) (fun d => a7 m c (ix2 u (hx hd d))) (fun d => a8 m c (ix2 u (hx hd d)))
      (fun d e => a11 m c (ix5 0 u hd d e)) (dec hd)) e := by
  obtain ⟨k, hk⟩ : ∃ k : Fin 512, k = hx hd e := ⟨_, rfl⟩
  have hkv : k.val = hd.val * 128 + e.val := by rw [hk]; rfl
  unfold retRow A.p23_0
  rw [← hk]
  pointwise [k0_pay93]
  fin_vals hd with hh
  · obtain rfl : hd = 0 := Fin.ext hh
    rw [dif_pos (show k.val < 128 by simp at hkv; omega)]
    rw [show (⟨k.val, by simp at hkv; omega⟩ : Fin 128) = e from Fin.ext (by simp at hkv; simp; omega), v411_at, hk]
  · obtain rfl : hd = 1 := Fin.ext hh
    rw [dif_neg (show ¬ k.val < 128 by simp at hkv; omega), dif_pos (show k.val - 128 < 128 by simp at hkv; omega)]
    rw [show (⟨k.val - 128, by simp at hkv; omega⟩ : Fin 128) = e from Fin.ext (by simp at hkv; simp; omega), v463_at, hk]
  · obtain rfl : hd = 2 := Fin.ext hh
    rw [dif_neg (show ¬ k.val < 128 by simp at hkv; omega), dif_neg (show ¬ k.val - 128 < 128 by simp at hkv; omega), dif_pos (show k.val - 128 - 128 < 128 by simp at hkv; omega)]
    rw [show (⟨k.val - 128 - 128, by simp at hkv; omega⟩ : Fin 128) = e from Fin.ext (by simp at hkv; simp; omega), v515_at, hk]
  · obtain rfl : hd = 3 := Fin.ext hh
    rw [dif_neg (show ¬ k.val < 128 by simp at hkv; omega), dif_neg (show ¬ k.val - 128 < 128 by simp at hkv; omega), dif_neg (show ¬ k.val - 128 - 128 < 128 by simp at hkv; omega)]
    simp only [show (⟨k.val - 128 - 128 - 128, by simp at hkv; omega⟩ : Fin 128) = e from Fin.ext (by simp at hkv; simp; omega),
      show (⟨384 + (k.val - 128 - 128 - 128), by simp at hkv; omega⟩ : Fin 512) = k from Fin.ext (by simp at hkv; simp; omega)]
    simp only [A.v534, pay91_at, v353_at, v355_at, v357_at, v359_at, v519_at, hk]
    rfl

/-- A token's new retention state. -/
theorem stBlk_at (c : Dev nD) (u : Fin 32) (hd : Fin 4) (a b : Fin 128) : stBlk m c u (ix4 0 hd a b)
    = dec hd * a11 m c (ix5 0 u hd a b) + a7 m c (ix2 u (hx hd a)) * a8 m c (ix2 u (hx hd b)) := by
  unfold stBlk A.L24
  obtain ⟨y, hy⟩ : ∃ y : S1x4x128x128.Idx, y = ix4 0 hd a b := ⟨_, rfl⟩
  rw [← hy]
  have e1 : (y 1).val = hd.val := by rw [hy]; rfl
  have e2 : (y 2).val = a.val := by rw [hy]; rfl
  have e3 : (y 3).val = b.val := by rw [hy]; rfl
  clear hy
  canon_tiles x h
  case piece0 =>
    obtain rfl : hd = 3 := Fin.ext (by simp; omega)
    obtain rfl : (x 2 : Fin 128) = a := Fin.ext (by omega)
    obtain rfl : (x 3 : Fin 128) = b := Fin.ext (by omega)
    have ex : x = ix4 0 0 (x 2) (x 3) := by
      funext d
      match d with
      | ⟨0, _⟩ => exact Fin.ext (by show (x 0).val = 0; omega)
      | ⟨1, _⟩ => exact Fin.ext (by show (x 1).val = 0; omega)
      | ⟨2, _⟩ => rfl
      | ⟨3, _⟩ => rfl
    rw [ex]
    obtain ⟨p, hp⟩ : ∃ p : Fin 128, p = x 2 := ⟨_, rfl⟩
    obtain ⟨q, hq⟩ : ∃ q : Fin 128, q = x 3 := ⟨_, rfl⟩
    rw [← hp, ← hq]
    pointwise [A.p24_3, k0_pay92, A.v517, A.v518, A.v520, A.cst_177, k0_pay88, k0_pay89, k0_pay90]
    simp only [hx3, v355_at, v357_at, v363_at, v415_at, v467_at, v519_at]
    rfl
  case piece1 =>
    obtain rfl : hd = 2 := Fin.ext (by simp; omega)
    obtain rfl : (x 2 : Fin 128) = a := Fin.ext (by omega)
    obtain rfl : (x 3 : Fin 128) = b := Fin.ext (by omega)
    have ex : x = ix4 0 0 (x 2) (x 3) := by
      funext d
      match d with
      | ⟨0, _⟩ => exact Fin.ext (by show (x 0).val = 0; omega)
      | ⟨1, _⟩ => exact Fin.ext (by show (x 1).val = 0; omega)
      | ⟨2, _⟩ => rfl
      | ⟨3, _⟩ => rfl
    rw [ex]
    obtain ⟨p, hp⟩ : ∃ p : Fin 128, p = x 2 := ⟨_, rfl⟩
    obtain ⟨q, hq⟩ : ∃ q : Fin 128, q = x 3 := ⟨_, rfl⟩
    rw [← hp, ← hq]
    pointwise [A.p24_2, k0_pay86, A.v490, k0_pay85, k0_pay81, k0_pay82, k0_pay83]
    simp only [hx2, v355_at, v357_at, v363_at, v415_at, v467_at, v519_at]
    rfl
  case piece2 =>
    obtain rfl : hd = 1 := Fin.ext (by simp; omega)
    obtain rfl : (x 2 : Fin 128) = a := Fin.ext (by omega)
    obtain rfl : (x 3 : Fin 128) = b := Fin.ext (by omega)
    have ex : x = ix4 0 0 (x 2) (x 3) := by
      funext d
      match d with
      | ⟨0, _⟩ => exact Fin.ext (by show (x 0).val = 0; omega)
      | ⟨1, _⟩ => exact Fin.ext (by show (x 1).val = 0; omega)
      | ⟨2, _⟩ => rfl
      | ⟨3, _⟩ => rfl
    rw [ex]
    obtain ⟨p, hp⟩ : ∃ p : Fin 128, p = x 2 := ⟨_, rfl⟩
    obtain ⟨q, hq⟩ : ∃ q : Fin 128, q = x 3 := ⟨_, rfl⟩
    rw [← hp, ← hq]
    pointwise [A.p24_1, k0_pay77, k0_pay73, k0_pay74, k0_pay75]
    simp only [hx1, v355_at, v357_at, v363_at, v415_at, v467_at, v519_at]
    rfl
  case piece3 =>
    obtain rfl : hd = 0 := Fin.ext (by simp; omega)
    obtain rfl : (x 2 : Fin 128) = a := Fin.ext (by omega)
    obtain rfl : (x 3 : Fin 128) = b := Fin.ext (by omega)
    have ex : x = ix4 0 0 (x 2) (x 3) := by
      funext d
      match d with
      | ⟨0, _⟩ => exact Fin.ext (by show (x 0).val = 0; omega)
      | ⟨1, _⟩ => exact Fin.ext (by show (x 1).val = 0; omega)
      | ⟨2, _⟩ => rfl
      | ⟨3, _⟩ => rfl
    rw [ex]
    obtain ⟨p, hp⟩ : ∃ p : Fin 128, p = x 2 := ⟨_, rfl⟩
    obtain ⟨q, hq⟩ : ∃ q : Fin 128, q = x 3 := ⟨_, rfl⟩
    rw [← hp, ← hq]
    pointwise [A.p24_0, k0_pay68, k0_pay64, k0_pay65, k0_pay66]
    simp only [hx0, v355_at, v357_at, v363_at, v415_at, v467_at, v519_at]
    rfl

theorem dec_eq (hd : Fin 4) (w : BitVec 32) (hw : w = (![0x3D000000#32, 0x3C800000#32, 0x3C000000#32, 0x3B800000#32] : Fin 4 → BitVec 32) hd) :
    Ideal.ofBits .f32 0x3F800000#32 - Ideal.ofBits .f32 w = dec hd := by
  subst hw
  fin_cases hd
  all_goals
    simp [dec, Ideal.ofBits, Ideal.ieee]
    rw [← EReal.coe_mul, ← EReal.coe_mul, ← EReal.coe_mul, ← EReal.coe_sub]
    norm_num
end Cert.KernelIdeal.Mix

end
-- ==== Proof.AttSpec.lean ====
module

public import Idealize.ShloMosaic.Lib.Pointwise

@[expose] public section

set_option maxRecDepth 16384

noncomputable section

namespace Cert.Mix

open Idealize.ShloMosaic

/-! One head of the sample tokens' attention, over the extended reals: three dilated windows, each normalised by
its own softmax, mixed by the softmax of their log sums. `Kernel` side: a window is a run of columns whose
off-tap columns hold `⊥`, and the token's own key stands apart. Reference side: the 129 taps of a window. -/

section Kernel
variable {n : ℕ}
/-- The greatest logit of a window. -/
def kmax (t : Fin n → EReal) (s : EReal) : EReal := max (Finset.univ.fold max ⊥ t) s
/-- The sum of a window's exponentials. -/
def kden (t : Fin n → EReal) (s : EReal) : EReal := (∑ x, Ideal.exp (t x - kmax t s)) + Ideal.exp (s - kmax t s)
/-- The log of the sum of a window's exponentials. -/
def klse (t : Fin n → EReal) (s : EReal) : EReal := kmax t s + Ideal.log (kden t s)
end Kernel

/-- The greatest of the three. -/
def top3 (l : Fin 3 → EReal) : EReal := max (max (l 0) (l 1)) (l 2)
/-- The weight of window `i` before normalising. -/
def wexp (l : Fin 3 → EReal) (i : Fin 3) : EReal := Ideal.exp (l i - top3 l)
/-- The sum of the three weights. -/
def wsum (l : Fin 3 → EReal) : EReal := (wexp l 0 + wexp l 1) + wexp l 2
/-- What each exponential of window `i` is multiplied by. -/
def coef (l d : Fin 3 → EReal) (i : Fin 3) : EReal := Ideal.div (wexp l i) (wsum l * d i)

/-- A window's contribution to the weight of cache column `l`: nothing before its first column. -/
def part {n : ℕ} (off : ℕ) (t : Fin n → EReal) (s c : EReal) (l : Fin 2048) : EReal :=
  if h : off ≤ l.val ∧ l.val - off < n then c * Ideal.exp (t ⟨l.val - off, h.2⟩ - kmax t s) else 0

/-- The kernel's log sums. -/
def klses (t1 : Fin 128 → EReal) (t2 : Fin 512 → EReal) (t3 : Fin 2048 → EReal) (s : EReal) : Fin 3 → EReal := ![klse t1 s, klse t2 s, klse t3 s]
/-- The kernel's sums. -/
def kdens (t1 : Fin 128 → EReal) (t2 : Fin 512 → EReal) (t3 : Fin 2048 → EReal) (s : EReal) : Fin 3 → EReal := ![kden t1 s, kden t2 s, kden t3 s]
/-- The weight of cache column `l`. -/
def kweight (t1 : Fin 128 → EReal) (t2 : Fin 512 → EReal) (t3 : Fin 2048 → EReal) (s : EReal) (l : Fin 2048) : EReal :=
  (part 0 t3 s (coef (klses t1 t2 t3 s) (kdens t1 t2 t3 s) 2) l + part 1536 t2 s (coef (klses t1 t2 t3 s) (kdens t1 t2 t3 s) 1) l)
    + part 1920 t1 s (coef (klses t1 t2 t3 s) (kdens t1 t2 t3 s) 0) l
/-- The weight of the token's own value. -/
def kself (t1 : Fin 128 → EReal) (t2 : Fin 512 → EReal) (t3 : Fin 2048 → EReal) (s : EReal) : EReal :=
  (coef (klses t1 t2 t3 s) (kdens t1 t2 t3 s) 0 * Ideal.exp (s - kmax t1 s) + coef (klses t1 t2 t3 s) (kdens t1 t2 t3 s) 1 * Ideal.exp (s - kmax t2 s))
    + coef (klses t1 t2 t3 s) (kdens t1 t2 t3 s) 2 * Ideal.exp (s - kmax t3 s)
/-- The kernel's output entry. -/
def kout (t1 : Fin 128 → EReal) (t2 : Fin 512 → EReal) (t3 : Fin 2048 → EReal) (s : EReal) (V : Fin 2048 → EReal) (v : EReal) : EReal :=
  (∑ l, V l * kweight t1 t2 t3 s l) + kself t1 t2 t3 s * v

/-- The greatest logit of a window of taps. -/
def rmax (L : Fin 129 → EReal) : EReal := Finset.univ.fold max ⊥ L
/-- The sum of its exponentials. -/
def rden (L : Fin 129 → EReal) : EReal := ∑ j, Ideal.exp (L j - rmax L)
/-- The log of that sum. -/
def rlse (L : Fin 129 → EReal) : EReal := rmax L + Ideal.log (rden L)
/-- The greatest log sum. -/
def rtop (l : Fin 3 → EReal) : EReal := max ⊥ (Finset.univ.fold max ⊥ l)
/-- The weight of window `i`. -/
def rw3 (l : Fin 3 → EReal) (i : Fin 3) : EReal := Ideal.div (Ideal.exp (l i - rtop l)) (∑ j, Ideal.exp (l j - rtop l))
/-- The softmax average over a window. -/
def ravg (L G : Fin 129 → EReal) : EReal := ∑ j, Ideal.div (Ideal.exp (L j - rmax L)) (rden L) * G j
/-- The reference's output entry. -/
def rout (L G : Fin 3 → Fin 129 → EReal) : EReal :=
  rw3 (fun i => rlse (L i)) 0 * ravg (L 0) (G 0) + rw3 (fun i => rlse (L i)) 1 * ravg (L 1) (G 1) + rw3 (fun i => rlse (L i)) 2 * ravg (L 2) (G 2)

theorem bot_sub (x : EReal) : (⊥ : EReal) - x = ⊥ := by
  rw [sub_eq_add_neg]; exact EReal.bot_add _

/-- The tap a column stands for, the window's columns and the taps matched. -/
structure Taps {n : ℕ} (t : Fin n → EReal) (L : Fin 129 → EReal) (σ : Fin 128 → Fin n) : Prop where
  inj : Function.Injective σ
  on : ∀ j, t (σ j) = L j.succ
  off : ∀ x, x ∉ Set.range σ → t x = ⊥

theorem fold_max_eq_sup {ι : Type} (s : Finset ι) (f : ι → EReal) : s.fold max ⊥ f = s.sup f := rfl

section
variable {n : ℕ} {t : Fin n → EReal} {L : Fin 129 → EReal} {σ : Fin 128 → Fin n} {s : EReal}

theorem Taps.max_eq (h : Taps t L σ) (h0 : L 0 = s) : kmax t s = rmax L := by
  unfold kmax rmax
  rw [fold_max_eq_sup, fold_max_eq_sup]
  apply le_antisymm
  · refine max_le (Finset.sup_le fun x _ => ?_) ?_
    · by_cases hx : x ∈ Set.range σ
      · obtain ⟨j, rfl⟩ := hx
        rw [h.on]
        exact Finset.le_sup (f := L) (Finset.mem_univ _)
      · rw [h.off x hx]
        exact bot_le
    · rw [← h0]
      exact Finset.le_sup (f := L) (Finset.mem_univ _)
  · refine Finset.sup_le fun j _ => ?_
    refine Fin.cases ?_ (fun j => ?_) j
    · rw [h0]; exact le_max_right _ _
    · rw [← h.on]
      exact le_max_of_le_left (Finset.le_sup (f := t) (Finset.mem_univ _))

theorem Taps.den_eq (h : Taps t L σ) (h0 : L 0 = s) : kden t s = rden L := by
  unfold kden rden
  rw [h.max_eq h0, Fin.sum_univ_succ (fun j => Ideal.exp (L j - rmax L)), h0, add_comm]
  refine congrArg (fun z : EReal => Ideal.exp (s - rmax L) + z) ?_
  symm
  refine Fintype.sum_of_injective σ h.inj _ _ (fun x hx => ?_) (fun j => ?_)
  · rw [h.off x hx, bot_sub, Ideal.exp_bot]
  · rw [h.on]

theorem Taps.lse_eq (h : Taps t L σ) (h0 : L 0 = s) : klse t s = rlse L := by
  unfold klse rlse
  rw [h.max_eq h0, h.den_eq h0]
end

theorem top_eq (l : Fin 3 → EReal) : rtop l = top3 l := by
  unfold rtop top3
  rw [fold_max_eq_sup, max_eq_right bot_le]
  apply le_antisymm
  · refine Finset.sup_le fun i _ => ?_
    fin_cases i
    · exact le_max_of_le_left (le_max_left _ _)
    · exact le_max_of_le_left (le_max_right _ _)
    · exact le_max_right _ _
  · exact max_le (max_le (Finset.le_sup (f := l) (Finset.mem_univ _)) (Finset.le_sup (f := l) (Finset.mem_univ _))) (Finset.le_sup (f := l) (Finset.mem_univ _))

theorem wsum_eq (l : Fin 3 → EReal) : (∑ j, Ideal.exp (l j - rtop l)) = wsum l := by
  rw [Fin.sum_univ_three, top_eq]; rfl

/-- Real logits have a real maximum. -/
theorem rmax_real {L : Fin 129 → EReal} (hL : ∀ j, ∃ r : ℝ, L j = r) : ∃ r : ℝ, rmax L = r := by
  unfold rmax
  rw [fold_max_eq_sup]
  obtain ⟨j, -, hj⟩ := Finset.exists_mem_eq_sup Finset.univ ⟨(0 : Fin 129), Finset.mem_univ _⟩ L
  rw [hj]; exact hL j

/-- The sum of the exponentials is a positive real. -/
theorem sum_exp_real {ι : Type} [Fintype ι] [Nonempty ι] {L : ι → EReal} {M : EReal} (hL : ∀ j, ∃ r : ℝ, L j = r) (hM : ∃ r : ℝ, M = r) :
    ∃ r : ℝ, 0 < r ∧ (∑ j, Ideal.exp (L j - M)) = r := by
  choose f hf using hL
  obtain ⟨b, rfl⟩ := hM
  refine ⟨∑ j, Real.exp (f j - b), Finset.sum_pos (fun j _ => Real.exp_pos _) Finset.univ_nonempty, ?_⟩
  rw [show ((∑ j, Real.exp (f j - b) : ℝ) : EReal) = ∑ j, ((Real.exp (f j - b) : ℝ) : EReal) from map_sum (⟨⟨((↑) : ℝ → EReal), rfl⟩, EReal.coe_add⟩ : ℝ →+ EReal) _ _]
  refine Finset.sum_congr rfl fun j _ => ?_
  rw [hf j, ← EReal.coe_sub, Ideal.exp_coe]

theorem rlse_real {L : Fin 129 → EReal} (hL : ∀ j, ∃ r : ℝ, L j = r) : ∃ r : ℝ, rlse L = r := by
  obtain ⟨a, ha⟩ := rmax_real hL
  obtain ⟨d, hd, hd'⟩ := sum_exp_real hL ⟨a, ha⟩
  unfold rlse rden
  rw [hd', ha, Ideal.log_coe, if_neg (not_le.mpr hd), ← EReal.coe_add]
  exact ⟨_, rfl⟩

theorem coe_mul_sum {ι : Type} (s : Finset ι) {r : ℝ} (hr : 0 ≤ r) (f : ι → EReal) : (r : EReal) * ∑ j ∈ s, f j = ∑ j ∈ s, (r : EReal) * f j := by
  classical
  induction s using Finset.induction_on with
  | empty => simp
  | insert a s ha ih => rw [Finset.sum_insert ha, Finset.sum_insert ha, EReal.left_distrib_of_nonneg_of_ne_top (EReal.coe_nonneg.mpr hr) (EReal.coe_ne_top r), ih]

/-- Normalising twice is multiplying by one coefficient: real weights. -/
theorem scale_eq {ι : Type} [Fintype ι] {e es d : ℝ} (he : 0 < e) (hs : 0 < es) (hd : 0 < d) (p : ι → ℝ) (G : ι → EReal) :
    Ideal.div (e : EReal) (es : EReal) * ∑ j, Ideal.div (p j : EReal) (d : EReal) * G j = ∑ j, (Ideal.div (e : EReal) ((es : EReal) * (d : EReal)) * (p j : EReal)) * G j := by
  rw [Ideal.div_coe hs.ne', ← EReal.coe_mul, ← EReal.coe_mul, Ideal.div_coe (mul_pos hs hd).ne', coe_mul_sum _ (by positivity)]
  refine Finset.sum_congr rfl fun j _ => ?_
  rw [Ideal.div_coe hd.ne', ← mul_assoc, ← EReal.coe_mul, ← EReal.coe_mul, ← EReal.coe_mul, ← EReal.coe_mul]
  refine congrArg (fun z : ℝ => (z : EReal) * G j) ?_
  field_simp

/-- A window's columns summed are its taps summed. -/
theorem part_sum {n : ℕ} {t : Fin n → EReal} {L G : Fin 129 → EReal} {σ : Fin 128 → Fin n} {s : EReal} (off : ℕ) (hn : off + n ≤ 2048) (h : Taps t L σ) (h0 : L 0 = s) (c : EReal)
    (V : Fin 2048 → EReal) (hG : ∀ j, G j.succ = V ⟨off + (σ j).val, by omega⟩) :
    (∑ l, V l * part off t s c l) + c * Ideal.exp (s - kmax t s) * G 0 = ∑ j, (c * Ideal.exp (L j - rmax L)) * G j := by
  rw [Fin.sum_univ_succ (fun j => (c * Ideal.exp (L j - rmax L)) * G j), h0, ← h.max_eq h0, add_comm]
  refine congrArg (fun z : EReal => c * Ideal.exp (s - kmax t s) * G 0 + z) ?_
  symm
  refine Fintype.sum_of_injective (fun j => (⟨off + (σ j).val, by omega⟩ : Fin 2048)) (fun a b hab => h.inj (Fin.ext ?_)) _ _ (fun x hx => ?_) (fun j => ?_)
  · have := congrArg Fin.val hab
    simpa using this
  · unfold part
    split_ifs with hh
    · rw [h.off, bot_sub, Ideal.exp_bot, mul_zero, mul_zero]
      rintro ⟨j, hj⟩
      refine hx ⟨j, Fin.ext ?_⟩
      have := congrArg Fin.val hj
      simp only at this ⊢
      omega
    · rw [mul_zero]
  · unfold part
    rw [dif_pos ⟨Nat.le_add_right _ _, by show off + (σ j).val - off < n; omega⟩, hG, mul_comm, ← h.on]
    refine congrArg (fun z => V _ * (c * Ideal.exp (t z - _))) (Fin.ext ?_)
    show (σ j).val = off + (σ j).val - off
    omega

theorem part_nonneg {n : ℕ} (off : ℕ) (t : Fin n → EReal) (s : EReal) {c : EReal} (hc : 0 ≤ c) (l : Fin 2048) : 0 ≤ part off t s c l := by
  have he : ∀ x : EReal, 0 ≤ Ideal.exp x := fun x => by
    induction x with
    | bot => exact le_rfl
    | top => exact le_top
    | coe r => exact EReal.coe_nonneg.mpr (Real.exp_pos r).le
  unfold part
  split_ifs
  · exact mul_nonneg hc (he _)
  · exact le_rfl

theorem exp_real {x M : EReal} (hx : ∃ r : ℝ, x = r) (hM : ∃ r : ℝ, M = r) : ∃ r : ℝ, 0 < r ∧ Ideal.exp (x - M) = r := by
  obtain ⟨a, rfl⟩ := hx
  obtain ⟨b, rfl⟩ := hM
  exact ⟨Real.exp (a - b), Real.exp_pos _, by rw [← EReal.coe_sub, Ideal.exp_coe]⟩

/-- One window: weight times average is the coefficient times the exponentials, and the coefficient is a nonnegative real. -/
theorem window_eq {L G : Fin 129 → EReal} (hL : ∀ j, ∃ r : ℝ, L j = r) (l d : Fin 3 → EReal) (hl : ∀ i, ∃ r : ℝ, l i = r) (i : Fin 3) (hd : d i = rden L) :
    rw3 l i * ravg L G = (∑ j, (coef l d i * Ideal.exp (L j - rmax L)) * G j) ∧ ∃ r : ℝ, 0 ≤ r ∧ coef l d i = r := by
  have hM := rmax_real hL
  have htop : ∃ r : ℝ, top3 l = r := by
    have : ∀ a b : EReal, (∃ r : ℝ, a = r) → (∃ r : ℝ, b = r) → ∃ r : ℝ, max a b = r := fun a b ha hb => by
      rcases max_choice a b with h | h <;> rw [h] <;> assumption
    exact this _ _ (this _ _ (hl 0) (hl 1)) (hl 2)
  obtain ⟨e, he, he'⟩ := exp_real (hl i) htop
  obtain ⟨es, hs, hs'⟩ := sum_exp_real hl (M := rtop l) (by rw [top_eq]; exact htop)
  obtain ⟨dn, hdn, hdn'⟩ := sum_exp_real hL hM
  choose p hp hp' using fun j => exp_real (hL j) hM
  have hws := hs'
  rw [wsum_eq] at hws
  unfold rw3 ravg coef wexp
  rw [hs', top_eq, he', hws, hd]
  unfold rden
  rw [hdn']
  constructor
  · simp only [hp']
    exact scale_eq he hs hdn p G
  · rw [← EReal.coe_mul, Ideal.div_coe (mul_pos hs hdn).ne', ← EReal.coe_mul]
    exact ⟨_, by positivity, rfl⟩

/-- The kernel's entry is the reference's, of real logits. -/
theorem out_eq {t1 : Fin 128 → EReal} {t2 : Fin 512 → EReal} {t3 : Fin 2048 → EReal} {s : EReal} {L G : Fin 3 → Fin 129 → EReal}
    {σ1 : Fin 128 → Fin 128} {σ2 : Fin 128 → Fin 512} {σ3 : Fin 128 → Fin 2048} (h1 : Taps t1 (L 0) σ1) (h2 : Taps t2 (L 1) σ2) (h3 : Taps t3 (L 2) σ3)
    (h0 : ∀ i, L i 0 = s) (hL : ∀ i j, ∃ r : ℝ, L i j = r) (V : Fin 2048 → EReal) (v : EReal) (hv : ∀ i, G i 0 = v)
    (hG1 : ∀ j, G 0 j.succ = V ⟨1920 + (σ1 j).val, by omega⟩) (hG2 : ∀ j, G 1 j.succ = V ⟨1536 + (σ2 j).val, by omega⟩) (hG3 : ∀ j, G 2 j.succ = V ⟨0 + (σ3 j).val, by omega⟩) :
    kout t1 t2 t3 s V v = rout L G := by
  have hl : klses t1 t2 t3 s = fun i => rlse (L i) := by
    funext i
    fin_cases i
    · exact h1.lse_eq (h0 0)
    · exact h2.lse_eq (h0 1)
    · exact h3.lse_eq (h0 2)
  have hr : ∀ i, ∃ r : ℝ, (fun i => rlse (L i)) i = r := fun i => rlse_real (hL i)
  obtain ⟨w1, c1, hc1, hc1'⟩ := window_eq (G := G 0) (hL 0) _ (kdens t1 t2 t3 s) hr 0 (h1.den_eq (h0 0))
  obtain ⟨w2, c2, hc2, hc2'⟩ := window_eq (G := G 1) (hL 1) _ (kdens t1 t2 t3 s) hr 1 (h2.den_eq (h0 1))
  obtain ⟨w3, c3, hc3, hc3'⟩ := window_eq (G := G 2) (hL 2) _ (kdens t1 t2 t3 s) hr 2 (h3.den_eq (h0 2))
  unfold rout
  rw [w1, w2, w3, ← part_sum 1920 (by omega) h1 (h0 0) _ V hG1, ← part_sum 1536 (by omega) h2 (h0 1) _ V hG2, ← part_sum 0 (by omega) h3 (h0 2) _ V hG3]
  unfold kout kweight kself
  rw [hl, hc1', hc2', hc3', hv 0, hv 1, hv 2]
  have n1 := fun l => part_nonneg 1920 t1 s (EReal.coe_nonneg.mpr hc1) l
  have n2 := fun l => part_nonneg 1536 t2 s (EReal.coe_nonneg.mpr hc2) l
  have n3 := fun l => part_nonneg 0 t3 s (EReal.coe_nonneg.mpr hc3) l
  have he : ∀ x : EReal, 0 ≤ Ideal.exp x := fun x => by
    induction x with
    | bot => exact le_rfl
    | top => exact le_top
    | coe r => exact EReal.coe_nonneg.mpr (Real.exp_pos r).le
  have m1 := mul_nonneg (EReal.coe_nonneg.mpr hc1) (he (s - kmax t1 s))
  have m2 := mul_nonneg (EReal.coe_nonneg.mpr hc2) (he (s - kmax t2 s))
  have m3 := mul_nonneg (EReal.coe_nonneg.mpr hc3) (he (s - kmax t3 s))
  rw [EReal.right_distrib_of_nonneg (add_nonneg m1 m2) m3, EReal.right_distrib_of_nonneg m1 m2]
  rw [Finset.sum_congr rfl fun l _ => show V l * ((part 0 t3 s c3 l + part 1536 t2 s c2 l) + part 1920 t1 s c1 l) = (V l * part 0 t3 s c3 l + V l * part 1536 t2 s c2 l) + V l * part 1920 t1 s c1 l by
    rw [EReal.left_distrib_of_nonneg (add_nonneg (n3 l) (n2 l)) (n1 l), EReal.left_distrib_of_nonneg (n3 l) (n2 l)]]
  rw [Finset.sum_add_distrib, Finset.sum_add_distrib]
  abel

end Cert.Mix
end
-- ==== Proof.Bias.lean ====
module

public import proofs.«01_k».proof.Proof.Spec
public import proofs.«01_k».proof.Proof.Data
public import Idealize.ShloMosaic.Lib.Pipeline.ValueKit

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The biases the host lays out on the cache's columns. -/

theorem gather_tab (x : FVec Ideal S32x8 .f32) (idx : IVec S3x129x1 32) (i : Fin 3) (j : Fin 129) (h : Fin 8) :
    Host.gather gather_S32x8_S3x129x1_S3x129x8_2_0_n_n_0_2_18 x idx (ix3 i j h) = x (ix2 ⟨min (idx (ix3 i j 0)).toInt.toNat 31, by omega⟩ h) := by
  unfold Host.gather
  refine congrArg x (funext fun a => Fin.ext ?_)
  fin_cases a
  · show min (idx _).toInt.toNat 31 + 0 + 0 = min (idx (ix3 i j 0)).toInt.toNat 31
    refine congrArg (fun z => min (idx z).toInt.toNat 31) (funext fun b => Fin.ext ?_)
    fin_cases b <;> rfl
  · show 0 + 0 + h.val = h.val
    omega

/-- The core's buffers before the last run of host operations. -/
def W6 (c : Dev nD) : Valuation τ sig (Elt Ideal) := StableHlo.after (List.flatten [hostOps0, hostOps0_1, hostOps0_2, hostOps0_3, hostOps0_4, hostOps0_5]) (fun b => m (c, b))
/-- After the three bucket rows are placed. -/
def W7 (c : Dev nD) : Valuation τ sig (Elt Ideal) := StableHlo.after (List.take 3 hostOps0_6) (W6 m c)
/-- After they are stacked. -/
def W8 (c : Dev nD) : Valuation τ sig (Elt Ideal) := StableHlo.after (List.take 1 (List.drop 3 hostOps0_6)) (W7 m c)
/-- After the bias table is read at them. -/
def W9 (c : Dev nD) : Valuation τ sig (Elt Ideal) := StableHlo.after (List.take 10 (List.drop 4 hostOps0_6)) (W8 m c)
/-- After the three bias rows are laid out on the columns. -/
def W10 (c : Dev nD) : Valuation τ sig (Elt Ideal) := StableHlo.after (List.take 42 (List.drop 14 hostOps0_6)) (W9 m c)

theorem V_W9 (c : Dev nD) (b : Ref sig .tc) : V m c b = StableHlo.after (List.drop 14 hostOps0_6) (W9 m c) b := by
  rfl
theorem V_W10 (c : Dev nD) (b : Ref sig .tc) : V m c b = StableHlo.after (List.drop 56 hostOps0_6) (W10 m c) b := by
  rfl

/-- The bucket of each tap's distance, the taps spaced by `d`. -/
def bkt (d : BitVec 32) : IVec S129 32 :=
  let t := muli (iotaInDim S129 32 0) (broadcastInDim S129 ![] bcast_S_S129 (constantI S_ 32 d))
  select (cmpi .slt t (broadcastInDim S129 ![] bcast_S_S129 (constantI S_ 32 16#32))) t
    (minsi (addi (broadcastInDim S129 ![] bcast_S_S129 (constantI S_ 32 16#32)) (fptosi 32 (mulf (Host.divf (Host.log (Host.divf (sitofp (F := Ideal) .f32 (maxsi t (broadcastInDim S129 ![] bcast_S_S129 (constantI S_ 32 1#32)))) (broadcastInDim S129 ![] bcast_S_S129 (constant S_ .f32 0x41800000#32)))) (broadcastInDim S129 ![] bcast_S_S129 (constant S_ .f32 0x409B43D5#32))) (broadcastInDim S129 ![] bcast_S_S129 (constant S_ .f32 0x41800000#32))))) (broadcastInDim S129 ![] bcast_S_S129 (constantI S_ 32 31#32)))

theorem w28 (c : Dev nD) : (show IVec S129 32 from W6 m c main_v28) = bkt 1#32 := by
  simp only [W6, hostOps0, hostOps0_1, hostOps0_2, hostOps0_3, hostOps0_4, hostOps0_5, hostOps0_6, List.flatten_cons, List.flatten_nil, List.append_nil, List.cons_append, List.nil_append]
  entry_read
  rfl
theorem w48 (c : Dev nD) : (show IVec S129 32 from W6 m c main_v48) = bkt 4#32 := by
  simp only [W6, hostOps0, hostOps0_1, hostOps0_2, hostOps0_3, hostOps0_4, hostOps0_5, hostOps0_6, List.flatten_cons, List.flatten_nil, List.append_nil, List.cons_append, List.nil_append]
  entry_read
  rfl
theorem w68 (c : Dev nD) : (show IVec S129 32 from W6 m c main_v68) = bkt 16#32 := by
  simp only [W6, hostOps0, hostOps0_1, hostOps0_2, hostOps0_3, hostOps0_4, hostOps0_5, hostOps0_6, List.flatten_cons, List.flatten_nil, List.append_nil, List.cons_append, List.nil_append]
  entry_read
  rfl
theorem w12 (c : Dev nD) : (show FVec Ideal S32x8 .f32 from W6 m c main_arg12) = (show FVec Ideal S32x8 .f32 from m ((c.tc : Thread nD τ).loc main_arg12)) := by
  simp only [W6, hostOps0, hostOps0_1, hostOps0_2, hostOps0_3, hostOps0_4, hostOps0_5, hostOps0_6, List.flatten_cons, List.flatten_nil, List.append_nil, List.cons_append, List.nil_append]
  entry_read
  rfl

theorem w69 (c : Dev nD) (j : Fin 129) : (show IVec S1x129 32 from W7 m c main_v69) (ix2 0 j) = bkt 1#32 (ix1 j) := by
  rw [← w28 m c]
  unfold W7
  generalize W6 m c = W
  simp only [hostOps0_6, List.take_succ_cons, List.take_zero, List.drop_succ_cons, List.drop_zero]
  entry_read
  pointwise []
theorem w70 (c : Dev nD) (j : Fin 129) : (show IVec S1x129 32 from W7 m c main_v70) (ix2 0 j) = bkt 4#32 (ix1 j) := by
  rw [← w48 m c]
  unfold W7
  generalize W6 m c = W
  simp only [hostOps0_6, List.take_succ_cons, List.take_zero, List.drop_succ_cons, List.drop_zero]
  entry_read
  pointwise []
theorem w71 (c : Dev nD) (j : Fin 129) : (show IVec S1x129 32 from W7 m c main_v71) (ix2 0 j) = bkt 16#32 (ix1 j) := by
  rw [← w68 m c]
  unfold W7
  generalize W6 m c = W
  simp only [hostOps0_6, List.take_succ_cons, List.take_zero, List.drop_succ_cons, List.drop_zero]
  entry_read
  pointwise []

theorem w72 (c : Dev nD) : (show IVec S3x129 32 from W8 m c main_v72) = concatenate S3x129 0 [⟨S1x129, (show IVec S1x129 32 from W7 m c main_v69)⟩, ⟨S1x129, (show IVec S1x129 32 from W7 m c main_v70)⟩, ⟨S1x129, (show IVec S1x129 32 from W7 m c main_v71)⟩] concatenates_S1x129_S1x129_S1x129_S3x129_d0 := by
  unfold W8
  generalize W7 m c = W
  simp only [hostOps0_6, List.take_succ_cons, List.take_zero, List.drop_succ_cons, List.drop_zero]
  rw [StableHlo.after_cons, StableHlo.after_nil]
  exact StableHlo.nary_result _ _ _ _ _ _

/-- The spacing of each window's taps. -/
def dil : Fin 3 → BitVec 32 := ![1#32, 4#32, 16#32]

theorem w72_at (c : Dev nD) (i : Fin 3) (j : Fin 129) : (show IVec S3x129 32 from W8 m c main_v72) (ix2 i j) = bkt (dil i) (ix1 j) := by
  have h := w72 m c
  fin_cases i
  · refine Eq.trans ?_ (w69 m c j)
    rw [h]
    pointwise []
  · refine Eq.trans ?_ (w70 m c j)
    rw [h]
    pointwise []
  · refine Eq.trans ?_ (w71 m c j)
    rw [h]
    pointwise []

theorem w12b (c : Dev nD) : (show FVec Ideal S32x8 .f32 from W8 m c main_arg12) = (show FVec Ideal S32x8 .f32 from m ((c.tc : Thread nD τ).loc main_arg12)) := by
  have h1 : W8 m c (Proc.devRef .tc main_arg12) = W7 m c (Proc.devRef .tc main_arg12) := by
    unfold W8
    simp only [hostOps0_6, List.take_succ_cons, List.take_zero, List.drop_succ_cons, List.drop_zero]
    rw [StableHlo.after_cons, StableHlo.after_nil]
    exact StableHlo.nary_result_ne _ _ _ _ _ _ (by decide)
  have h2 : W7 m c (Proc.devRef .tc main_arg12) = W6 m c (Proc.devRef .tc main_arg12) := by
    unfold W7
    generalize W6 m c = W
    simp only [hostOps0_6, List.take_succ_cons, List.take_zero, List.drop_succ_cons, List.drop_zero]
    entry_read
    rfl
  exact (h1.trans h2).trans (w12 m c)

/-- The table's row an index names. -/
def clampRow (z : BitVec 32) : Fin 32 := ⟨min (Scalar.select (IntOp.cmpi .slt z 0#32) (IntOp.addi z 32#32) z).toInt.toNat 31, by omega⟩

theorem w80raw (c : Dev nD) (i : Fin 3) (h : Fin 8) (j : Fin 129) : (show FVec Ideal S3x8x129 .f32 from W9 m c main_v80) (ix3 i h j) = (show FVec Ideal S32x8 .f32 from W8 m c main_arg12) (ix2 (clampRow ((show IVec S3x129 32 from W8 m c main_v72) (ix2 i j))) h) := by
  unfold W9
  generalize W8 m c = W
  simp only [hostOps0_6, List.take_succ_cons, List.take_zero, List.drop_succ_cons, List.drop_zero]
  entry_read
  pointwise []
  simp only [gather_tab]
  pointwise [clampRow]

/-- The bias table's row at tap `j` of window `i`. -/
def brow (i : Fin 3) (j : Fin 129) : Fin 32 := clampRow (bkt (dil i) (ix1 j))

theorem w80 (c : Dev nD) (i : Fin 3) (h : Fin 8) (j : Fin 129) : (show FVec Ideal S3x8x129 .f32 from W9 m c main_v80) (ix3 i h j) = (show FVec Ideal S32x8 .f32 from m ((c.tc : Thread nD τ).loc main_arg12)) (ix2 (brow i j) h) := by
  refine (w80raw m c i h j).trans ?_
  refine congr (w12b m c) ?_
  exact congrArg (fun z => ix2 (clampRow z) h) (w72_at m c i j)

theorem v86e (c : Dev nD) (h : Fin 8) (k : Fin 128) : (show FVec Ideal S8x128 .f32 from V m c main_v86) (ix2 h k) = (show FVec Ideal S3x8x129 .f32 from W9 m c main_v80) (ix3 0 h 0) := by
  rw [V_W9]
  generalize W9 m c = W
  simp only [hostOps0_6, List.drop_succ_cons, List.drop_zero]
  entry_read
  pointwise []
theorem v117e (c : Dev nD) : (show FVec Ideal S3x8x2048 .f32 from V m c main_v117) = concatenate S3x8x2048 0 [⟨S1x8x2048, (show FVec Ideal S1x8x2048 .f32 from W10 m c main_v114)⟩, ⟨S1x8x2048, (show FVec Ideal S1x8x2048 .f32 from W10 m c main_v115)⟩, ⟨S1x8x2048, (show FVec Ideal S1x8x2048 .f32 from W10 m c main_v116)⟩] concatenates_S1x8x2048_S1x8x2048_S1x8x2048_S3x8x2048_d0 := by
  rw [V_W10]
  generalize W10 m c = W
  simp only [hostOps0_6, List.drop_succ_cons, List.drop_zero]
  rw [StableHlo.after_cons, StableHlo.after_nil]
  exact StableHlo.nary_result _ _ _ _ _ _

end Cert.KernelIdeal.Mix
end
-- ==== Proof.BiasB.lean ====
module

public import proofs.«01_k».proof.Proof.Spec
public import proofs.«01_k».proof.Proof.Bias
public import Idealize.ShloMosaic.Lib.Pipeline.ValueKit

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The bias rows on the columns. -/

/-- Turning over one axis and leaving another. -/
theorem rev_pick {p q : Prop} {dp : Decidable p} {dq : Decidable q} {i : Fin 3} {h : Fin 8} {x : Fin 128} {j : Fin 129} {hb} (e1 : ¬ p) (e2 : q) (hj : j.val = 1 + x.rev.val) :
    ix3 (n0 := 3) (n1 := 8) (n2 := 129) i (@ite _ p dp h.rev h) ⟨1 + (@ite _ q dq x.rev x).val, hb⟩ = ix3 i h j := by
  refine congr (congrArg (ix3 i) (if_neg e1)) (Fin.ext ?_)
  show 1 + (@ite _ q dq x.rev x).val = j.val
  rw [if_pos e2, hj]

theorem w114_on (c : Dev nD) (h : Fin 8) (l : Fin 2048) (j : Fin 129) (h1 : ¬ l.val < 1920) (hj : j.val = 1 + (⟨l.val - 1920, by omega⟩ : Fin 128).rev.val) : (show FVec Ideal S1x8x2048 .f32 from W10 m c main_v114) (ix3 0 h l) = (show FVec Ideal S3x8x129 .f32 from W9 m c main_v80) (ix3 0 h j) := by
  unfold W10
  generalize W9 m c = W
  simp only [hostOps0_6, List.take_succ_cons, List.take_zero, List.drop_succ_cons, List.drop_zero]
  entry_read
  pointwise []
  rw [dif_neg h1]
  refine congrArg (W (Proc.devRef .tc main_v80)) (rev_pick ?_ ?_ hj)
  · exact of_decide_eq_true rfl
  · exact of_decide_eq_true rfl

theorem w115_on (c : Dev nD) (h : Fin 8) (l : Fin 2048) (j : Fin 129) (h1 : ¬ l.val < 1536) (h2 : (l.val - 1536) % 4 < 1) (hj : j.val = 1 + (⟨(l.val - 1536) / 4, by omega⟩ : Fin 128).rev.val) : (show FVec Ideal S1x8x2048 .f32 from W10 m c main_v115) (ix3 0 h l) = (show FVec Ideal S3x8x129 .f32 from W9 m c main_v80) (ix3 1 h j) := by
  unfold W10
  generalize W9 m c = W
  simp only [hostOps0_6, List.take_succ_cons, List.take_zero, List.drop_succ_cons, List.drop_zero]
  entry_read
  pointwise []
  rw [dif_neg h1, dif_pos h2]
  refine congrArg (W (Proc.devRef .tc main_v80)) (rev_pick ?_ ?_ hj)
  · exact of_decide_eq_true rfl
  · exact of_decide_eq_true rfl

theorem w115_off (c : Dev nD) (h : Fin 8) (l : Fin 2048) (h1 : ¬ l.val < 1536) (h2 : ¬ (l.val - 1536) % 4 < 1) : (show FVec Ideal S1x8x2048 .f32 from W10 m c main_v115) (ix3 0 h l) = Ideal.ofBits FTy.f32 4286578688#32 := by
  unfold W10
  generalize W9 m c = W
  simp only [hostOps0_6, List.take_succ_cons, List.take_zero, List.drop_succ_cons, List.drop_zero]
  entry_read
  pointwise []
  rw [dif_neg h1, dif_neg h2]

theorem w116_on (c : Dev nD) (h : Fin 8) (l : Fin 2048) (j : Fin 129) (h2 : l.val % 16 < 1) (hj : j.val = 1 + (⟨l.val / 16, by omega⟩ : Fin 128).rev.val) : (show FVec Ideal S1x8x2048 .f32 from W10 m c main_v116) (ix3 0 h l) = (show FVec Ideal S3x8x129 .f32 from W9 m c main_v80) (ix3 2 h j) := by
  unfold W10
  generalize W9 m c = W
  simp only [hostOps0_6, List.take_succ_cons, List.take_zero, List.drop_succ_cons, List.drop_zero]
  entry_read
  pointwise []
  rw [dif_neg (Nat.not_lt_zero _), dif_pos h2]
  refine congrArg (W (Proc.devRef .tc main_v80)) (rev_pick ?_ ?_ hj)
  · exact of_decide_eq_true rfl
  · exact of_decide_eq_true rfl

theorem w116_off (c : Dev nD) (h : Fin 8) (l : Fin 2048) (h2 : ¬ l.val % 16 < 1) : (show FVec Ideal S1x8x2048 .f32 from W10 m c main_v116) (ix3 0 h l) = Ideal.ofBits FTy.f32 4286578688#32 := by
  unfold W10
  generalize W9 m c = W
  simp only [hostOps0_6, List.take_succ_cons, List.take_zero, List.drop_succ_cons, List.drop_zero]
  entry_read
  pointwise []
  rw [dif_neg (Nat.not_lt_zero _), dif_neg h2]
end Cert.KernelIdeal.Mix
end
-- ==== Proof.BiasC.lean ====
module

public import proofs.«01_k».proof.Proof.Spec
public import proofs.«01_k».proof.Proof.BiasB
public import Idealize.ShloMosaic.Lib.Pipeline.ValueKit

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

theorem neg_bot : Ideal.ofBits FTy.f32 4286578688#32 = ⊥ := by
  simp [Ideal.ofBits, Ideal.ieee]

/-- The bias of tap `j` of window `i`, head `h`. -/
def btab (c : Dev nD) (i : Fin 3) (h : Fin 8) (j : Fin 129) : EReal := (show FVec Ideal S32x8 .f32 from m ((c.tc : Thread nD τ).loc main_arg12)) (ix2 (brow i j) h)

theorem v117_0 (c : Dev nD) (h : Fin 8) (l : Fin 2048) : (show FVec Ideal S3x8x2048 .f32 from V m c main_v117) (ix3 0 h l) = (show FVec Ideal S1x8x2048 .f32 from W10 m c main_v114) (ix3 0 h l) := by
  rw [v117e m c]
  pointwise []
theorem v117_1 (c : Dev nD) (h : Fin 8) (l : Fin 2048) : (show FVec Ideal S3x8x2048 .f32 from V m c main_v117) (ix3 1 h l) = (show FVec Ideal S1x8x2048 .f32 from W10 m c main_v115) (ix3 0 h l) := by
  rw [v117e m c]
  pointwise []
theorem v117_2 (c : Dev nD) (h : Fin 8) (l : Fin 2048) : (show FVec Ideal S3x8x2048 .f32 from V m c main_v117) (ix3 2 h l) = (show FVec Ideal S1x8x2048 .f32 from W10 m c main_v116) (ix3 0 h l) := by
  rw [v117e m c]
  pointwise []

/-- The first window's taps, as columns from its first. -/
def tap1 (j : Fin 128) : Fin 128 := ⟨127 - j.val, by omega⟩
/-- The second window's. -/
def tap2 (j : Fin 128) : Fin 512 := ⟨4 * (127 - j.val), by omega⟩
/-- The third window's. -/
def tap3 (j : Fin 128) : Fin 2048 := ⟨16 * (127 - j.val), by omega⟩

theorem bias1_on (c : Dev nD) (h : Fin 8) (j : Fin 128) : (show FVec Ideal S3x8x2048 .f32 from V m c main_v117) (ix3 0 h ⟨1920 + (tap1 j).val, by omega⟩) = btab m c 0 h j.succ := by
  refine ((v117_0 m c h _).trans (w114_on m c h _ j.succ ?_ ?_)).trans (w80 m c 0 h j.succ) <;> simp only [tap1, Fin.val_succ, Fin.val_rev] <;> omega
theorem bias2_on (c : Dev nD) (h : Fin 8) (j : Fin 128) : (show FVec Ideal S3x8x2048 .f32 from V m c main_v117) (ix3 1 h ⟨1536 + (tap2 j).val, by omega⟩) = btab m c 1 h j.succ := by
  refine ((v117_1 m c h _).trans (w115_on m c h _ j.succ ?_ ?_ ?_)).trans (w80 m c 1 h j.succ) <;> simp only [tap2, Fin.val_succ, Fin.val_rev] <;> omega
theorem bias3_on (c : Dev nD) (h : Fin 8) (j : Fin 128) : (show FVec Ideal S3x8x2048 .f32 from V m c main_v117) (ix3 2 h (tap3 j)) = btab m c 2 h j.succ := by
  refine ((v117_2 m c h _).trans (w116_on m c h _ j.succ ?_ ?_)).trans (w80 m c 2 h j.succ) <;> simp only [tap3, Fin.val_succ, Fin.val_rev] <;> omega
theorem bias2_off (c : Dev nD) (h : Fin 8) (x : Fin 512) (hx : x ∉ Set.range tap2) : (show FVec Ideal S3x8x2048 .f32 from V m c main_v117) (ix3 1 h ⟨1536 + x.val, by omega⟩) = ⊥ := by
  have h4 : ¬ x.val % 4 < 1 := fun h4 => hx ⟨⟨127 - x.val / 4, by omega⟩, Fin.ext (by simp only [tap2]; omega)⟩
  refine ((v117_1 m c h _).trans (w115_off m c h _ ?_ ?_)).trans neg_bot
  · show ¬ 1536 + x.val < 1536
    omega
  · show ¬ (1536 + x.val - 1536) % 4 < 1
    omega
theorem bias3_off (c : Dev nD) (h : Fin 8) (x : Fin 2048) (hx : x ∉ Set.range tap3) : (show FVec Ideal S3x8x2048 .f32 from V m c main_v117) (ix3 2 h x) = ⊥ := by
  have h4 : ¬ x.val % 16 < 1 := fun h4 => hx ⟨⟨127 - x.val / 16, by omega⟩, Fin.ext (by simp only [tap3]; omega)⟩
  exact ((v117_2 m c h _).trans (w116_off m c h _ h4)).trans neg_bot
theorem tap1_all (x : Fin 128) : x ∈ Set.range tap1 := ⟨⟨127 - x.val, by omega⟩, Fin.ext (by simp only [tap1]; omega)⟩
theorem tap1_inj : Function.Injective tap1 := fun a b h => Fin.ext (by have := congrArg Fin.val h; simp only [tap1] at this; omega)
theorem tap2_inj : Function.Injective tap2 := fun a b h => Fin.ext (by have := congrArg Fin.val h; simp only [tap2] at this; omega)
theorem tap3_inj : Function.Injective tap3 := fun a b h => Fin.ext (by have := congrArg Fin.val h; simp only [tap3] at this; omega)

/-- The self bias, of any lane. -/
theorem bias_self (c : Dev nD) (h : Fin 8) (k : Fin 128) : (show FVec Ideal S8x128 .f32 from V m c main_v86) (ix2 h k) = btab m c 0 h 0 :=
  (v86e m c h k).trans (w80 m c 0 h 0)

theorem dil_zero (i : Fin 3) : IntOp.muli (0#32) (dil i) = 0#32 := by
  fin_cases i <;> rfl
theorem bkt_zero (i : Fin 3) : bkt (dil i) (ix1 0) = bkt (dil 0) (ix1 0) := by
  unfold bkt
  pointwise []
  simp only [dil_zero]
/-- A token's distance to itself is nought whatever the spacing. -/
theorem btab_zero (c : Dev nD) (i : Fin 3) (h : Fin 8) : btab m c i h 0 = btab m c 0 h 0 := by
  unfold btab brow
  simp only [bkt_zero i]

end Cert.KernelIdeal.Mix
end
-- ==== Proof.AttK.lean ====
module

public import proofs.«01_k».proof.Proof.Ret
public import proofs.«01_k».proof.Proof.AttSpec
public import proofs.«01_k».proof.Proof.BiasC

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The kernel's attention step, entry by entry. -/

theorem b1m (x126 : FVec Ideal S8x2048 .f32) (x127 x128 : FVec Ideal S8x1 .f32) (x132 : FVec Ideal S1x8x128 .f32) (h : Fin 8) : k0_pay27 x126 x127 x128 x132 (ix2 h 0) = kmax (fun l : Fin 128 => x126 (ix2 h ⟨1920 + l.val, by omega⟩) + x132 (ix3 0 h l)) (x127 (ix2 h 0) + x128 (ix2 h 0)) := by
  unfold kmax
  pointwise [k0_pay27, k0_pay26, k0_pay25]
  rw [neg_bot]
theorem b1p (x126 : FVec Ideal S8x2048 .f32) (x127 x128 : FVec Ideal S8x1 .f32) (x132 : FVec Ideal S1x8x128 .f32) (h : Fin 8) (l : Fin 128) : k0_pay28 x126 x127 x128 x132 (ix2 h l) = Ideal.exp ((fun l : Fin 128 => x126 (ix2 h ⟨1920 + l.val, by omega⟩) + x132 (ix3 0 h l)) l - kmax (fun l : Fin 128 => x126 (ix2 h ⟨1920 + l.val, by omega⟩) + x132 (ix3 0 h l)) (x127 (ix2 h 0) + x128 (ix2 h 0))) := by
  rw [← b1m]
  pointwise [k0_pay28, k0_pay26]
theorem b1s (x126 : FVec Ideal S8x2048 .f32) (x127 x128 : FVec Ideal S8x1 .f32) (x132 : FVec Ideal S1x8x128 .f32) (h : Fin 8) : k0_pay29 x126 x127 x128 x132 (ix2 h 0) = Ideal.exp ((x127 (ix2 h 0) + x128 (ix2 h 0)) - kmax (fun l : Fin 128 => x126 (ix2 h ⟨1920 + l.val, by omega⟩) + x132 (ix3 0 h l)) (x127 (ix2 h 0) + x128 (ix2 h 0))) := by
  rw [← b1m]
  pointwise [k0_pay29, k0_pay25]
theorem b1d (x126 : FVec Ideal S8x2048 .f32) (x127 x128 : FVec Ideal S8x1 .f32) (x132 : FVec Ideal S1x8x128 .f32) (h : Fin 8) : k0_pay30 x126 x127 x128 x132 (ix2 h 0) = kden (fun l : Fin 128 => x126 (ix2 h ⟨1920 + l.val, by omega⟩) + x132 (ix3 0 h l)) (x127 (ix2 h 0) + x128 (ix2 h 0)) := by
  unfold kden
  simp only [← b1s, ← b1p]
  pointwise [k0_pay30]
theorem b1l (x126 : FVec Ideal S8x2048 .f32) (x127 x128 : FVec Ideal S8x1 .f32) (x132 : FVec Ideal S1x8x128 .f32) (h : Fin 8) : k0_pay31 x126 x127 x128 x132 (ix2 h 0) = klse (fun l : Fin 128 => x126 (ix2 h ⟨1920 + l.val, by omega⟩) + x132 (ix3 0 h l)) (x127 (ix2 h 0) + x128 (ix2 h 0)) := by
  unfold klse
  simp only [← b1m, ← b1d]
  pointwise [k0_pay31]
theorem b2m (x126 : FVec Ideal S8x2048 .f32) (x127 x128 : FVec Ideal S8x1 .f32) (x149 : FVec Ideal S1x8x512 .f32) (h : Fin 8) : k0_pay33 x126 x127 x128 x149 (ix2 h 0) = kmax (fun l : Fin 512 => x126 (ix2 h ⟨1536 + l.val, by omega⟩) + x149 (ix3 0 h l)) (x127 (ix2 h 0) + x128 (ix2 h 0)) := by
  unfold kmax
  pointwise [k0_pay33, k0_pay32, k0_pay25]
  rw [neg_bot]
theorem b2p (x126 : FVec Ideal S8x2048 .f32) (x127 x128 : FVec Ideal S8x1 .f32) (x149 : FVec Ideal S1x8x512 .f32) (h : Fin 8) (l : Fin 512) : k0_pay34 x126 x127 x128 x149 (ix2 h l) = Ideal.exp ((fun l : Fin 512 => x126 (ix2 h ⟨1536 + l.val, by omega⟩) + x149 (ix3 0 h l)) l - kmax (fun l : Fin 512 => x126 (ix2 h ⟨1536 + l.val, by omega⟩) + x149 (ix3 0 h l)) (x127 (ix2 h 0) + x128 (ix2 h 0))) := by
  rw [← b2m]
  pointwise [k0_pay34, k0_pay32]
theorem b2s (x126 : FVec Ideal S8x2048 .f32) (x127 x128 : FVec Ideal S8x1 .f32) (x149 : FVec Ideal S1x8x512 .f32) (h : Fin 8) : k0_pay35 x126 x127 x128 x149 (ix2 h 0) = Ideal.exp ((x127 (ix2 h 0) + x128 (ix2 h 0)) - kmax (fun l : Fin 512 => x126 (ix2 h ⟨1536 + l.val, by omega⟩) + x149 (ix3 0 h l)) (x127 (ix2 h 0) + x128 (ix2 h 0))) := by
  rw [← b2m]
  pointwise [k0_pay35, k0_pay25]
theorem b2d (x126 : FVec Ideal S8x2048 .f32) (x127 x128 : FVec Ideal S8x1 .f32) (x149 : FVec Ideal S1x8x512 .f32) (h : Fin 8) : k0_pay36 x126 x127 x128 x149 (ix2 h 0) = kden (fun l : Fin 512 => x126 (ix2 h ⟨1536 + l.val, by omega⟩) + x149 (ix3 0 h l)) (x127 (ix2 h 0) + x128 (ix2 h 0)) := by
  unfold kden
  simp only [← b2s, ← b2p]
  pointwise [k0_pay36]
theorem b2l (x126 : FVec Ideal S8x2048 .f32) (x127 x128 : FVec Ideal S8x1 .f32) (x149 : FVec Ideal S1x8x512 .f32) (h : Fin 8) : k0_pay37 x126 x127 x128 x149 (ix2 h 0) = klse (fun l : Fin 512 => x126 (ix2 h ⟨1536 + l.val, by omega⟩) + x149 (ix3 0 h l)) (x127 (ix2 h 0) + x128 (ix2 h 0)) := by
  unfold klse
  simp only [← b2m, ← b2d]
  pointwise [k0_pay37]
theorem b3m (x126 : FVec Ideal S8x2048 .f32) (x127 x128 : FVec Ideal S8x1 .f32) (x165 : FVec Ideal S1x8x2048 .f32) (h : Fin 8) : k0_pay39 x126 x127 x128 x165 (ix2 h 0) = kmax (fun l : Fin 2048 => x126 (ix2 h l) + x165 (ix3 0 h l)) (x127 (ix2 h 0) + x128 (ix2 h 0)) := by
  unfold kmax
  pointwise [k0_pay39, k0_pay38, k0_pay25]
  rw [neg_bot]
end Cert.KernelIdeal.Mix
end
-- ==== Proof.Mid.lean ====
module

public import proofs.«01_k».proof.Proof.AttK

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The mixing of the three windows in the kernel. -/

/-- What the kernel holds of a head after the three windows: exponentials, sums and log sums. -/
structure Mid (h : Fin 8) (T1 : Fin 128 → EReal) (T2 : Fin 512 → EReal) (T3 : Fin 2048 → EReal) (s : EReal)
    (v130 : FVec Ideal S8x1 .f32) (v140 : FVec Ideal S8x128 .f32) (v142 v145 v147 : FVec Ideal S8x1 .f32) (v157 : FVec Ideal S8x512 .f32) (v159 v162 v164 : FVec Ideal S8x1 .f32) (v167 : FVec Ideal S8x2048 .f32) (v170 : FVec Ideal S8x1 .f32) (v171 : FVec Ideal S8x2048 .f32) : Prop where
  c130 : v130 (ix2 h 0) = s
  c140 : ∀ l, v140 (ix2 h l) = Ideal.exp (T1 l - kmax T1 s)
  c142 : v142 (ix2 h 0) = Ideal.exp (s - kmax T1 s)
  c145 : v145 (ix2 h 0) = kden T1 s
  c147 : v147 (ix2 h 0) = klse T1 s
  c157 : ∀ l, v157 (ix2 h l) = Ideal.exp (T2 l - kmax T2 s)
  c159 : v159 (ix2 h 0) = Ideal.exp (s - kmax T2 s)
  c162 : v162 (ix2 h 0) = kden T2 s
  c164 : v164 (ix2 h 0) = klse T2 s
  c167 : ∀ l, v167 (ix2 h l) = T3 l
  c170 : v170 (ix2 h 0) = kmax T3 s
  c171 : ∀ l, v171 (ix2 h l) = kmax T3 s

section
variable {h : Fin 8} {T1 : Fin 128 → EReal} {T2 : Fin 512 → EReal} {T3 : Fin 2048 → EReal} {s : EReal}
    {v130 : FVec Ideal S8x1 .f32} {v140 : FVec Ideal S8x128 .f32} {v142 v145 v147 : FVec Ideal S8x1 .f32} {v157 : FVec Ideal S8x512 .f32} {v159 v162 v164 : FVec Ideal S8x1 .f32} {v167 : FVec Ideal S8x2048 .f32} {v170 : FVec Ideal S8x1 .f32} {v171 : FVec Ideal S8x2048 .f32}
    (M : Mid h T1 T2 T3 s v130 v140 v142 v145 v147 v157 v159 v162 v164 v167 v170 v171)
include M

theorem Mid.c172 (l : Fin 2048) : k0_pay41 v167 v171 (ix2 h l) = Ideal.exp (T3 l - kmax T3 s) := by
  pointwise [k0_pay41]
  simp only [M.c167, M.c171]
theorem Mid.c174 : k0_pay42 v130 v170 (ix2 h 0) = Ideal.exp (s - kmax T3 s) := by
  pointwise [k0_pay42]
  simp only [M.c130, M.c170]
theorem Mid.c177 : k0_pay43 v130 v167 v170 v171 (ix2 h 0) = kden T3 s := by
  pointwise [k0_pay43]
  simp only [M.c172, M.c174]
  rfl
theorem Mid.c179 : k0_pay44 v130 v167 v170 v171 (ix2 h 0) = klse T3 s := by
  pointwise [k0_pay44]
  simp only [M.c177, M.c170]
  rfl
theorem Mid.ctop : k0_pay45 v130 v147 v164 v167 v170 v171 (ix2 h 0) = top3 (klses T1 T2 T3 s) := by
  pointwise [k0_pay45]
  simp only [M.c147, M.c164, M.c179]
  rfl
theorem Mid.ce1 : k0_pay46 v130 v147 v164 v167 v170 v171 (ix2 h 0) = wexp (klses T1 T2 T3 s) 0 := by
  pointwise [k0_pay46]
  simp only [M.ctop, M.c147, M.c164, M.c179]
  rfl
theorem Mid.ce2 : k0_pay47 v130 v147 v164 v167 v170 v171 (ix2 h 0) = wexp (klses T1 T2 T3 s) 1 := by
  pointwise [k0_pay47]
  simp only [M.ctop, M.c147, M.c164, M.c179]
  rfl
theorem Mid.ce3 : k0_pay48 v130 v147 v164 v167 v170 v171 (ix2 h 0) = wexp (klses T1 T2 T3 s) 2 := by
  pointwise [k0_pay48]
  simp only [M.ctop, M.c147, M.c164, M.c179]
  rfl
theorem Mid.cws : k0_pay49 v130 v147 v164 v167 v170 v171 (ix2 h 0) = wsum (klses T1 T2 T3 s) := by
  pointwise [k0_pay49]
  simp only [M.ce1, M.ce2, M.ce3]
  rfl
theorem Mid.k1 : k0_pay50 v130 v145 v147 v164 v167 v170 v171 (ix2 h 0) = coef (klses T1 T2 T3 s) (kdens T1 T2 T3 s) 0 := by
  pointwise [k0_pay50]
  simp only [M.ce1, M.cws, M.c145]
  rfl
theorem Mid.k2 : k0_pay51 v130 v147 v162 v164 v167 v170 v171 (ix2 h 0) = coef (klses T1 T2 T3 s) (kdens T1 T2 T3 s) 1 := by
  pointwise [k0_pay51]
  simp only [M.ce2, M.cws, M.c162]
  rfl
theorem Mid.k3 : k0_pay52 v130 v147 v164 v167 v170 v171 (ix2 h 0) = coef (klses T1 T2 T3 s) (kdens T1 T2 T3 s) 2 := by
  pointwise [k0_pay52]
  simp only [M.ce3, M.cws, M.c177]
  rfl
/-- The weight of a cache column. -/
theorem Mid.weight (l : Fin 2048) : k0_pay53 v130 v140 v145 v147 v157 v162 v164 v167 v170 v171 (ix2 h l) = kweight T1 T2 T3 s l := by
  pointwise [k0_pay53]
  simp only [M.k1, M.k2, M.k3, M.c172, M.c157, M.c140]
  unfold kweight
  have p3 : ∀ c, part 0 T3 s c l = c * Ideal.exp (T3 l - kmax T3 s) := fun c => by
    unfold part
    rw [dif_pos ⟨Nat.zero_le _, by omega⟩]
    rfl
  rw [p3]
  by_cases h1 : l.val < 1536
  · rw [dif_pos h1]
    unfold part
    rw [dif_neg (by omega), dif_neg (by omega), add_zero, add_zero]
  · rw [dif_neg h1]
    unfold part
    rw [dif_pos (show 1536 ≤ l.val ∧ l.val - 1536 < 512 by omega)]
    by_cases h2 : l.val - 1536 < 384
    · rw [dif_pos h2, dif_neg (by omega), add_zero]
      refine congrArg (fun z => _ * Ideal.exp (T3 z - _) + _) (Fin.ext ?_)
      show 1536 + (l.val - 1536) = l.val
      omega
    · rw [dif_neg h2, dif_pos (show 1920 ≤ l.val ∧ l.val - 1920 < 128 by omega)]
      have q3 : (⟨1920 + (l.val - 1536 - 384), by omega⟩ : Fin 2048) = l := Fin.ext (by show 1920 + (l.val - 1536 - 384) = l.val; omega)
      have q2 : (⟨384 + (l.val - 1536 - 384), by omega⟩ : Fin 512) = ⟨l.val - 1536, by omega⟩ := Fin.ext (by show 384 + (l.val - 1536 - 384) = l.val - 1536; omega)
      have q1 : (⟨l.val - 1536 - 384, by omega⟩ : Fin 128) = ⟨l.val - 1920, by omega⟩ := Fin.ext (by show l.val - 1536 - 384 = l.val - 1920; omega)
      rw [q3, q2, q1]
/-- The weight of the token's own value. -/
theorem Mid.self : k0_pay54 v130 v142 v145 v147 v159 v162 v164 v167 v170 v171 (ix2 h 0) = kself T1 T2 T3 s := by
  pointwise [k0_pay54]
  simp only [M.k1, M.k2, M.k3, M.c142, M.c159, M.c174]
  rfl
end
end Cert.KernelIdeal.Mix
end
-- ==== Proof.Loads.lean ====
module

public import proofs.«01_k».proof.Proof.Mid

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The attention step's loads, and the logits of every head. -/

/-- The query column of entry `e` of head `h`. -/
def ah (h : Fin 8) (e : Fin 64) : Fin 512 := ⟨h.val * 64 + e.val, by omega⟩
/-- The key column, in the joined key and value row. -/
def akc (h : Fin 8) (e : Fin 64) : Fin 1024 := ⟨h.val * 64 + e.val, by omega⟩
/-- The value column. -/
def avc (h : Fin 8) (e : Fin 64) : Fin 1024 := ⟨512 + (h.val * 64 + e.val), by omega⟩

theorem v7_at (c : Dev nD) (u : Fin 32) (k : Fin 512) : A.v7 (grid0.coords (tokPt u)) (isTok_tokPt u) (ins m c (tokPt u)) (ix2 0 k) = a4 m c (ix2 u k) := by
  have e : (k0_off1 (grid0.coords (tokPt u))) 0 = u.val := by revert u; decide +kernel
  have e1 : (k0_off1 (grid0.coords (tokPt u))) 1 = 0 := by revert u; decide +kernel
  rw [← ins_x10 m c (tokPt u) u k]
  unfold A.v7
  pointwise []
  refine congrArg (ins m c (tokPt u)).x10 ?_
  funext d
  match d with
  | ⟨0, _⟩ => exact Fin.ext e
  | ⟨1, _⟩ => exact Fin.ext (by show (k0_off1 (grid0.coords (tokPt u))) 1 + k.val = k.val; omega)
theorem v9_at (c : Dev nD) (u : Fin 32) (k : Fin 1024) : A.v9 (grid0.coords (tokPt u)) (isTok_tokPt u) (ins m c (tokPt u)) (ix2 0 k) = a5 m c (ix2 u k) := by
  have e : (k0_off2 (grid0.coords (tokPt u))) 0 = u.val := by revert u; decide +kernel
  have e1 : (k0_off2 (grid0.coords (tokPt u))) 1 = 0 := by revert u; decide +kernel
  rw [← ins_x11 m c (tokPt u) u k]
  unfold A.v9
  pointwise []
  refine congrArg (ins m c (tokPt u)).x11 ?_
  funext d
  match d with
  | ⟨0, _⟩ => exact Fin.ext e
  | ⟨1, _⟩ => exact Fin.ext (by show (k0_off2 (grid0.coords (tokPt u))) 1 + k.val = k.val; omega)
theorem v15_at (c : Dev nD) (u : Fin 32) (e : Fin 64) (l : Fin 2048) : A.v15 (grid0.coords (tokPt u)) (isTok_tokPt u) (ins m c (tokPt u)) (ix5 0 0 0 e l) = a10 m c (ix6 0 u l 0 0 e) := by
  rw [← ins_x16 m c u 0 0 e l]
  unfold A.v15
  pointwise []
theorem v27_at (c : Dev nD) (u : Fin 32) (e : Fin 64) (l : Fin 2048) : A.v27 (grid0.coords (tokPt u)) (isTok_tokPt u) (ins m c (tokPt u)) (ix5 0 0 0 e l) = a10 m c (ix6 0 u l 0 1 e) := by
  rw [← ins_x16 m c u 0 1 e l]
  unfold A.v27
  pointwise []
theorem v44_at (c : Dev nD) (u : Fin 32) (e : Fin 64) (l : Fin 2048) : A.v44 (grid0.coords (tokPt u)) (isTok_tokPt u) (ins m c (tokPt u)) (ix5 0 0 0 e l) = a10 m c (ix6 0 u l 0 2 e) := by
  rw [← ins_x16 m c u 0 2 e l]
  unfold A.v44
  pointwise []
theorem v56_at (c : Dev nD) (u : Fin 32) (e : Fin 64) (l : Fin 2048) : A.v56 (grid0.coords (tokPt u)) (isTok_tokPt u) (ins m c (tokPt u)) (ix5 0 0 0 e l) = a10 m c (ix6 0 u l 0 3 e) := by
  rw [← ins_x16 m c u 0 3 e l]
  unfold A.v56
  pointwise []
theorem v73_at (c : Dev nD) (u : Fin 32) (e : Fin 64) (l : Fin 2048) : A.v73 (grid0.coords (tokPt u)) (isTok_tokPt u) (ins m c (tokPt u)) (ix5 0 0 0 e l) = a10 m c (ix6 0 u l 0 4 e) := by
  rw [← ins_x16 m c u 0 4 e l]
  unfold A.v73
  pointwise []
theorem v85_at (c : Dev nD) (u : Fin 32) (e : Fin 64) (l : Fin 2048) : A.v85 (grid0.coords (tokPt u)) (isTok_tokPt u) (ins m c (tokPt u)) (ix5 0 0 0 e l) = a10 m c (ix6 0 u l 0 5 e) := by
  rw [← ins_x16 m c u 0 5 e l]
  unfold A.v85
  pointwise []
theorem v102_at (c : Dev nD) (u : Fin 32) (e : Fin 64) (l : Fin 2048) : A.v102 (grid0.coords (tokPt u)) (isTok_tokPt u) (ins m c (tokPt u)) (ix5 0 0 0 e l) = a10 m c (ix6 0 u l 0 6 e) := by
  rw [← ins_x16 m c u 0 6 e l]
  unfold A.v102
  pointwise []
theorem v114_at (c : Dev nD) (u : Fin 32) (e : Fin 64) (l : Fin 2048) : A.v114 (grid0.coords (tokPt u)) (isTok_tokPt u) (ins m c (tokPt u)) (ix5 0 0 0 e l) = a10 m c (ix6 0 u l 0 7 e) := by
  rw [← ins_x16 m c u 0 7 e l]
  unfold A.v114
  pointwise []
theorem v221_at (c : Dev nD) (u : Fin 32) (e : Fin 64) (l : Fin 2048) : A.v221 (grid0.coords (tokPt u)) (isTok_tokPt u) (ins m c (tokPt u)) (ix5 0 0 0 e l) = a10 m c (ix6 0 u l 1 0 e) := by
  rw [← ins_x16 m c u 1 0 e l]
  unfold A.v221
  pointwise []
theorem v233_at (c : Dev nD) (u : Fin 32) (e : Fin 64) (l : Fin 2048) : A.v233 (grid0.coords (tokPt u)) (isTok_tokPt u) (ins m c (tokPt u)) (ix5 0 0 0 e l) = a10 m c (ix6 0 u l 1 1 e) := by
  rw [← ins_x16 m c u 1 1 e l]
  unfold A.v233
  pointwise []
theorem v254_at (c : Dev nD) (u : Fin 32) (e : Fin 64) (l : Fin 2048) : A.v254 (grid0.coords (tokPt u)) (isTok_tokPt u) (ins m c (tokPt u)) (ix5 0 0 0 e l) = a10 m c (ix6 0 u l 1 2 e) := by
  rw [← ins_x16 m c u 1 2 e l]
  unfold A.v254
  pointwise []
theorem v266_at (c : Dev nD) (u : Fin 32) (e : Fin 64) (l : Fin 2048) : A.v266 (grid0.coords (tokPt u)) (isTok_tokPt u) (ins m c (tokPt u)) (ix5 0 0 0 e l) = a10 m c (ix6 0 u l 1 3 e) := by
  rw [← ins_x16 m c u 1 3 e l]
  unfold A.v266
  pointwise []
theorem v287_at (c : Dev nD) (u : Fin 32) (e : Fin 64) (l : Fin 2048) : A.v287 (grid0.coords (tokPt u)) (isTok_tokPt u) (ins m c (tokPt u)) (ix5 0 0 0 e l) = a10 m c (ix6 0 u l 1 4 e) := by
  rw [← ins_x16 m c u 1 4 e l]
  unfold A.v287
  pointwise []
theorem v299_at (c : Dev nD) (u : Fin 32) (e : Fin 64) (l : Fin 2048) : A.v299 (grid0.coords (tokPt u)) (isTok_tokPt u) (ins m c (tokPt u)) (ix5 0 0 0 e l) = a10 m c (ix6 0 u l 1 5 e) := by
  rw [← ins_x16 m c u 1 5 e l]
  unfold A.v299
  pointwise []
theorem v320_at (c : Dev nD) (u : Fin 32) (e : Fin 64) (l : Fin 2048) : A.v320 (grid0.coords (tokPt u)) (isTok_tokPt u) (ins m c (tokPt u)) (ix5 0 0 0 e l) = a10 m c (ix6 0 u l 1 6 e) := by
  rw [← ins_x16 m c u 1 6 e l]
  unfold A.v320
  pointwise []
theorem v332_at (c : Dev nD) (u : Fin 32) (e : Fin 64) (l : Fin 2048) : A.v332 (grid0.coords (tokPt u)) (isTok_tokPt u) (ins m c (tokPt u)) (ix5 0 0 0 e l) = a10 m c (ix6 0 u l 1 7 e) := by
  rw [← ins_x16 m c u 1 7 e l]
  unfold A.v332
  pointwise []
theorem v128_at (c : Dev nD) (u : Fin 32) (h : Fin 8) : A.v128 (grid0.coords (tokPt u)) (isTok_tokPt u) (ins m c (tokPt u)) (ix2 h 0) = btab m c 0 h 0 := by
  rw [← bias_self m c h 0, ← ins_x19 m c (tokPt u) h 0]
  unfold A.v128
  pointwise []
theorem v132_at (c : Dev nD) (u : Fin 32) (h : Fin 8) (l : Fin 128) : A.v132 (grid0.coords (tokPt u)) (isTok_tokPt u) (ins m c (tokPt u)) (ix3 0 h l) = (show FVec Ideal S3x8x2048 .f32 from V m c main_v117) (ix3 0 h ⟨1920 + l.val, by omega⟩) := by
  rw [← ins_x18 m c (tokPt u) 0 h ⟨1920 + l.val, by omega⟩]
  unfold A.v132
  pointwise []
theorem v149_at (c : Dev nD) (u : Fin 32) (h : Fin 8) (l : Fin 512) : A.v149 (grid0.coords (tokPt u)) (isTok_tokPt u) (ins m c (tokPt u)) (ix3 0 h l) = (show FVec Ideal S3x8x2048 .f32 from V m c main_v117) (ix3 1 h ⟨1536 + l.val, by omega⟩) := by
  rw [← ins_x18 m c (tokPt u) 1 h ⟨1536 + l.val, by omega⟩]
  unfold A.v149
  pointwise []
theorem v165_at (c : Dev nD) (u : Fin 32) (h : Fin 8) (l : Fin 2048) : A.v165 (grid0.coords (tokPt u)) (isTok_tokPt u) (ins m c (tokPt u)) (ix3 0 h l) = (show FVec Ideal S3x8x2048 .f32 from V m c main_v117) (ix3 2 h l) := by
  rw [← ins_x18 m c (tokPt u) 2 h l]
  unfold A.v165
  pointwise []
end Cert.KernelIdeal.Mix
end
-- ==== Proof.Logits.lean ====
module

public import proofs.«01_k».proof.Proof.Loads

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The logits of every head. -/

/-- The query's product with the cached key at column `l`. -/
def qkc (c : Dev nD) (u : Fin 32) (h : Fin 8) (l : Fin 2048) : EReal := ∑ e, a10 m c (ix6 0 u l 0 h e) * a4 m c (ix2 u (ah h e))
/-- The query's product with the token's own key. -/
def qks (c : Dev nD) (u : Fin 32) (h : Fin 8) : EReal := ∑ e, a4 m c (ix2 u (ah h e)) * a5 m c (ix2 u (akc h e))

theorem p10_at (v7 : Vec Ideal S1x512 .f32) (l : Fin 128) : k0_pay10 v7 (ix2 0 l) = v7 (ix2 0 ⟨128 + l.val, by omega⟩) := by
  pointwise [k0_pay10]
theorem p11_at (v9 : Vec Ideal S1x1024 .f32) (l : Fin 128) : k0_pay11 v9 (ix2 0 l) = v9 (ix2 0 ⟨128 + l.val, by omega⟩) := by
  pointwise [k0_pay11]
theorem p12_at (v7 : Vec Ideal S1x512 .f32) (j l : Fin 128) : k0_pay12 v7 (ix2 j l) = v7 (ix2 0 ⟨128 + j.val, by omega⟩) := by
  pointwise [k0_pay12]
  simp only [p10_at]

theorem p13_at (v43 : FVec Ideal S128x128 .f32) (v44 : Vec Ideal S1x1x1x64x2048 .f32) (l : Fin 2048) : k0_pay13 v43 v44 (ix2 0 l) = ∑ x : Fin 64, v44 (ix5 0 0 0 x l) * v43 (ix2 ⟨x.val, by omega⟩ 0) := by
  pointwise [k0_pay13]
theorem p14_at (v39 v40 : FVec Ideal S1x128 .f32) : k0_pay14 v39 v40 (ix2 0 0) = ∑ x : Fin 64, v39 (ix2 0 ⟨x.val, by omega⟩) * v40 (ix2 0 ⟨x.val, by omega⟩) := by
  pointwise [k0_pay14]
theorem p15_at (v43 : FVec Ideal S128x128 .f32) (v44 : Vec Ideal S1x1x1x64x2048 .f32) (l : Fin 2048) : k0_pay15 v43 v44 (ix2 0 l) = ∑ x : Fin 64, v44 (ix5 0 0 0 x l) * v43 (ix2 ⟨64 + x.val, by omega⟩ 0) := by
  pointwise [k0_pay15]
theorem p16_at (v39 v40 : FVec Ideal S1x128 .f32) : k0_pay16 v39 v40 (ix2 0 0) = ∑ x : Fin 64, v39 (ix2 0 ⟨64 + x.val, by omega⟩) * v40 (ix2 0 ⟨64 + x.val, by omega⟩) := by
  pointwise [k0_pay16]

theorem qkc0 (c : Dev nD) (u : Fin 32) (l : Fin 2048) : A.v126 (grid0.coords (tokPt u)) (isTok_tokPt u) (ins m c (tokPt u)) (ix2 0 l) = qkc m c u 0 l := by
  unfold qkc
  pointwise [A.v126, k0_pay23, A.v21, k0_pay6, k0_pay5, k0_pay3]
  simp only [v7_at, v15_at]
  refine Finset.sum_congr rfl fun e _ => congrArg (fun z => a10 m c (ix6 0 u l 0 0 e) * a4 m c (ix2 u z)) (Fin.ext ?_)
  simp [ah]
  try omega
theorem qks0 (c : Dev nD) (u : Fin 32) : A.v127 (grid0.coords (tokPt u)) (isTok_tokPt u) (ins m c (tokPt u)) (ix2 0 0) = qks m c u 0 := by
  unfold qks
  pointwise [A.v127, k0_pay24, A.v26, k0_pay7, k0_pay3, k0_pay4]
  simp only [v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc1 (c : Dev nD) (u : Fin 32) (l : Fin 2048) : A.v126 (grid0.coords (tokPt u)) (isTok_tokPt u) (ins m c (tokPt u)) (ix2 1 l) = qkc m c u 1 l := by
  unfold qkc
  pointwise [A.v126, k0_pay23, A.v33, k0_pay8, k0_pay5, k0_pay3]
  simp only [v7_at, v27_at]
  refine Finset.sum_congr rfl fun e _ => congrArg (fun z => a10 m c (ix6 0 u l 0 1 e) * a4 m c (ix2 u z)) (Fin.ext ?_)
  simp [ah]
  try omega
theorem qks1 (c : Dev nD) (u : Fin 32) : A.v127 (grid0.coords (tokPt u)) (isTok_tokPt u) (ins m c (tokPt u)) (ix2 1 0) = qks m c u 1 := by
  unfold qks
  pointwise [A.v127, k0_pay24, A.v38, k0_pay9, k0_pay3, k0_pay4]
  simp only [v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc2 (c : Dev nD) (u : Fin 32) (l : Fin 2048) : A.v126 (grid0.coords (tokPt u)) (isTok_tokPt u) (ins m c (tokPt u)) (ix2 2 l) = qkc m c u 2 l := by
  unfold qkc
  pointwise [A.v126, k0_pay23]
  simp only [A.v50, A.v43, p13_at, p12_at, v7_at, v44_at]
  refine Finset.sum_congr rfl fun e _ => congrArg (fun z => a10 m c (ix6 0 u l 0 2 e) * a4 m c (ix2 u z)) (Fin.ext ?_)
  simp [ah]
  try omega
theorem qks2 (c : Dev nD) (u : Fin 32) : A.v127 (grid0.coords (tokPt u)) (isTok_tokPt u) (ins m c (tokPt u)) (ix2 2 0) = qks m c u 2 := by
  unfold qks
  pointwise [A.v127, k0_pay24]
  simp only [A.v55, p14_at, A.v39, A.v40, p10_at, p11_at, v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc3 (c : Dev nD) (u : Fin 32) (l : Fin 2048) : A.v126 (grid0.coords (tokPt u)) (isTok_tokPt u) (ins m c (tokPt u)) (ix2 3 l) = qkc m c u 3 l := by
  unfold qkc
  pointwise [A.v126, k0_pay23]
  simp only [A.v62, A.v43, p15_at, p12_at, v7_at, v56_at]
  refine Finset.sum_congr rfl fun e _ => congrArg (fun z => a10 m c (ix6 0 u l 0 3 e) * a4 m c (ix2 u z)) (Fin.ext ?_)
  simp [ah]
  try omega
theorem qks3 (c : Dev nD) (u : Fin 32) : A.v127 (grid0.coords (tokPt u)) (isTok_tokPt u) (ins m c (tokPt u)) (ix2 3 0) = qks m c u 3 := by
  unfold qks
  pointwise [A.v127, k0_pay24]
  simp only [A.v67, p16_at, A.v39, A.v40, p10_at, p11_at, v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc4 (c : Dev nD) (u : Fin 32) (l : Fin 2048) : A.v126 (grid0.coords (tokPt u)) (isTok_tokPt u) (ins m c (tokPt u)) (ix2 4 l) = qkc m c u 4 l := by
  unfold qkc
  pointwise [A.v126, k0_pay23, A.v79, k0_pay20, A.v72, k0_pay19, k0_pay17]
  simp only [v7_at, v73_at]
  refine Finset.sum_congr rfl fun e _ => congrArg (fun z => a10 m c (ix6 0 u l 0 4 e) * a4 m c (ix2 u z)) (Fin.ext ?_)
  simp [ah]
  try omega
theorem qks4 (c : Dev nD) (u : Fin 32) : A.v127 (grid0.coords (tokPt u)) (isTok_tokPt u) (ins m c (tokPt u)) (ix2 4 0) = qks m c u 4 := by
  unfold qks
  pointwise [A.v127, k0_pay24, A.v84, k0_pay21, A.v68, k0_pay17, A.v69, k0_pay18]
  simp only [v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc5 (c : Dev nD) (u : Fin 32) (l : Fin 2048) : A.v126 (grid0.coords (tokPt u)) (isTok_tokPt u) (ins m c (tokPt u)) (ix2 5 l) = qkc m c u 5 l := by
  unfold qkc
  pointwise [A.v126, k0_pay23, A.v72, k0_pay19, k0_pay17]
  simp only [v7_at, v85_at]
  refine Finset.sum_congr rfl fun e _ => congrArg (fun z => a10 m c (ix6 0 u l 0 5 e) * a4 m c (ix2 u z)) (Fin.ext ?_)
  simp [ah]
  try omega
theorem qks5 (c : Dev nD) (u : Fin 32) : A.v127 (grid0.coords (tokPt u)) (isTok_tokPt u) (ins m c (tokPt u)) (ix2 5 0) = qks m c u 5 := by
  unfold qks
  pointwise [A.v127, k0_pay24, A.v68, k0_pay17, A.v69, k0_pay18]
  simp only [v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc6 (c : Dev nD) (u : Fin 32) (l : Fin 2048) : A.v126 (grid0.coords (tokPt u)) (isTok_tokPt u) (ins m c (tokPt u)) (ix2 6 l) = qkc m c u 6 l := by
  unfold qkc
  pointwise [A.v126, k0_pay23, k0_pay22]
  simp only [v7_at, v102_at]
  refine Finset.sum_congr rfl fun e _ => congrArg (fun z => a10 m c (ix6 0 u l 0 6 e) * a4 m c (ix2 u z)) (Fin.ext ?_)
  simp [ah]
  try omega
theorem qks6 (c : Dev nD) (u : Fin 32) : A.v127 (grid0.coords (tokPt u)) (isTok_tokPt u) (ins m c (tokPt u)) (ix2 6 0) = qks m c u 6 := by
  unfold qks
  pointwise [A.v127, k0_pay24, k0_pay22]
  simp only [v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc7 (c : Dev nD) (u : Fin 32) (l : Fin 2048) : A.v126 (grid0.coords (tokPt u)) (isTok_tokPt u) (ins m c (tokPt u)) (ix2 7 l) = qkc m c u 7 l := by
  unfold qkc
  pointwise [A.v126, k0_pay23, k0_pay22]
  simp only [v7_at, v114_at]
  refine Finset.sum_congr rfl fun e _ => congrArg (fun z => a10 m c (ix6 0 u l 0 7 e) * a4 m c (ix2 u z)) (Fin.ext ?_)
  simp [ah]
  try omega
theorem qks7 (c : Dev nD) (u : Fin 32) : A.v127 (grid0.coords (tokPt u)) (isTok_tokPt u) (ins m c (tokPt u)) (ix2 7 0) = qks m c u 7 := by
  unfold qks
  pointwise [A.v127, k0_pay24, k0_pay22]
  simp only [v7_at, v9_at]
  refine Finset.sum_congr rfl fun e _ => congrArg₂ (fun y z => a4 m c (ix2 u y) * a5 m c (ix2 u z)) (Fin.ext ?_) (Fin.ext ?_)
  · simp [ah]
    try omega
  · simp [akc]
    try omega
theorem qkc_at (c : Dev nD) (u : Fin 32) (h : Fin 8) (l : Fin 2048) : A.v126 (grid0.coords (tokPt u)) (isTok_tokPt u) (ins m c (tokPt u)) (ix2 h l) = qkc m c u h l := by
  fin_cases h
  · exact qkc0 m c u l
  · exact qkc1 m c u l
  · exact qkc2 m c u l
  · exact qkc3 m c u l
  · exact qkc4 m c u l
  · exact qkc5 m c u l
  · exact qkc6 m c u l
  · exact qkc7 m c u l
theorem qks_at (c : Dev nD) (u : Fin 32) (h : Fin 8) : A.v127 (grid0.coords (tokPt u)) (isTok_tokPt u) (ins m c (tokPt u)) (ix2 h 0) = qks m c u h := by
  fin_cases h
  · exact qks0 m c u
  · exact qks1 m c u
  · exact qks2 m c u
  · exact qks3 m c u
  · exact qks4 m c u
  · exact qks5 m c u
  · exact qks6 m c u
  · exact qks7 m c u
end Cert.KernelIdeal.Mix
end
-- ==== Proof.MidAt.lean ====
module

public import proofs.«01_k».proof.Proof.Logits

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The attention output of a token, entry by entry. -/

/-- The first window's logits on its columns. -/
def kt1 (c : Dev nD) (u : Fin 32) (h : Fin 8) : Fin 128 → EReal := fun l => qkc m c u h ⟨1920 + l.val, by omega⟩ + (show FVec Ideal S3x8x2048 .f32 from V m c main_v117) (ix3 0 h ⟨1920 + l.val, by omega⟩)
/-- The second window's. -/
def kt2 (c : Dev nD) (u : Fin 32) (h : Fin 8) : Fin 512 → EReal := fun l => qkc m c u h ⟨1536 + l.val, by omega⟩ + (show FVec Ideal S3x8x2048 .f32 from V m c main_v117) (ix3 1 h ⟨1536 + l.val, by omega⟩)
/-- The third window's. -/
def kt3 (c : Dev nD) (u : Fin 32) (h : Fin 8) : Fin 2048 → EReal := fun l => qkc m c u h l + (show FVec Ideal S3x8x2048 .f32 from V m c main_v117) (ix3 2 h l)
/-- The token's logit with itself. -/
def ks (c : Dev nD) (u : Fin 32) (h : Fin 8) : EReal := qks m c u h + btab m c 0 h 0

theorem mid (c : Dev nD) (u : Fin 32) (h : Fin 8) : Mid h (kt1 m c u h) (kt2 m c u h) (kt3 m c u h) (ks m c u h)
    (A.v130 (grid0.coords (tokPt u)) (isTok_tokPt u) (ins m c (tokPt u))) (A.v140 (grid0.coords (tokPt u)) (isTok_tokPt u) (ins m c (tokPt u))) (A.v142 (grid0.coords (tokPt u)) (isTok_tokPt u) (ins m c (tokPt u))) (A.v145 (grid0.coords (tokPt u)) (isTok_tokPt u) (ins m c (tokPt u))) (A.v147 (grid0.coords (tokPt u)) (isTok_tokPt u) (ins m c (tokPt u))) (A.v157 (grid0.coords (tokPt u)) (isTok_tokPt u) (ins m c (tokPt u))) (A.v159 (grid0.coords (tokPt u)) (isTok_tokPt u) (ins m c (tokPt u))) (A.v162 (grid0.coords (tokPt u)) (isTok_tokPt u) (ins m c (tokPt u))) (A.v164 (grid0.coords (tokPt u)) (isTok_tokPt u) (ins m c (tokPt u))) (A.v167 (grid0.coords (tokPt u)) (isTok_tokPt u) (ins m c (tokPt u))) (A.v170 (grid0.coords (tokPt u)) (isTok_tokPt u) (ins m c (tokPt u))) (A.v171 (grid0.coords (tokPt u)) (isTok_tokPt u) (ins m c (tokPt u))) where
  c130 := by
    unfold A.v130
    pointwise [k0_pay25]
    simp only [qks_at, v128_at]
    rfl
  c140 := fun l => by
    unfold A.v140
    rw [b1p]
    simp only [qkc_at, qks_at, v128_at, v132_at, v149_at, v165_at]
    rfl
  c142 := by
    unfold A.v142
    rw [b1s]
    simp only [qkc_at, qks_at, v128_at, v132_at, v149_at, v165_at]
    rfl
  c145 := by
    unfold A.v145
    rw [b1d]
    simp only [qkc_at, qks_at, v128_at, v132_at, v149_at, v165_at]
    rfl
  c147 := by
    unfold A.v147
    rw [b1l]
    simp only [qkc_at, qks_at, v128_at, v132_at, v149_at, v165_at]
    rfl
  c157 := fun l => by
    unfold A.v157
    rw [b2p]
    simp only [qkc_at, qks_at, v128_at, v132_at, v149_at, v165_at]
    rfl
  c159 := by
    unfold A.v159
    rw [b2s]
    simp only [qkc_at, qks_at, v128_at, v132_at, v149_at, v165_at]
    rfl
  c162 := by
    unfold A.v162
    rw [b2d]
    simp only [qkc_at, qks_at, v128_at, v132_at, v149_at, v165_at]
    rfl
  c164 := by
    unfold A.v164
    rw [b2l]
    simp only [qkc_at, qks_at, v128_at, v132_at, v149_at, v165_at]
    rfl
  c167 := fun l => by
    unfold A.v167
    pointwise [k0_pay38]
    simp only [qkc_at, v165_at]
    rfl
  c170 := by
    unfold A.v170
    rw [b3m]
    simp only [qkc_at, qks_at, v128_at, v132_at, v149_at, v165_at]
    rfl
  c171 := fun l => by
    unfold A.v171
    pointwise [k0_pay40]
    rw [b3m]
    simp only [qkc_at, qks_at, v128_at, v132_at, v149_at, v165_at]
    rfl

end Cert.KernelIdeal.Mix
end
-- ==== Proof.HeadPay.lean ====
module

public import proofs.«01_k».proof.Proof.Logits

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The output payloads, entry by entry. -/

theorem p57_lo (v211 : FVec Ideal S8x2048 .f32) (v216 : FVec Ideal S8x1 .f32) (v220 : FVec Ideal S128x128 .f32) (v225 : FVec Ideal S64x2048 .f32) (v233 : Vec Ideal S1x1x1x64x2048 .f32) (l : Fin 128) (e : Fin 64) (hl : l.val = e.val) :
    k0_pay57 v211 v216 v220 v225 v233 (ix2 0 l) = ∑ x, v225 (ix2 e x) + v216 (ix2 0 0) * v220 (ix2 l 0) := by
  pointwise [k0_pay57]
  rw [dif_pos (by omega), show (⟨l.val, by omega⟩ : Fin 64) = e from Fin.ext hl]
theorem p57_hi (v211 : FVec Ideal S8x2048 .f32) (v216 : FVec Ideal S8x1 .f32) (v220 : FVec Ideal S128x128 .f32) (v225 : FVec Ideal S64x2048 .f32) (v233 : Vec Ideal S1x1x1x64x2048 .f32) (l : Fin 128) (e : Fin 64) (hl : l.val = 64 + e.val) :
    k0_pay57 v211 v216 v220 v225 v233 (ix2 0 l) = ∑ x, v233 (ix5 0 0 0 e x) * v211 (ix2 1 x) + v216 (ix2 1 0) * v220 (ix2 l 0) := by
  pointwise [k0_pay57]
  rw [dif_neg (by omega)]
  simp only [show (⟨l.val - 64, by omega⟩ : Fin 64) = e from Fin.ext (by show l.val - 64 = e.val; omega), show (⟨64 + (l.val - 64), by omega⟩ : Fin 128) = l from Fin.ext (by show 64 + (l.val - 64) = l.val; omega)]
theorem p59_at (v9 : Vec Ideal S1x1024 .f32) (v211 : FVec Ideal S8x2048 .f32) (v216 : FVec Ideal S8x1 .f32) (v254 : Vec Ideal S1x1x1x64x2048 .f32) (e : Fin 64) :
    k0_pay59 v9 v211 v216 v254 (ix2 e 0) = ∑ x, v254 (ix5 0 0 0 e x) * v211 (ix2 2 x) + v216 (ix2 2 0) * v9 (ix2 0 ⟨640 + e.val, by omega⟩) := by
  pointwise [k0_pay59, k0_pay58]
theorem p61_lo (v211 : FVec Ideal S8x2048 .f32) (v216 : FVec Ideal S8x1 .f32) (v253 : FVec Ideal S128x128 .f32) (v265 : FVec Ideal S64x1 .f32) (v267 : FVec Ideal S64x2048 .f32) (l : Fin 128) (e : Fin 64) (hl : l.val = e.val) :
    k0_pay61 v211 v216 v253 v265 v267 (ix2 0 l) = v265 (ix2 e 0) := by
  pointwise [k0_pay61]
  rw [dif_pos (by omega), show (⟨l.val, by omega⟩ : Fin 64) = e from Fin.ext hl]
theorem p61_hi (v211 : FVec Ideal S8x2048 .f32) (v216 : FVec Ideal S8x1 .f32) (v253 : FVec Ideal S128x128 .f32) (v265 : FVec Ideal S64x1 .f32) (v267 : FVec Ideal S64x2048 .f32) (l : Fin 128) (e : Fin 64) (hl : l.val = 64 + e.val) :
    k0_pay61 v211 v216 v253 v265 v267 (ix2 0 l) = ∑ x, v267 (ix2 e x) * v211 (ix2 3 x) + v216 (ix2 3 0) * v253 (ix2 l 0) := by
  pointwise [k0_pay61]
  rw [dif_neg (by omega)]
  simp only [show (⟨l.val - 64, by omega⟩ : Fin 64) = e from Fin.ext (by show l.val - 64 = e.val; omega), show (⟨64 + (l.val - 64), by omega⟩ : Fin 128) = l from Fin.ext (by show 64 + (l.val - 64) = l.val; omega)]
theorem p62_lo (v9 : Vec Ideal S1x1024 .f32) (v211 : FVec Ideal S8x2048 .f32) (v216 : FVec Ideal S8x1 .f32) (v287 v299 : Vec Ideal S1x1x1x64x2048 .f32) (l : Fin 128) (e : Fin 64) (hl : l.val = e.val) :
    k0_pay62 v9 v211 v216 v287 v299 (ix2 0 l) = ∑ x, v287 (ix5 0 0 0 e x) * v211 (ix2 4 x) + v216 (ix2 4 0) * v9 (ix2 0 ⟨768 + l.val, by omega⟩) := by
  pointwise [k0_pay62]
  rw [dif_pos (by omega)]
  simp only [show (⟨l.val, by omega⟩ : Fin 64) = e from Fin.ext hl]
theorem p62_hi (v9 : Vec Ideal S1x1024 .f32) (v211 : FVec Ideal S8x2048 .f32) (v216 : FVec Ideal S8x1 .f32) (v287 v299 : Vec Ideal S1x1x1x64x2048 .f32) (l : Fin 128) (e : Fin 64) (hl : l.val = 64 + e.val) :
    k0_pay62 v9 v211 v216 v287 v299 (ix2 0 l) = ∑ x, v299 (ix5 0 0 0 e x) * v211 (ix2 5 x) + v216 (ix2 5 0) * v9 (ix2 0 ⟨768 + l.val, by omega⟩) := by
  pointwise [k0_pay62]
  rw [dif_neg (by omega)]
  simp only [show (⟨l.val - 64, by omega⟩ : Fin 64) = e from Fin.ext (by show l.val - 64 = e.val; omega), show (⟨768 + (64 + (l.val - 64)), by omega⟩ : Fin 1024) = ⟨768 + l.val, by omega⟩ from Fin.ext (by show 768 + (64 + (l.val - 64)) = 768 + l.val; omega)]

theorem p63_0 (v9 : Vec Ideal S1x1024 .f32) (v211 : FVec Ideal S8x2048 .f32) (v216 : FVec Ideal S8x1 .f32) (v249 v282 : FVec Ideal S1x128 .f32) (v314 : FVec Ideal S128x128 .f32) (v320 v332 : Vec Ideal S1x1x1x64x2048 .f32) (k : Fin 512) (l : Fin 128) (hl : k.val = 0 + l.val) : k0_pay63 v9 v211 v216 v249 v282 v314 v320 v332 (ix2 0 k) = v249 (ix2 0 l) := by
  pointwise [k0_pay63]
  rw [dif_pos (show k.val < 128 by omega), show (⟨k.val, by omega⟩ : Fin 128) = l from Fin.ext (by show k.val = l.val; omega)]
theorem p63_1 (v9 : Vec Ideal S1x1024 .f32) (v211 : FVec Ideal S8x2048 .f32) (v216 : FVec Ideal S8x1 .f32) (v249 v282 : FVec Ideal S1x128 .f32) (v314 : FVec Ideal S128x128 .f32) (v320 v332 : Vec Ideal S1x1x1x64x2048 .f32) (k : Fin 512) (l : Fin 128) (hl : k.val = 128 + l.val) : k0_pay63 v9 v211 v216 v249 v282 v314 v320 v332 (ix2 0 k) = v282 (ix2 0 l) := by
  pointwise [k0_pay63]
  rw [dif_neg (show ¬ k.val < 128 by omega), dif_pos (show k.val - 128 < 128 by omega), show (⟨k.val - 128, by omega⟩ : Fin 128) = l from Fin.ext (by show k.val - 128 = l.val; omega)]
theorem p63_2 (v9 : Vec Ideal S1x1024 .f32) (v211 : FVec Ideal S8x2048 .f32) (v216 : FVec Ideal S8x1 .f32) (v249 v282 : FVec Ideal S1x128 .f32) (v314 : FVec Ideal S128x128 .f32) (v320 v332 : Vec Ideal S1x1x1x64x2048 .f32) (k : Fin 512) (l : Fin 128) (hl : k.val = 256 + l.val) : k0_pay63 v9 v211 v216 v249 v282 v314 v320 v332 (ix2 0 k) = v314 (ix2 0 l) := by
  pointwise [k0_pay63]
  rw [dif_neg (show ¬ k.val < 128 by omega), dif_neg (show ¬ k.val - 128 < 128 by omega), dif_pos (show k.val - 128 - 128 < 128 by omega), show (⟨k.val - 128 - 128, by omega⟩ : Fin 128) = l from Fin.ext (by show k.val - 128 - 128 = l.val; omega)]
theorem p63_3 (v9 : Vec Ideal S1x1024 .f32) (v211 : FVec Ideal S8x2048 .f32) (v216 : FVec Ideal S8x1 .f32) (v249 v282 : FVec Ideal S1x128 .f32) (v314 : FVec Ideal S128x128 .f32) (v320 v332 : Vec Ideal S1x1x1x64x2048 .f32) (k : Fin 512) (e : Fin 64) (hl : k.val = 384 + e.val) : k0_pay63 v9 v211 v216 v249 v282 v314 v320 v332 (ix2 0 k) = ∑ x, v320 (ix5 0 0 0 e x) * v211 (ix2 6 x) + v216 (ix2 6 0) * v9 (ix2 0 ⟨512 + k.val, by omega⟩) := by
  pointwise [k0_pay63]
  rw [dif_neg (show ¬ k.val < 128 by omega), dif_neg (show ¬ k.val - 128 < 128 by omega), dif_neg (show ¬ k.val - 128 - 128 < 128 by omega), dif_pos (show k.val - 128 - 128 - 128 < 64 by omega)]
  simp only [show (⟨k.val - 128 - 128 - 128, by omega⟩ : Fin 64) = e from Fin.ext (by show k.val - 128 - 128 - 128 = e.val; omega), show (⟨896 + (k.val - 128 - 128 - 128), by omega⟩ : Fin 1024) = ⟨512 + k.val, by omega⟩ from Fin.ext (by show 896 + (k.val - 128 - 128 - 128) = 512 + k.val; omega)]
theorem p63_4 (v9 : Vec Ideal S1x1024 .f32) (v211 : FVec Ideal S8x2048 .f32) (v216 : FVec Ideal S8x1 .f32) (v249 v282 : FVec Ideal S1x128 .f32) (v314 : FVec Ideal S128x128 .f32) (v320 v332 : Vec Ideal S1x1x1x64x2048 .f32) (k : Fin 512) (e : Fin 64) (hl : k.val = 448 + e.val) : k0_pay63 v9 v211 v216 v249 v282 v314 v320 v332 (ix2 0 k) = ∑ x, v332 (ix5 0 0 0 e x) * v211 (ix2 7 x) + v216 (ix2 7 0) * v9 (ix2 0 ⟨512 + k.val, by omega⟩) := by
  pointwise [k0_pay63]
  rw [dif_neg (show ¬ k.val < 128 by omega), dif_neg (show ¬ k.val - 128 < 128 by omega), dif_neg (show ¬ k.val - 128 - 128 < 128 by omega), dif_neg (show ¬ k.val - 128 - 128 - 128 < 64 by omega)]
  simp only [show (⟨k.val - 128 - 128 - 128 - 64, by omega⟩ : Fin 64) = e from Fin.ext (by show k.val - 128 - 128 - 128 - 64 = e.val; omega), show (⟨896 + (64 + (k.val - 128 - 128 - 128 - 64)), by omega⟩ : Fin 1024) = ⟨512 + k.val, by omega⟩ from Fin.ext (by show 896 + (64 + (k.val - 128 - 128 - 128 - 64)) = 512 + k.val; omega)]

end Cert.KernelIdeal.Mix
end
-- ==== Proof.AttOut.lean ====
module

public import proofs.«01_k».proof.Proof.MidAt
public import proofs.«01_k».proof.Proof.HeadPay

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! The attention output of a token, entry by entry. -/

theorem v211_at (c : Dev nD) (u : Fin 32) (h : Fin 8) (l : Fin 2048) : A.v211 (grid0.coords (tokPt u)) (isTok_tokPt u) (ins m c (tokPt u)) (ix2 h l) = kweight (kt1 m c u h) (kt2 m c u h) (kt3 m c u h) (ks m c u h) l :=
  (mid m c u h).weight l
theorem v216_at (c : Dev nD) (u : Fin 32) (h : Fin 8) : A.v216 (grid0.coords (tokPt u)) (isTok_tokPt u) (ins m c (tokPt u)) (ix2 h 0) = kself (kt1 m c u h) (kt2 m c u h) (kt3 m c u h) (ks m c u h) :=
  (mid m c u h).self
theorem v225_at (c : Dev nD) (u : Fin 32) (j : Fin 64) (l : Fin 2048) : A.v225 (grid0.coords (tokPt u)) (isTok_tokPt u) (ins m c (tokPt u)) (ix2 j l) = a10 m c (ix6 0 u l 1 0 j) * kweight (kt1 m c u 0) (kt2 m c u 0) (kt3 m c u 0) (ks m c u 0) l := by
  unfold A.v225
  pointwise [k0_pay56]
  rw [(mid m c u 0).weight l, v221_at]
theorem v220_at (c : Dev nD) (u : Fin 32) (j l : Fin 128) : A.v220 (grid0.coords (tokPt u)) (isTok_tokPt u) (ins m c (tokPt u)) (ix2 j l) = a5 m c (ix2 u ⟨512 + j.val, by omega⟩) := by
  unfold A.v220
  pointwise [k0_pay55]
  rw [v9_at]
theorem v253_at (c : Dev nD) (u : Fin 32) (j l : Fin 128) : A.v253 (grid0.coords (tokPt u)) (isTok_tokPt u) (ins m c (tokPt u)) (ix2 j l) = a5 m c (ix2 u ⟨640 + j.val, by omega⟩) := by
  unfold A.v253
  pointwise [k0_pay58]
  rw [v9_at]
theorem v267_at (c : Dev nD) (u : Fin 32) (j : Fin 64) (l : Fin 2048) : A.v267 (grid0.coords (tokPt u)) (isTok_tokPt u) (ins m c (tokPt u)) (ix2 j l) = a10 m c (ix6 0 u l 1 3 j) := by
  unfold A.v267
  pointwise [k0_pay60]
  rw [v266_at]

theorem attRow0 (c : Dev nD) (u : Fin 32) (e : Fin 64) : attRow m c u (ix2 0 (ah 0 e))
    = kout (kt1 m c u 0) (kt2 m c u 0) (kt3 m c u 0) (ks m c u 0) (fun l => a10 m c (ix6 0 u l 1 0 e)) (a5 m c (ix2 u (avc 0 e))) := by
  have hk : (ah 0 e).val = 0 + e.val := by simp [ah]
  unfold attRow A.p22_0
  refine (p63_0 _ _ _ _ _ _ _ _ _ ⟨e.val, by omega⟩ (by rw [hk])).trans ?_
  unfold A.v249
  refine (p57_lo _ _ _ _ _ _ e rfl).trans ?_
  simp only [v225_at m c u, v220_at m c u, v216_at m c u]
  refine congrArg (fun z => (∑ l, a10 m c (ix6 0 u l 1 0 e) * kweight (kt1 m c u 0) (kt2 m c u 0) (kt3 m c u 0) (ks m c u 0) l) + kself (kt1 m c u 0) (kt2 m c u 0) (kt3 m c u 0) (ks m c u 0) * a5 m c (ix2 u z)) (Fin.ext ?_)
  simp [avc, ah]
  try omega
theorem attRow1 (c : Dev nD) (u : Fin 32) (e : Fin 64) : attRow m c u (ix2 0 (ah 1 e))
    = kout (kt1 m c u 1) (kt2 m c u 1) (kt3 m c u 1) (ks m c u 1) (fun l => a10 m c (ix6 0 u l 1 1 e)) (a5 m c (ix2 u (avc 1 e))) := by
  have hk : (ah 1 e).val = 64 + e.val := by simp [ah]
  unfold attRow A.p22_0
  refine (p63_0 _ _ _ _ _ _ _ _ _ ⟨64 + e.val, by omega⟩ (by rw [hk]; show _ = 0 + (64 + e.val); omega)).trans ?_
  unfold A.v249
  refine (p57_hi _ _ _ _ _ _ e rfl).trans ?_
  simp only [v233_at m c u, v220_at m c u, v211_at m c u, v216_at m c u]
  refine congrArg (fun z => (∑ l, a10 m c (ix6 0 u l 1 1 e) * kweight (kt1 m c u 1) (kt2 m c u 1) (kt3 m c u 1) (ks m c u 1) l) + kself (kt1 m c u 1) (kt2 m c u 1) (kt3 m c u 1) (ks m c u 1) * a5 m c (ix2 u z)) (Fin.ext ?_)
  simp [avc, ah]
  try omega
theorem attRow2 (c : Dev nD) (u : Fin 32) (e : Fin 64) : attRow m c u (ix2 0 (ah 2 e))
    = kout (kt1 m c u 2) (kt2 m c u 2) (kt3 m c u 2) (ks m c u 2) (fun l => a10 m c (ix6 0 u l 1 2 e)) (a5 m c (ix2 u (avc 2 e))) := by
  have hk : (ah 2 e).val = 128 + e.val := by simp [ah]
  unfold attRow A.p22_0
  refine (p63_1 _ _ _ _ _ _ _ _ _ ⟨e.val, by omega⟩ (by rw [hk])).trans ?_
  unfold A.v282
  refine (p61_lo _ _ _ _ _ _ e rfl).trans ?_
  unfold A.v265
  refine (p59_at _ _ _ _ e).trans ?_
  simp only [v254_at m c u, v9_at m c u, v211_at m c u, v216_at m c u]
  refine congrArg (fun z => (∑ l, a10 m c (ix6 0 u l 1 2 e) * kweight (kt1 m c u 2) (kt2 m c u 2) (kt3 m c u 2) (ks m c u 2) l) + kself (kt1 m c u 2) (kt2 m c u 2) (kt3 m c u 2) (ks m c u 2) * a5 m c (ix2 u z)) (Fin.ext ?_)
  simp [avc, ah]
  try omega
theorem attRow3 (c : Dev nD) (u : Fin 32) (e : Fin 64) : attRow m c u (ix2 0 (ah 3 e))
    = kout (kt1 m c u 3) (kt2 m c u 3) (kt3 m c u 3) (ks m c u 3) (fun l => a10 m c (ix6 0 u l 1 3 e)) (a5 m c (ix2 u (avc 3 e))) := by
  have hk : (ah 3 e).val = 192 + e.val := by simp [ah]
  unfold attRow A.p22_0
  refine (p63_1 _ _ _ _ _ _ _ _ _ ⟨64 + e.val, by omega⟩ (by rw [hk]; show _ = 128 + (64 + e.val); omega)).trans ?_
  unfold A.v282
  refine (p61_hi _ _ _ _ _ _ e rfl).trans ?_
  simp only [v267_at m c u, v253_at m c u, v211_at m c u, v216_at m c u]
  refine congrArg (fun z => (∑ l, a10 m c (ix6 0 u l 1 3 e) * kweight (kt1 m c u 3) (kt2 m c u 3) (kt3 m c u 3) (ks m c u 3) l) + kself (kt1 m c u 3) (kt2 m c u 3) (kt3 m c u 3) (ks m c u 3) * a5 m c (ix2 u z)) (Fin.ext ?_)
  simp [avc, ah]
  try omega
theorem attRow4 (c : Dev nD) (u : Fin 32) (e : Fin 64) : attRow m c u (ix2 0 (ah 4 e))
    = kout (kt1 m c u 4) (kt2 m c u 4) (kt3 m c u 4) (ks m c u 4) (fun l => a10 m c (ix6 0 u l 1 4 e)) (a5 m c (ix2 u (avc 4 e))) := by
  have hk : (ah 4 e).val = 256 + e.val := by simp [ah]
  unfold attRow A.p22_0
  refine (p63_2 _ _ _ _ _ _ _ _ _ ⟨e.val, by omega⟩ (by rw [hk])).trans ?_
  unfold A.v314
  refine (p62_lo _ _ _ _ _ _ e rfl).trans ?_
  simp only [v287_at m c u, v9_at m c u, v211_at m c u, v216_at m c u]
  refine congrArg (fun z => (∑ l, a10 m c (ix6 0 u l 1 4 e) * kweight (kt1 m c u 4) (kt2 m c u 4) (kt3 m c u 4) (ks m c u 4) l) + kself (kt1 m c u 4) (kt2 m c u 4) (kt3 m c u 4) (ks m c u 4) * a5 m c (ix2 u z)) (Fin.ext ?_)
  simp [avc, ah]
  try omega
theorem attRow5 (c : Dev nD) (u : Fin 32) (e : Fin 64) : attRow m c u (ix2 0 (ah 5 e))
    = kout (kt1 m c u 5) (kt2 m c u 5) (kt3 m c u 5) (ks m c u 5) (fun l => a10 m c (ix6 0 u l 1 5 e)) (a5 m c (ix2 u (avc 5 e))) := by
  have hk : (ah 5 e).val = 320 + e.val := by simp [ah]
  unfold attRow A.p22_0
  refine (p63_2 _ _ _ _ _ _ _ _ _ ⟨64 + e.val, by omega⟩ (by rw [hk]; show _ = 256 + (64 + e.val); omega)).trans ?_
  unfold A.v314
  refine (p62_hi _ _ _ _ _ _ e rfl).trans ?_
  simp only [v299_at m c u, v9_at m c u, v211_at m c u, v216_at m c u]
  refine congrArg (fun z => (∑ l, a10 m c (ix6 0 u l 1 5 e) * kweight (kt1 m c u 5) (kt2 m c u 5) (kt3 m c u 5) (ks m c u 5) l) + kself (kt1 m c u 5) (kt2 m c u 5) (kt3 m c u 5) (ks m c u 5) * a5 m c (ix2 u z)) (Fin.ext ?_)
  simp [avc, ah]
  try omega
theorem attRow6 (c : Dev nD) (u : Fin 32) (e : Fin 64) : attRow m c u (ix2 0 (ah 6 e))
    = kout (kt1 m c u 6) (kt2 m c u 6) (kt3 m c u 6) (ks m c u 6) (fun l => a10 m c (ix6 0 u l 1 6 e)) (a5 m c (ix2 u (avc 6 e))) := by
  have hk : (ah 6 e).val = 384 + e.val := by simp [ah]
  unfold attRow A.p22_0
  refine (p63_3 _ _ _ _ _ _ _ _ _ e hk).trans ?_
  simp only [v320_at m c u, v9_at m c u, v211_at m c u, v216_at m c u]
  refine congrArg (fun z => (∑ l, a10 m c (ix6 0 u l 1 6 e) * kweight (kt1 m c u 6) (kt2 m c u 6) (kt3 m c u 6) (ks m c u 6) l) + kself (kt1 m c u 6) (kt2 m c u 6) (kt3 m c u 6) (ks m c u 6) * a5 m c (ix2 u z)) (Fin.ext ?_)
  simp [avc, ah]
  try omega
theorem attRow7 (c : Dev nD) (u : Fin 32) (e : Fin 64) : attRow m c u (ix2 0 (ah 7 e))
    = kout (kt1 m c u 7) (kt2 m c u 7) (kt3 m c u 7) (ks m c u 7) (fun l => a10 m c (ix6 0 u l 1 7 e)) (a5 m c (ix2 u (avc 7 e))) := by
  have hk : (ah 7 e).val = 448 + e.val := by simp [ah]
  unfold attRow A.p22_0
  refine (p63_4 _ _ _ _ _ _ _ _ _ e hk).trans ?_
  simp only [v332_at m c u, v9_at m c u, v211_at m c u, v216_at m c u]
  refine congrArg (fun z => (∑ l, a10 m c (ix6 0 u l 1 7 e) * kweight (kt1 m c u 7) (kt2 m c u 7) (kt3 m c u 7) (ks m c u 7) l) + kself (kt1 m c u 7) (kt2 m c u 7) (kt3 m c u 7) (ks m c u 7) * a5 m c (ix2 u z)) (Fin.ext ?_)
  simp [avc, ah]
  try omega

/-- A token's attention output. -/
theorem attRow_at (c : Dev nD) (u : Fin 32) (h : Fin 8) (e : Fin 64) : attRow m c u (ix2 0 (ah h e))
    = kout (kt1 m c u h) (kt2 m c u h) (kt3 m c u h) (ks m c u h) (fun l => a10 m c (ix6 0 u l 1 h e)) (a5 m c (ix2 u (avc h e))) := by
  fin_cases h
  · exact attRow0 m c u e
  · exact attRow1 m c u e
  · exact attRow2 m c u e
  · exact attRow3 m c u e
  · exact attRow4 m c u e
  · exact attRow5 m c u e
  · exact attRow6 m c u e
  · exact attRow7 m c u e

end Cert.KernelIdeal.Mix
end
-- ==== Proof.RefFfn.lean ====
module

public import proofs.«01_k».proof.Proof.Spec
public import proofs.«01_k».proof.Proof.Gen.ReferenceIdeal.Run

@[expose] public section

set_option maxRecDepth 16384

noncomputable section

namespace Cert.ReferenceIdeal.Mix

open Cert.ReferenceIdeal Cert.ReferenceIdeal.Gen Cert.ReferenceIdeal.Value Cert.Mix
open Idealize.ShloMosaic Idealize.ShloMosaic.TcCoe

/-! The reference's output rows as `layer` of its inputs' rows. -/

/-- Argument 0, at its shape. -/
abbrev arg0 (V0 : Valuation τ sig (Elt Ideal)) : FVec Ideal S16384x1024 .f32 := V0 (Proc.devRef .tc main_arg0)
/-- Argument 1, at its shape. -/
abbrev arg1 (V0 : Valuation τ sig (Elt Ideal)) : FVec Ideal S32x1024 .f32 := V0 (Proc.devRef .tc main_arg1)
/-- Argument 2, at its shape. -/
abbrev arg2 (V0 : Valuation τ sig (Elt Ideal)) : FVec Ideal S16384x512 .bf16 := V0 (Proc.devRef .tc main_arg2)
/-- Argument 3, at its shape. -/
abbrev arg3 (V0 : Valuation τ sig (Elt Ideal)) : FVec Ideal S16384x512 .bf16 := V0 (Proc.devRef .tc main_arg3)
/-- Argument 13, at its shape. -/
abbrev arg13 (V0 : Valuation τ sig (Elt Ideal)) : FVec Ideal S1024x1024 .bf16 := V0 (Proc.devRef .tc main_arg13)
/-- Argument 14, at its shape. -/
abbrev arg14 (V0 : Valuation τ sig (Elt Ideal)) : FVec Ideal S1x1024 .f32 := V0 (Proc.devRef .tc main_arg14)
/-- Argument 15, at its shape. -/
abbrev arg15 (V0 : Valuation τ sig (Elt Ideal)) : FVec Ideal S1x1024 .f32 := V0 (Proc.devRef .tc main_arg15)
/-- Argument 16, at its shape. -/
abbrev arg16 (V0 : Valuation τ sig (Elt Ideal)) : FVec Ideal S1024x4096 .bf16 := V0 (Proc.devRef .tc main_arg16)
/-- Argument 17, at its shape. -/
abbrev arg17 (V0 : Valuation τ sig (Elt Ideal)) : FVec Ideal S4096x1024 .bf16 := V0 (Proc.devRef .tc main_arg17)
/-- Argument 18, at its shape. -/
abbrev arg18 (V0 : Valuation τ sig (Elt Ideal)) : FVec Ideal S1x1024 .f32 := V0 (Proc.devRef .tc main_arg18)
/-- Argument 19, at its shape. -/
abbrev arg19 (V0 : Valuation τ sig (Elt Ideal)) : FVec Ideal S1x1024 .f32 := V0 (Proc.devRef .tc main_arg19)
/-- The reference's attention output over the sample tokens. -/
def refOa {F : FTy → Type} [FloatOps F] (V0 : Valuation τ sig (Elt F)) : FVec F S32x512 .f32 := (shapeCast _ (addf (addf (addf (broadcastInDim S32x8x64 ![] bcast_S_S32x8x64 (constant S_ .f32 0x00000000#32)) (mulf (broadcastInDim S32x8x64 ![0, 1, 2] bcast_S32x8x1_S32x8x64_0_1_2 (broadcastInDim S32x8x1 ![0, 1] bcast_S32x8_S32x8x1_0_1 (shapeCast _ (extractStridedSlice S32x8x1 ![0, 0, 0] (res_main_v279 V0) slices_S32x8x3_S32x8x1_0_0_0) shapeCasts_S32x8x1_S32x8))) (Host.dotGeneral dot_S32x8x129_S32x129x8x64_S32x8x64_2_1_n_3_01_02 none (Host.divf (res_main_v128 V0) (broadcastInDim S32x8x129 ![0, 1, 2] bcast_S32x8x1_S32x8x129_0_1_2 (res_main_v130 V0))) (Host.gather gather_S32x2049x8x64_S129x1_S32x129x8x64_023_1_n_n_1_1_321864 (res_main_v72 V0) (broadcastInDim S129x1 ![0] bcast_S129_S129x1_0 (select (cmpi .slt (res_main_v77 V0) (broadcastInDim S129 ![] bcast_S_S129 (constantI S_ 32 0#32))) (addi (res_main_v77 V0) (broadcastInDim S129 ![] bcast_S_S129 (constantI S_ 32 2049#32))) (res_main_v77 V0))))))) (mulf (broadcastInDim S32x8x64 ![0, 1, 2] bcast_S32x8x1_S32x8x64_0_1_2 (broadcastInDim S32x8x1 ![0, 1] bcast_S32x8_S32x8x1_0_1 (shapeCast _ (extractStridedSlice S32x8x1 ![0, 0, 1] (res_main_v279 V0) slices_S32x8x3_S32x8x1_0_0_1) shapeCasts_S32x8x1_S32x8))) (Host.dotGeneral dot_S32x8x129_S32x129x8x64_S32x8x64_2_1_n_3_01_02 none (Host.divf (res_main_v192 V0) (broadcastInDim S32x8x129 ![0, 1, 2] bcast_S32x8x1_S32x8x129_0_1_2 (res_main_v194 V0))) (Host.gather gather_S32x2049x8x64_S129x1_S32x129x8x64_023_1_n_n_1_1_321864 (res_main_v72 V0) (broadcastInDim S129x1 ![0] bcast_S129_S129x1_0 (select (cmpi .slt (res_main_v141 V0) (broadcastInDim S129 ![] bcast_S_S129 (constantI S_ 32 0#32))) (addi (res_main_v141 V0) (broadcastInDim S129 ![] bcast_S_S129 (constantI S_ 32 2049#32))) (res_main_v141 V0))))))) (mulf (broadcastInDim S32x8x64 ![0, 1, 2] bcast_S32x8x1_S32x8x64_0_1_2 (broadcastInDim S32x8x1 ![0, 1] bcast_S32x8_S32x8x1_0_1 (shapeCast _ (extractStridedSlice S32x8x1 ![0, 0, 2] (res_main_v279 V0) slices_S32x8x3_S32x8x1_0_0_2) shapeCasts_S32x8x1_S32x8))) (Host.dotGeneral dot_S32x8x129_S32x129x8x64_S32x8x64_2_1_n_3_01_02 none (Host.divf (res_main_v256 V0) (broadcastInDim S32x8x129 ![0, 1, 2] bcast_S32x8x1_S32x8x129_0_1_2 (res_main_v258 V0))) (Host.gather gather_S32x2049x8x64_S129x1_S32x129x8x64_023_1_n_n_1_1_321864 (res_main_v72 V0) (broadcastInDim S129x1 ![0] bcast_S129_S129x1_0 (select (cmpi .slt (res_main_v205 V0) (broadcastInDim S129 ![] bcast_S_S129 (constantI S_ 32 0#32))) (addi (res_main_v205 V0) (broadcastInDim S129 ![] bcast_S_S129 (constantI S_ 32 2049#32))) (res_main_v205 V0))))))) shapeCasts_S32x8x64_S32x512)
/-- The reference's gated retention output over the sample tokens. -/
def refYr {F : FTy → Type} [FloatOps F] (V0 : Valuation τ sig (Elt F)) : FVec F S32x512 .f32 := (mulf (mulf (V0 (Proc.devRef .tc main_arg9)) (Host.divf (broadcastInDim S32x512 ![] bcast_S_S32x512 (constant S_ .f32 0x3F800000#32)) (addf (broadcastInDim S32x512 ![] bcast_S_S32x512 (constant S_ .f32 0x3F800000#32)) (Host.exp (Host.negf (V0 (Proc.devRef .tc main_arg9))))))) (shapeCast _ (mulf (subf (res_main_v313 V0) (broadcastInDim S32x4x128 ![0, 1, 2] bcast_S32x4x1_S32x4x128_0_1_2 (res_main_v326 V0))) (broadcastInDim S32x4x128 ![0, 1, 2] bcast_S32x4x1_S32x4x128_0_1_2 (Host.rsqrt (addf (Host.divf (broadcastInDim S32x4x1 ![0, 1] bcast_S32x4_S32x4x1_0_1 (Host.reduceAdd (mulf (res_main_v328 V0) (res_main_v328 V0)) (constant S_ .f32 0x00000000#32) reducesTo_S32x4x128_S32x4_d2 h_S_)) (broadcastInDim S32x4x1 ![] bcast_S_S32x4x1 (constant S_ .f32 0x43000000#32))) (broadcastInDim S32x4x1 ![] bcast_S_S32x4x1 (constant S_ .f32 0x358637BD#32)))))) shapeCasts_S32x4x128_S32x512))

theorem v350_eq {F : FTy → Type} [FloatOps F] (V0 : Valuation τ sig (Elt F)) : res_main_v350 V0 = addf (mulf (broadcastInDim S32x1024 ![] bcast_S_S32x1024 (constant S_ .f32 0x3F9837F0#32)) (V0 (Proc.devRef .tc main_arg1))) (Host.dotGeneral dot_S32x1024_S1024x1024_S32x1024_1_0_0_1_n_n none (concatenate S32x1024 1 [⟨S32x512, (refOa V0)⟩, ⟨S32x512, (refYr V0)⟩] concatenates_S32x512_S32x512_S32x1024_d1) (extf .f32 (V0 (Proc.devRef .tc main_arg13)) bitsLt_bf16_f32)) := rfl

theorem v7_at (V0 : Valuation τ sig (Elt Ideal)) (r : Fin 16384) (j : Fin 1024) : (show FVec Ideal S16384x1024 .f32 from res_main_v7 (F := Ideal) V0) (ix2 r j) = (fun k => cAlpha * arg0 V0 (ix2 r k) + mix (fun k => arg2 V0 (ix2 r k)) (fun k => arg3 V0 (ix2 r k)) (fun q k => arg13 V0 (ix2 q k)) k) j := by
  pointwise [res_main_v7]
  rfl

theorem v11_at (V0 : Valuation τ sig (Elt Ideal)) (r : Fin 16384) : (show FVec Ideal S16384x1 .f32 from res_main_v11 (F := Ideal) V0) (ix2 r 0) = mean (fun k => cAlpha * arg0 V0 (ix2 r k) + mix (fun k => arg2 V0 (ix2 r k)) (fun k => arg3 V0 (ix2 r k)) (fun q k => arg13 V0 (ix2 q k)) k) := by
  pointwise [res_main_v11]
  exact congrArg₂ Ideal.div (Finset.sum_congr rfl fun k _ => v7_at V0 r k) rfl

theorem v13_at (V0 : Valuation τ sig (Elt Ideal)) (r : Fin 16384) (j : Fin 1024) : (show FVec Ideal S16384x1024 .f32 from res_main_v13 (F := Ideal) V0) (ix2 r j) = (fun k => cAlpha * arg0 V0 (ix2 r k) + mix (fun k => arg2 V0 (ix2 r k)) (fun k => arg3 V0 (ix2 r k)) (fun q k => arg13 V0 (ix2 q k)) k) j - mean (fun k => cAlpha * arg0 V0 (ix2 r k) + mix (fun k => arg2 V0 (ix2 r k)) (fun k => arg3 V0 (ix2 r k)) (fun q k => arg13 V0 (ix2 q k)) k) := by
  pointwise [res_main_v13]
  exact congrArg₂ (· - ·) (v7_at V0 r j) (v11_at V0 r)

theorem v29_at (V0 : Valuation τ sig (Elt Ideal)) (r : Fin 16384) (j : Fin 1024) : (show FVec Ideal S16384x1024 .f32 from res_main_v29 (F := Ideal) V0) (ix2 r j) = (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) j := by
  have hz := v7_at V0 r
  have hm := v11_at V0 r
  have hc := v13_at V0 r
  pointwise [res_main_v29]
  simp only [hz, hm, hc] at *
  first | done | rfl

theorem v33_at (V0 : Valuation τ sig (Elt Ideal)) (r : Fin 16384) (j : Fin 4096) : (show FVec Ideal S16384x4096 .f32 from res_main_v33 (F := Ideal) V0) (ix2 r j) = max (∑ k, (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) k * arg16 V0 (ix2 k j)) 0 := by
  have hx := v29_at V0 r
  pointwise [res_main_v33]
  simp only [hx] at *
  first | done | rfl

theorem v39_at (V0 : Valuation τ sig (Elt Ideal)) (r : Fin 16384) (j : Fin 1024) : (show FVec Ideal S16384x1024 .f32 from res_main_v39 (F := Ideal) V0) (ix2 r j) = (fun k => cAlpha * (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) k + ffn (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) (fun k f => arg16 V0 (ix2 k f)) (fun f k => arg17 V0 (ix2 f k)) k) j := by
  have hx := v29_at V0 r
  have hh := v33_at V0 r
  pointwise [res_main_v39]
  simp only [hx, hh] at *
  rfl

theorem v43_at (V0 : Valuation τ sig (Elt Ideal)) (r : Fin 16384) : (show FVec Ideal S16384x1 .f32 from res_main_v43 (F := Ideal) V0) (ix2 r 0) = mean (fun k => cAlpha * (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) k + ffn (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) (fun k f => arg16 V0 (ix2 k f)) (fun f k => arg17 V0 (ix2 f k)) k) := by
  pointwise [res_main_v43]
  exact congrArg₂ Ideal.div (Finset.sum_congr rfl fun k _ => v39_at V0 r k) rfl

theorem v45_at (V0 : Valuation τ sig (Elt Ideal)) (r : Fin 16384) (j : Fin 1024) : (show FVec Ideal S16384x1024 .f32 from res_main_v45 (F := Ideal) V0) (ix2 r j) = (fun k => cAlpha * (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) k + ffn (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) (fun k f => arg16 V0 (ix2 k f)) (fun f k => arg17 V0 (ix2 f k)) k) j - mean (fun k => cAlpha * (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) k + ffn (mid (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k))) (fun k f => arg16 V0 (ix2 k f)) (fun f k => arg17 V0 (ix2 f k)) k) := by
  pointwise [res_main_v45]
  exact congrArg₂ (· - ·) (v39_at V0 r j) (v43_at V0 r)

/-- The reference's outPrompt result, as composed from its arguments. -/
def outPrompt (V0 : Valuation τ sig (Elt Ideal)) : FVec Ideal S16384x1024 .f32 := addf (mulf (mulf (subf (res_main_v39 V0) (broadcastInDim S16384x1024 ![0, 1] bcast_S16384x1_S16384x1024_0_1 (res_main_v43 V0))) (broadcastInDim S16384x1024 ![0, 1] bcast_S16384x1_S16384x1024_0_1 (Host.rsqrt (addf (Host.divf (broadcastInDim S16384x1 ![0] bcast_S16384_S16384x1_0 (Host.reduceAdd (mulf (res_main_v45 V0) (res_main_v45 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (V0 (Proc.devRef .tc main_arg18)))) (broadcastInDim S16384x1024 ![0, 1] bcast_S1x1024_S16384x1024_0_1 (V0 (Proc.devRef .tc main_arg19)))

/-- Each row of the reference's outPrompt result is `layer` of the corresponding rows. -/
theorem outPrompt_at (V0 : Valuation τ sig (Elt Ideal)) (r : Fin 16384) (j : Fin 1024) : outPrompt V0 (ix2 r j) = layer (fun k => arg0 V0 (ix2 r k)) (fun k => arg2 V0 (ix2 r k)) (fun k => arg3 V0 (ix2 r k)) (fun q k => arg13 V0 (ix2 q k)) (fun k => arg14 V0 (ix2 0 k)) (fun k => arg15 V0 (ix2 0 k)) (fun k f => arg16 V0 (ix2 k f)) (fun f k => arg17 V0 (ix2 f k)) (fun k => arg18 V0 (ix2 0 k)) (fun k => arg19 V0 (ix2 0 k)) j := by
  have hz := v39_at V0 r
  have hm := v43_at V0 r
  have hc := v45_at V0 r
  pointwise [outPrompt]
  simp only [hz, hm, hc] at *
  first | done | rfl

theorem v350_at (V0 : Valuation τ sig (Elt Ideal)) (r : Fin 32) (j : Fin 1024) : (show FVec Ideal S32x1024 .f32 from res_main_v350 (F := Ideal) V0) (ix2 r j) = (fun k => cAlpha * arg1 V0 (ix2 r k) + mix (fun k => refOa V0 (ix2 r k)) (fun k => refYr V0 (ix2 r k)) (fun q k => arg13 V0 (ix2 q k)) k) j := by
  rw [v350_eq]; pointwise []
  rfl

theorem v354_at (V0 : Valuation τ sig (Elt Ideal)) (r : Fin 32) : (show FVec Ideal S32x1 .f32 from res_main_v354 (F := Ideal) V0) (ix2 r 0) = mean (fun k => cAlpha * arg1 V0 (ix2 r k) + mix (fun k => refOa V0 (ix2 r k)) (fun k => refYr V0 (ix2 r k)) (fun q k => arg13 V0 (ix2 q k)) k) := by
  pointwise [res_main_v354]
  exact congrArg₂ Ideal.div (Finset.sum_congr rfl fun k _ => v350_at V0 r k) rfl

theorem v356_at (V0 : Valuation τ sig (Elt Ideal)) (r : Fin 32) (j : Fin 1024) : (show FVec Ideal S32x1024 .f32 from res_main_v356 (F := Ideal) V0) (ix2 r j) = (fun k => cAlpha * arg1 V0 (ix2 r k) + mix (fun k => refOa V0 (ix2 r k)) (fun k => refYr V0 (ix2 r k)) (fun q k => arg13 V0 (ix2 q k)) k) j - mean (fun k => cAlpha * arg1 V0 (ix2 r k) + mix (fun k => refOa V0 (ix2 r k)) (fun k => refYr V0 (ix2 r k)) (fun q k => arg13 V0 (ix2 q k)) k) := by
  pointwise [res_main_v356]
  exact congrArg₂ (· - ·) (v350_at V0 r j) (v354_at V0 r)

theorem v372_at (V0 : Valuation τ sig (Elt Ideal)) (r : Fin 32) (j : Fin 1024) : (show FVec Ideal S32x1024 .f32 from res_main_v372 (F := Ideal) V0) (ix2 r j) = (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) j := by
  have hz := v350_at V0 r
  have hm := v354_at V0 r
  have hc := v356_at V0 r
  pointwise [res_main_v372]
  simp only [hz, hm, hc] at *
  first | done | rfl

theorem v376_at (V0 : Valuation τ sig (Elt Ideal)) (r : Fin 32) (j : Fin 4096) : (show FVec Ideal S32x4096 .f32 from res_main_v376 (F := Ideal) V0) (ix2 r j) = max (∑ k, (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) k * arg16 V0 (ix2 k j)) 0 := by
  have hx := v372_at V0 r
  pointwise [res_main_v376]
  simp only [hx] at *
  first | done | rfl

theorem v382_at (V0 : Valuation τ sig (Elt Ideal)) (r : Fin 32) (j : Fin 1024) : (show FVec Ideal S32x1024 .f32 from res_main_v382 (F := Ideal) V0) (ix2 r j) = (fun k => cAlpha * (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) k + ffn (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) (fun k f => arg16 V0 (ix2 k f)) (fun f k => arg17 V0 (ix2 f k)) k) j := by
  have hx := v372_at V0 r
  have hh := v376_at V0 r
  pointwise [res_main_v382]
  simp only [hx, hh] at *
  rfl

theorem v386_at (V0 : Valuation τ sig (Elt Ideal)) (r : Fin 32) : (show FVec Ideal S32x1 .f32 from res_main_v386 (F := Ideal) V0) (ix2 r 0) = mean (fun k => cAlpha * (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) k + ffn (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) (fun k f => arg16 V0 (ix2 k f)) (fun f k => arg17 V0 (ix2 f k)) k) := by
  pointwise [res_main_v386]
  exact congrArg₂ Ideal.div (Finset.sum_congr rfl fun k _ => v382_at V0 r k) rfl

theorem v388_at (V0 : Valuation τ sig (Elt Ideal)) (r : Fin 32) (j : Fin 1024) : (show FVec Ideal S32x1024 .f32 from res_main_v388 (F := Ideal) V0) (ix2 r j) = (fun k => cAlpha * (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) k + ffn (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) (fun k f => arg16 V0 (ix2 k f)) (fun f k => arg17 V0 (ix2 f k)) k) j - mean (fun k => cAlpha * (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) k + ffn (mid (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k))) (fun k f => arg16 V0 (ix2 k f)) (fun f k => arg17 V0 (ix2 f k)) k) := by
  pointwise [res_main_v388]
  exact congrArg₂ (· - ·) (v382_at V0 r j) (v386_at V0 r)

/-- The reference's outSample result, as composed from its arguments. -/
def outSample (V0 : Valuation τ sig (Elt Ideal)) : FVec Ideal S32x1024 .f32 := addf (mulf (mulf (subf (res_main_v382 V0) (broadcastInDim S32x1024 ![0, 1] bcast_S32x1_S32x1024_0_1 (res_main_v386 V0))) (broadcastInDim S32x1024 ![0, 1] bcast_S32x1_S32x1024_0_1 (Host.rsqrt (addf (Host.divf (broadcastInDim S32x1 ![0] bcast_S32_S32x1_0 (Host.reduceAdd (mulf (res_main_v388 V0) (res_main_v388 V0)) (constant S_ .f32 0x00000000#32) reducesTo_S32x1024_S32_d1 h_S_)) (broadcastInDim S32x1 ![] bcast_S_S32x1 (constant S_ .f32 0x44800000#32))) (broadcastInDim S32x1 ![] bcast_S_S32x1 (constant S_ .f32 0x3727C5AC#32)))))) (broadcastInDim S32x1024 ![0, 1] bcast_S1x1024_S32x1024_0_1 (V0 (Proc.devRef .tc main_arg18)))) (broadcastInDim S32x1024 ![0, 1] bcast_S1x1024_S32x1024_0_1 (V0 (Proc.devRef .tc main_arg19)))

/-- Each row of the reference's outSample result is `layer` of the corresponding rows. -/
theorem outSample_at (V0 : Valuation τ sig (Elt Ideal)) (r : Fin 32) (j : Fin 1024) : outSample V0 (ix2 r j) = layer (fun k => arg1 V0 (ix2 r k)) (fun k => refOa V0 (ix2 r k)) (fun k => refYr V0 (ix2 r k)) (fun q k => arg13 V0 (ix2 q k)) (fun k => arg14 V0 (ix2 0 k)) (fun k => arg15 V0 (ix2 0 k)) (fun k f => arg16 V0 (ix2 k f)) (fun f k => arg17 V0 (ix2 f k)) (fun k => arg18 V0 (ix2 0 k)) (fun k => arg19 V0 (ix2 0 k)) j := by
  have hz := v382_at V0 r
  have hm := v386_at V0 r
  have hc := v388_at V0 r
  pointwise [outSample]
  simp only [hz, hm, hc] at *
  first | done | rfl

end Cert.ReferenceIdeal.Mix

end
-- ==== Proof.RefRet.lean ====
module

public import proofs.«01_k».proof.Proof.RefFfn
public import proofs.«01_k».proof.Proof.Ret
public import proofs.«01_k».proof.Proof.Gen.ReferenceIdeal.Run

@[expose] public section

set_option maxRecDepth 16384

noncomputable section

namespace Cert.ReferenceIdeal.Mix

open Cert.ReferenceIdeal Cert.ReferenceIdeal.Gen Cert.ReferenceIdeal.Value Cert.Mix
open Idealize.ShloMosaic Idealize.ShloMosaic.TcCoe

/-! The reference's retention step. -/

abbrev arg6 (V0 : Valuation τ sig (Elt Ideal)) : FVec Ideal S32x512 .f32 := V0 (Proc.devRef .tc main_arg6)
abbrev arg7 (V0 : Valuation τ sig (Elt Ideal)) : FVec Ideal S32x512 .f32 := V0 (Proc.devRef .tc main_arg7)
abbrev arg8 (V0 : Valuation τ sig (Elt Ideal)) : FVec Ideal S32x512 .f32 := V0 (Proc.devRef .tc main_arg8)
abbrev arg9 (V0 : Valuation τ sig (Elt Ideal)) : FVec Ideal S32x512 .f32 := V0 (Proc.devRef .tc main_arg9)
abbrev arg11 (V0 : Valuation τ sig (Elt Ideal)) : FVec Ideal S1x32x4x128x128 .f32 := V0 (Proc.devRef .tc main_arg11)

theorem v304_at (V0 : Valuation τ sig (Elt Ideal)) (hd : Fin 4) : (show FVec Ideal S4 .f32 from res_main_v304 (F := Ideal) V0) (ix1 hd) = dec hd := by
  pointwise [res_main_v304]
  have h1 : (1 : EReal) = Ideal.ofBits .f32 0x3F800000#32 := by
    simp [Ideal.ofBits, Ideal.ieee]
    rw [← EReal.coe_mul]
    norm_num
  rw [h1]
  refine Cert.KernelIdeal.Mix.dec_eq hd _ ?_
  have hr : S4.rowMajor (ix1 hd) = hd := by
    fin_cases hd <;> rfl
  rw [hr]
  fin_cases hd <;> rfl

theorem v313_at (V0 : Valuation τ sig (Elt Ideal)) (u : Fin 32) (hd : Fin 4) (e : Fin 128) : (show FVec Ideal S32x4x128 .f32 from res_main_v313 (F := Ideal) V0) (ix3 u hd e) = retv (fun d => arg6 V0 (ix2 u (hx hd d))) (fun d => arg7 V0 (ix2 u (hx hd d))) (fun d => arg8 V0 (ix2 u (hx hd d))) (fun d e => arg11 V0 (ix5 0 u hd d e)) (dec hd) e := by
  have hd' := v304_at V0 hd
  pointwise [res_main_v313, res_main_v299, res_main_v300, res_main_v301, res_main_v302]
  exact congrArg _ (congrArg _ hd')

theorem v326_at (V0 : Valuation τ sig (Elt Ideal)) (u : Fin 32) (hd : Fin 4) : (show FVec Ideal S32x4x1 .f32 from res_main_v326 (F := Ideal) V0) (ix3 u hd 0) = meanR (retv (fun d => arg6 V0 (ix2 u (hx hd d))) (fun d => arg7 V0 (ix2 u (hx hd d))) (fun d => arg8 V0 (ix2 u (hx hd d))) (fun d e => arg11 V0 (ix5 0 u hd d e)) (dec hd)) := by
  pointwise [res_main_v326]
  exact congrArg₂ Ideal.div (Finset.sum_congr rfl fun k _ => v313_at V0 u hd k) rfl

theorem v328_at (V0 : Valuation τ sig (Elt Ideal)) (u : Fin 32) (hd : Fin 4) (e : Fin 128) : (show FVec Ideal S32x4x128 .f32 from res_main_v328 (F := Ideal) V0) (ix3 u hd e) = (retv (fun d => arg6 V0 (ix2 u (hx hd d))) (fun d => arg7 V0 (ix2 u (hx hd d))) (fun d => arg8 V0 (ix2 u (hx hd d))) (fun d e => arg11 V0 (ix5 0 u hd d e)) (dec hd)) e - meanR (retv (fun d => arg6 V0 (ix2 u (hx hd d))) (fun d => arg7 V0 (ix2 u (hx hd d))) (fun d => arg8 V0 (ix2 u (hx hd d))) (fun d e => arg11 V0 (ix5 0 u hd d e)) (dec hd)) := by
  pointwise [res_main_v328]
  exact congrArg₂ (· - ·) (v313_at V0 u hd e) (v326_at V0 u hd)

/-- The reference's retention output. -/
theorem refYr_at (V0 : Valuation τ sig (Elt Ideal)) (u : Fin 32) (hd : Fin 4) (e : Fin 128) : refYr V0 (ix2 u (hx hd e)) = gnv (arg9 V0 (ix2 u (hx hd e))) (retv (fun d => arg6 V0 (ix2 u (hx hd d))) (fun d => arg7 V0 (ix2 u (hx hd d))) (fun d => arg8 V0 (ix2 u (hx hd d))) (fun d e => arg11 V0 (ix5 0 u hd d e)) (dec hd)) e := by
  have hz := v313_at V0 u hd
  have hm := v326_at V0 u hd
  have hc := v328_at V0 u hd
  pointwise [refYr]
  have i1 : (⟨(hx hd e).val / 128, by have := (hx hd e).isLt; omega⟩ : Fin 4) = hd := Fin.ext (by show (hd.val * 128 + e.val) / 128 = hd.val; omega)
  have i2 : (⟨(hx hd e).val % 128, by omega⟩ : Fin 128) = e := Fin.ext (by show (hd.val * 128 + e.val) % 128 = e.val; omega)
  simp only [i1, i2]
  simp only [hz, hm, hc] at *
  first | done | rfl

/-- The reference's new retention state, as composed from its arguments. -/
def outState (V0 : Valuation τ sig (Elt Ideal)) : FVec Ideal S32x4x128x128 .f32 := addf (mulf (broadcastInDim S32x4x128x128 ![0, 1, 2, 3] bcast_S1x4x1x1_S32x4x128x128_0_1_2_3 (broadcastInDim S1x4x1x1 ![1] bcast_S4_S1x4x1x1_1 (res_main_v304 V0))) (res_main_v302 V0)) (mulf (broadcastInDim S32x4x128x128 ![0, 1, 2, 3] bcast_S32x4x128x1_S32x4x128x128_0_1_2_3 (broadcastInDim S32x4x128x1 ![0, 1, 2] bcast_S32x4x128_S32x4x128x1_0_1_2 (res_main_v300 V0))) (broadcastInDim S32x4x128x128 ![0, 1, 2, 3] bcast_S32x4x1x128_S32x4x128x128_0_1_2_3 (broadcastInDim S32x4x1x128 ![0, 1, 3] bcast_S32x4x128_S32x4x1x128_0_1_3 (res_main_v301 V0))))

theorem outState_at (V0 : Valuation τ sig (Elt Ideal)) (u : Fin 32) (hd : Fin 4) (a b : Fin 128) : outState V0 (ix4 u hd a b) = dec hd * arg11 V0 (ix5 0 u hd a b) + arg7 V0 (ix2 u (hx hd a)) * arg8 V0 (ix2 u (hx hd b)) := by
  have hd' := v304_at V0 hd
  pointwise [outState, res_main_v300, res_main_v301, res_main_v302]
  exact congrArg (· + _) (congrArg (· * _) hd')

end Cert.ReferenceIdeal.Mix

end
-- ==== Proof.RefTap.lean ====
module

public import proofs.«01_k».proof.Proof.RefRet
public import proofs.«01_k».proof.Proof.Loads

@[expose] public section
set_option maxRecDepth 16384

noncomputable section

namespace Cert.ReferenceIdeal.Mix

open Cert.ReferenceIdeal Cert.ReferenceIdeal.Gen Cert.ReferenceIdeal.Value Cert.Mix
open Idealize.ShloMosaic Idealize.ShloMosaic.TcCoe

open Cert.KernelIdeal.Mix (ah akc avc clampRow bkt dil)

/-! The reference's attention step for the sample tokens. -/

abbrev arg4 (V0 : Valuation τ sig (Elt Ideal)) : FVec Ideal S32x512 .f32 := V0 (Proc.devRef .tc main_arg4)
abbrev arg5 (V0 : Valuation τ sig (Elt Ideal)) : FVec Ideal S32x1024 .f32 := V0 (Proc.devRef .tc main_arg5)
abbrev arg10 (V0 : Valuation τ sig (Elt Ideal)) : FVec Ideal S1x32x2048x2x8x64 .f32 := V0 (Proc.devRef .tc main_arg10)
abbrev arg12 (V0 : Valuation τ sig (Elt Ideal)) : FVec Ideal S32x8 .f32 := V0 (Proc.devRef .tc main_arg12)

/-- The cached keys with the token's own key last. -/
def rkey (V0 : Valuation τ sig (Elt Ideal)) (u : Fin 32) (h : Fin 8) (e : Fin 64) (l : Fin 2049) : EReal :=
  if hl : l.val < 2048 then arg10 V0 (ix6 0 u ⟨l.val, hl⟩ 0 h e) else arg5 V0 (ix2 u (akc h e))
/-- The cached values with the token's own value last. -/
def rval (V0 : Valuation τ sig (Elt Ideal)) (u : Fin 32) (h : Fin 8) (e : Fin 64) (l : Fin 2049) : EReal :=
  if hl : l.val < 2048 then arg10 V0 (ix6 0 u ⟨l.val, hl⟩ 1 h e) else arg5 V0 (ix2 u (avc h e))

theorem v62_at (V0 : Valuation τ sig (Elt Ideal)) (u : Fin 32) (h : Fin 8) (e : Fin 64) : (show FVec Ideal S32x8x64 .f32 from res_main_v62 (F := Ideal) V0) (ix3 u h e) = arg4 V0 (ix2 u (ah h e)) := by
  pointwise [res_main_v62]
  rfl
theorem v67_at (V0 : Valuation τ sig (Elt Ideal)) (u : Fin 32) (l : Fin 2049) (h : Fin 8) (e : Fin 64) : (show FVec Ideal S32x2049x8x64 .f32 from res_main_v67 (F := Ideal) V0) (ix4 u l h e) = rkey V0 u h e l := by
  unfold rkey
  pointwise [res_main_v67]
  rfl
theorem v72_at (V0 : Valuation τ sig (Elt Ideal)) (u : Fin 32) (l : Fin 2049) (h : Fin 8) (e : Fin 64) : (show FVec Ideal S32x2049x8x64 .f32 from res_main_v72 (F := Ideal) V0) (ix4 u l h e) = rval V0 u h e l := by
  unfold rval
  pointwise [res_main_v72]
  rfl

theorem gather_key (x : FVec Ideal S32x2049x8x64 .f32) (idx : IVec S129x1 32) (u : Fin 32) (j : Fin 129) (h : Fin 8) (e : Fin 64) :
    Host.gather gather_S32x2049x8x64_S129x1_S32x129x8x64_023_1_n_n_1_1_321864 x idx (ix4 u j h e) = x (ix4 u ⟨min (idx (ix2 j 0)).toInt.toNat 2048, by omega⟩ h e) := by
  unfold Host.gather
  refine congrArg x (funext fun a => Fin.ext ?_)
  fin_cases a
  · show 0 + 0 + u.val = u.val
    omega
  · show min (idx _).toInt.toNat 2048 + 0 + 0 = min (idx (ix2 j 0)).toInt.toNat 2048
    refine congrArg (fun z => min (idx z).toInt.toNat 2048) (funext fun b => Fin.ext ?_)
    fin_cases b <;> rfl
  · show 0 + 0 + h.val = h.val
    omega
  · show 0 + 0 + e.val = e.val
    omega
theorem gather_row (x : FVec Ideal S32x8 .f32) (idx : IVec S129x1 32) (j : Fin 129) (h : Fin 8) :
    Host.gather gather_S32x8_S129x1_S129x8_1_0_n_n_0_1_18 x idx (ix2 j h) = x (ix2 ⟨min (idx (ix2 j 0)).toInt.toNat 31, by omega⟩ h) := by
  unfold Host.gather
  refine congrArg x (funext fun a => Fin.ext ?_)
  fin_cases a
  · show min (idx _).toInt.toNat 31 + 0 + 0 = min (idx (ix2 j 0)).toInt.toNat 31
    refine congrArg (fun z => min (idx z).toInt.toNat 31) (funext fun b => Fin.ext ?_)
    fin_cases b <;> rfl
  · show 0 + 0 + h.val = h.val
    omega

/-- The row an index into the 2049 keys names. -/
def clampPos (z : BitVec 32) : Fin 2049 := ⟨min (Scalar.select (IntOp.cmpi .slt z 0#32) (IntOp.addi z 2049#32) z).toInt.toNat 2048, by omega⟩
/-- The spacings as naturals. -/
def dn : Fin 3 → ℕ := ![1, 4, 16]
theorem dn_le (i : Fin 3) : dn i ≤ 16 := by fin_cases i <;> decide
/-- The row of tap `j` of window `i`. -/
def tapRow (i : Fin 3) (j : Fin 129) : Fin 2049 := ⟨2048 - j.val * dn i, by omega⟩
theorem clampPos_eq (i : Fin 3) (j : Fin 129) : clampPos (IntOp.subi (2048#32) (IntOp.muli (BitVec.ofNat 32 j.val) (dil i))) = tapRow i j := by
  revert i j
  decide +kernel
theorem v77_at (V0 : Valuation τ sig (Elt Ideal)) (j : Fin 129) : (show IVec S129 32 from res_main_v77 (F := Ideal) V0) (ix1 j) = IntOp.subi (2048#32) (IntOp.muli (BitVec.ofNat 32 j.val) (dil 0)) := by
  pointwise [res_main_v77, res_main_v73]
  rfl
theorem v141_at (V0 : Valuation τ sig (Elt Ideal)) (j : Fin 129) : (show IVec S129 32 from res_main_v141 (F := Ideal) V0) (ix1 j) = IntOp.subi (2048#32) (IntOp.muli (BitVec.ofNat 32 j.val) (dil 1)) := by
  pointwise [res_main_v141, res_main_v137]
  rfl
theorem v205_at (V0 : Valuation τ sig (Elt Ideal)) (j : Fin 129) : (show IVec S129 32 from res_main_v205 (F := Ideal) V0) (ix1 j) = IntOp.subi (2048#32) (IntOp.muli (BitVec.ofNat 32 j.val) (dil 2)) := by
  pointwise [res_main_v205, res_main_v201]
  rfl
theorem v111_at (V0 : Valuation τ sig (Elt Ideal)) (j : Fin 129) : (show IVec S129 32 from res_main_v111 (F := Ideal) V0) (ix1 j) = bkt (dil 0) (ix1 j) := by
  unfold bkt
  pointwise [res_main_v111, res_main_v93, res_main_v73]
  rfl
theorem v175_at (V0 : Valuation τ sig (Elt Ideal)) (j : Fin 129) : (show IVec S129 32 from res_main_v175 (F := Ideal) V0) (ix1 j) = bkt (dil 1) (ix1 j) := by
  unfold bkt
  pointwise [res_main_v175, res_main_v157, res_main_v137]
  rfl
theorem v239_at (V0 : Valuation τ sig (Elt Ideal)) (j : Fin 129) : (show IVec S129 32 from res_main_v239 (F := Ideal) V0) (ix1 j) = bkt (dil 2) (ix1 j) := by
  unfold bkt
  pointwise [res_main_v239, res_main_v221, res_main_v201]
  rfl

end Cert.ReferenceIdeal.Mix
end
-- ==== Proof.RefAtt.lean ====
module

public import proofs.«01_k».proof.Proof.RefTap

@[expose] public section
set_option maxRecDepth 16384

noncomputable section

namespace Cert.ReferenceIdeal.Mix

open Cert.ReferenceIdeal Cert.ReferenceIdeal.Gen Cert.ReferenceIdeal.Value Cert.Mix
open Idealize.ShloMosaic Idealize.ShloMosaic.TcCoe

open Cert.KernelIdeal.Mix (ah akc avc clampRow bkt dil)

/-- The logits of the taps of window `i` (tap 0 is the token itself). -/
def rL (V0 : Valuation τ sig (Elt Ideal)) (u : Fin 32) (h : Fin 8) (i : Fin 3) (j : Fin 129) : EReal :=
  (∑ e : Fin 64, arg4 V0 (ix2 u (ah h e)) * rkey V0 u h e (tapRow i j)) + arg12 V0 (ix2 (clampRow (bkt (dil i) (ix1 j))) h)
/-- The values of the taps of window `i`. -/
def rG (V0 : Valuation τ sig (Elt Ideal)) (u : Fin 32) (h : Fin 8) (e : Fin 64) (i : Fin 3) (j : Fin 129) : EReal := rval V0 u h e (tapRow i j)

/-- The rows of the keys and the bias rows, as the gathers index them. -/
abbrev posIdx (z : IVec S129 32) : IVec S129x1 32 := broadcastInDim S129x1 ![0] bcast_S129_S129x1_0 (select (cmpi .slt z (broadcastInDim S129 ![] bcast_S_S129 (constantI S_ 32 0#32))) (addi z (broadcastInDim S129 ![] bcast_S_S129 (constantI S_ 32 2049#32))) z)
abbrev rowIdx (z : IVec S129 32) : IVec S129x1 32 := broadcastInDim S129x1 ![0] bcast_S129_S129x1_0 (select (cmpi .slt z (broadcastInDim S129 ![] bcast_S_S129 (constantI S_ 32 0#32))) (addi z (broadcastInDim S129 ![] bcast_S_S129 (constantI S_ 32 32#32))) z)

theorem posIdx_at (z : IVec S129 32) (j : Fin 129) : posIdx z (ix2 j 0) = Scalar.select (IntOp.cmpi .slt (z (ix1 j)) 0#32) (IntOp.addi (z (ix1 j)) 2049#32) (z (ix1 j)) := by
  pointwise []
theorem rowIdx_at (z : IVec S129 32) (j : Fin 129) : rowIdx z (ix2 j 0) = Scalar.select (IntOp.cmpi .slt (z (ix1 j)) 0#32) (IntOp.addi (z (ix1 j)) 32#32) (z (ix1 j)) := by
  pointwise []

theorem key_at (x : FVec Ideal S32x2049x8x64 .f32) (z : IVec S129 32) (u : Fin 32) (j : Fin 129) (h : Fin 8) (e : Fin 64) :
    Host.gather gather_S32x2049x8x64_S129x1_S32x129x8x64_023_1_n_n_1_1_321864 x (posIdx z) (ix4 u j h e) = x (ix4 u (clampPos (z (ix1 j))) h e) := by
  refine (gather_key x (posIdx z) u j h e).trans ?_
  refine congrArg (fun p => x (ix4 u p h e)) (Fin.ext ?_)
  show min (posIdx z (ix2 j 0)).toInt.toNat 2048 = _
  rw [posIdx_at]
  rfl
theorem row_at (x : FVec Ideal S32x8 .f32) (z : IVec S129 32) (j : Fin 129) (h : Fin 8) :
    Host.gather gather_S32x8_S129x1_S129x8_1_0_n_n_0_1_18 x (rowIdx z) (ix2 j h) = x (ix2 (clampRow (z (ix1 j))) h) := by
  refine (gather_row x (rowIdx z) j h).trans ?_
  refine congrArg (fun p => x (ix2 p h)) (Fin.ext ?_)
  show min (rowIdx z (ix2 j 0)).toInt.toNat 31 = _
  rw [rowIdx_at]
  rfl

theorem drop_fold (f : FVec Ideal S32x8x129 .f32) (u : Fin 32) (h : Fin 8) [DecidablePred fun i => reducesTo_S32x8x129_S32x8_d2.drop i = ix2 u h] :
    Finset.fold max (Ideal.ofBits FTy.f32 4286578688#32) f (Finset.univ.filter fun i => reducesTo_S32x8x129_S32x8_d2.drop i = ix2 u h) = rmax fun j => f (ix3 u h j) := by
  rw [Cert.KernelIdeal.Mix.neg_bot]
  unfold rmax
  rw [fold_max_eq_sup, fold_max_eq_sup]
  apply le_antisymm
  · refine Finset.sup_le fun i hi => ?_
    have hi := (Finset.mem_filter.mp hi).2
    have e0 : i 0 = u := congrFun hi 0
    have e1 : i 1 = h := congrFun hi 1
    have e : i = ix3 u h (i 2) := by
      funext d
      fin_cases d
      · exact e0
      · exact e1
      · rfl
    rw [e]
    exact Finset.le_sup (f := fun j => f (ix3 u h j)) (Finset.mem_univ (i 2))
  · refine Finset.sup_le fun j _ => Finset.le_sup (f := f) (Finset.mem_filter.mpr ⟨Finset.mem_univ _, ?_⟩)
    funext d
    fin_cases d <;> rfl
theorem drop_fold3 (f : FVec Ideal S32x8x3 .f32) (u : Fin 32) (h : Fin 8) [DecidablePred fun i => reducesTo_S32x8x3_S32x8_d2.drop i = ix2 u h] :
    max (Ideal.ofBits FTy.f32 4286578688#32) (Finset.fold max (Ideal.ofBits FTy.f32 4286578688#32) f (Finset.univ.filter fun i => reducesTo_S32x8x3_S32x8_d2.drop i = ix2 u h)) = rtop fun j => f (ix3 u h j) := by
  rw [Cert.KernelIdeal.Mix.neg_bot]
  unfold rtop
  refine congrArg (fun z => max (⊥ : EReal) z) ?_
  rw [fold_max_eq_sup, fold_max_eq_sup]
  apply le_antisymm
  · refine Finset.sup_le fun i hi => ?_
    have hi := (Finset.mem_filter.mp hi).2
    have e0 : i 0 = u := congrFun hi 0
    have e1 : i 1 = h := congrFun hi 1
    have e : i = ix3 u h (i 2) := by
      funext d
      fin_cases d
      · exact e0
      · exact e1
      · rfl
    rw [e]
    exact Finset.le_sup (f := fun j => f (ix3 u h j)) (Finset.mem_univ (i 2))
  · refine Finset.sup_le fun j _ => Finset.le_sup (f := f) (Finset.mem_filter.mpr ⟨Finset.mem_univ _, ?_⟩)
    funext d
    fin_cases d <;> rfl

theorem v123_at (V0 : Valuation τ sig (Elt Ideal)) (u : Fin 32) (h : Fin 8) (j : Fin 129) : (show FVec Ideal S32x8x129 .f32 from res_main_v123 (F := Ideal) V0) (ix3 u h j) = rL V0 u h 0 j := by
  have e1 : ∀ e : Fin 64, Host.gather gather_S32x2049x8x64_S129x1_S32x129x8x64_023_1_n_n_1_1_321864 (show FVec Ideal S32x2049x8x64 .f32 from res_main_v67 (F := Ideal) V0) (posIdx (show IVec S129 32 from res_main_v77 (F := Ideal) V0)) (ix4 u j h e) = rkey V0 u h e (tapRow 0 j) := fun e =>
    (key_at _ _ u j h e).trans ((v67_at V0 u _ h e).trans (congrArg (rkey V0 u h e) ((congrArg clampPos (v77_at V0 j)).trans (clampPos_eq 0 j))))
  have e2 : Host.gather gather_S32x8_S129x1_S129x8_1_0_n_n_0_1_18 (arg12 V0) (rowIdx (show IVec S129 32 from res_main_v111 (F := Ideal) V0)) (ix2 j h) = arg12 V0 (ix2 (clampRow (bkt (dil 0) (ix1 j))) h) :=
    (row_at _ _ j h).trans (congrArg (fun z => arg12 V0 (ix2 (clampRow z) h)) (v111_at V0 j))
  refine Eq.trans (b := (∑ e : Fin 64, (show FVec Ideal S32x8x64 .f32 from res_main_v62 (F := Ideal) V0) (ix3 u h e) * Host.gather gather_S32x2049x8x64_S129x1_S32x129x8x64_023_1_n_n_1_1_321864 (show FVec Ideal S32x2049x8x64 .f32 from res_main_v67 (F := Ideal) V0) (posIdx (show IVec S129 32 from res_main_v77 (F := Ideal) V0)) (ix4 u j h e)) + Host.gather gather_S32x8_S129x1_S129x8_1_0_n_n_0_1_18 (arg12 V0) (rowIdx (show IVec S129 32 from res_main_v111 (F := Ideal) V0)) (ix2 j h)) ?_ ?_
  · pointwise [res_main_v123]
  · rw [e2]
    refine congrArg (fun z : EReal => z + arg12 V0 (ix2 (clampRow (bkt (dil 0) (ix1 j))) h)) (Finset.sum_congr rfl fun e _ => ?_)
    rw [e1, v62_at]
theorem v125_at (V0 : Valuation τ sig (Elt Ideal)) (u : Fin 32) (h : Fin 8) : (show FVec Ideal S32x8x1 .f32 from res_main_v125 (F := Ideal) V0) (ix3 u h 0) = rmax (rL V0 u h 0) := by
  pointwise [res_main_v125]
  refine (drop_fold _ u h).trans (congrArg rmax (funext fun j => v123_at V0 u h j))
theorem v128_at (V0 : Valuation τ sig (Elt Ideal)) (u : Fin 32) (h : Fin 8) (j : Fin 129) : (show FVec Ideal S32x8x129 .f32 from res_main_v128 (F := Ideal) V0) (ix3 u h j) = Ideal.exp (rL V0 u h 0 j - rmax (rL V0 u h 0)) := by
  rw [← v125_at, ← v123_at]
  pointwise [res_main_v128]
theorem v130_at (V0 : Valuation τ sig (Elt Ideal)) (u : Fin 32) (h : Fin 8) : (show FVec Ideal S32x8x1 .f32 from res_main_v130 (F := Ideal) V0) (ix3 u h 0) = rden (rL V0 u h 0) := by
  refine Eq.trans (b := ∑ j : Fin 129, (show FVec Ideal S32x8x129 .f32 from res_main_v128 (F := Ideal) V0) (ix3 u h j)) ?_ (Finset.sum_congr rfl fun j _ => v128_at V0 u h j)
  pointwise [res_main_v130]

theorem v187_at (V0 : Valuation τ sig (Elt Ideal)) (u : Fin 32) (h : Fin 8) (j : Fin 129) : (show FVec Ideal S32x8x129 .f32 from res_main_v187 (F := Ideal) V0) (ix3 u h j) = rL V0 u h 1 j := by
  have e1 : ∀ e : Fin 64, Host.gather gather_S32x2049x8x64_S129x1_S32x129x8x64_023_1_n_n_1_1_321864 (show FVec Ideal S32x2049x8x64 .f32 from res_main_v67 (F := Ideal) V0) (posIdx (show IVec S129 32 from res_main_v141 (F := Ideal) V0)) (ix4 u j h e) = rkey V0 u h e (tapRow 1 j) := fun e =>
    (key_at _ _ u j h e).trans ((v67_at V0 u _ h e).trans (congrArg (rkey V0 u h e) ((congrArg clampPos (v141_at V0 j)).trans (clampPos_eq 1 j))))
  have e2 : Host.gather gather_S32x8_S129x1_S129x8_1_0_n_n_0_1_18 (arg12 V0) (rowIdx (show IVec S129 32 from res_main_v175 (F := Ideal) V0)) (ix2 j h) = arg12 V0 (ix2 (clampRow (bkt (dil 1) (ix1 j))) h) :=
    (row_at _ _ j h).trans (congrArg (fun z => arg12 V0 (ix2 (clampRow z) h)) (v175_at V0 j))
  refine Eq.trans (b := (∑ e : Fin 64, (show FVec Ideal S32x8x64 .f32 from res_main_v62 (F := Ideal) V0) (ix3 u h e) * Host.gather gather_S32x2049x8x64_S129x1_S32x129x8x64_023_1_n_n_1_1_321864 (show FVec Ideal S32x2049x8x64 .f32 from res_main_v67 (F := Ideal) V0) (posIdx (show IVec S129 32 from res_main_v141 (F := Ideal) V0)) (ix4 u j h e)) + Host.gather gather_S32x8_S129x1_S129x8_1_0_n_n_0_1_18 (arg12 V0) (rowIdx (show IVec S129 32 from res_main_v175 (F := Ideal) V0)) (ix2 j h)) ?_ ?_
  · pointwise [res_main_v187]
  · rw [e2]
    refine congrArg (fun z : EReal => z + arg12 V0 (ix2 (clampRow (bkt (dil 1) (ix1 j))) h)) (Finset.sum_congr rfl fun e _ => ?_)
    rw [e1, v62_at]
theorem v189_at (V0 : Valuation τ sig (Elt Ideal)) (u : Fin 32) (h : Fin 8) : (show FVec Ideal S32x8x1 .f32 from res_main_v189 (F := Ideal) V0) (ix3 u h 0) = rmax (rL V0 u h 1) := by
  pointwise [res_main_v189]
  refine (drop_fold _ u h).trans (congrArg rmax (funext fun j => v187_at V0 u h j))
theorem v192_at (V0 : Valuation τ sig (Elt Ideal)) (u : Fin 32) (h : Fin 8) (j : Fin 129) : (show FVec Ideal S32x8x129 .f32 from res_main_v192 (F := Ideal) V0) (ix3 u h j) = Ideal.exp (rL V0 u h 1 j - rmax (rL V0 u h 1)) := by
  rw [← v189_at, ← v187_at]
  pointwise [res_main_v192]
theorem v194_at (V0 : Valuation τ sig (Elt Ideal)) (u : Fin 32) (h : Fin 8) : (show FVec Ideal S32x8x1 .f32 from res_main_v194 (F := Ideal) V0) (ix3 u h 0) = rden (rL V0 u h 1) := by
  refine Eq.trans (b := ∑ j : Fin 129, (show FVec Ideal S32x8x129 .f32 from res_main_v192 (F := Ideal) V0) (ix3 u h j)) ?_ (Finset.sum_congr rfl fun j _ => v192_at V0 u h j)
  pointwise [res_main_v194]

theorem v251_at (V0 : Valuation τ sig (Elt Ideal)) (u : Fin 32) (h : Fin 8) (j : Fin 129) : (show FVec Ideal S32x8x129 .f32 from res_main_v251 (F := Ideal) V0) (ix3 u h j) = rL V0 u h 2 j := by
  have e1 : ∀ e : Fin 64, Host.gather gather_S32x2049x8x64_S129x1_S32x129x8x64_023_1_n_n_1_1_321864 (show FVec Ideal S32x2049x8x64 .f32 from res_main_v67 (F := Ideal) V0) (posIdx (show IVec S129 32 from res_main_v205 (F := Ideal) V0)) (ix4 u j h e) = rkey V0 u h e (tapRow 2 j) := fun e =>
    (key_at _ _ u j h e).trans ((v67_at V0 u _ h e).trans (congrArg (rkey V0 u h e) ((congrArg clampPos (v205_at V0 j)).trans (clampPos_eq 2 j))))
  have e2 : Host.gather gather_S32x8_S129x1_S129x8_1_0_n_n_0_1_18 (arg12 V0) (rowIdx (show IVec S129 32 from res_main_v239 (F := Ideal) V0)) (ix2 j h) = arg12 V0 (ix2 (clampRow (bkt (dil 2) (ix1 j))) h) :=
    (row_at _ _ j h).trans (congrArg (fun z => arg12 V0 (ix2 (clampRow z) h)) (v239_at V0 j))
  refine Eq.trans (b := (∑ e : Fin 64, (show FVec Ideal S32x8x64 .f32 from res_main_v62 (F := Ideal) V0) (ix3 u h e) * Host.gather gather_S32x2049x8x64_S129x1_S32x129x8x64_023_1_n_n_1_1_321864 (show FVec Ideal S32x2049x8x64 .f32 from res_main_v67 (F := Ideal) V0) (posIdx (show IVec S129 32 from res_main_v205 (F := Ideal) V0)) (ix4 u j h e)) + Host.gather gather_S32x8_S129x1_S129x8_1_0_n_n_0_1_18 (arg12 V0) (rowIdx (show IVec S129 32 from res_main_v239 (F := Ideal) V0)) (ix2 j h)) ?_ ?_
  · pointwise [res_main_v251]
  · rw [e2]
    refine congrArg (fun z : EReal => z + arg12 V0 (ix2 (clampRow (bkt (dil 2) (ix1 j))) h)) (Finset.sum_congr rfl fun e _ => ?_)
    rw [e1, v62_at]
theorem v253_at (V0 : Valuation τ sig (Elt Ideal)) (u : Fin 32) (h : Fin 8) : (show FVec Ideal S32x8x1 .f32 from res_main_v253 (F := Ideal) V0) (ix3 u h 0) = rmax (rL V0 u h 2) := by
  pointwise [res_main_v253]
  refine (drop_fold _ u h).trans (congrArg rmax (funext fun j => v251_at V0 u h j))
theorem v256_at (V0 : Valuation τ sig (Elt Ideal)) (u : Fin 32) (h : Fin 8) (j : Fin 129) : (show FVec Ideal S32x8x129 .f32 from res_main_v256 (F := Ideal) V0) (ix3 u h j) = Ideal.exp (rL V0 u h 2 j - rmax (rL V0 u h 2)) := by
  rw [← v253_at, ← v251_at]
  pointwise [res_main_v256]
theorem v258_at (V0 : Valuation τ sig (Elt Ideal)) (u : Fin 32) (h : Fin 8) : (show FVec Ideal S32x8x1 .f32 from res_main_v258 (F := Ideal) V0) (ix3 u h 0) = rden (rL V0 u h 2) := by
  refine Eq.trans (b := ∑ j : Fin 129, (show FVec Ideal S32x8x129 .f32 from res_main_v256 (F := Ideal) V0) (ix3 u h j)) ?_ (Finset.sum_congr rfl fun j _ => v256_at V0 u h j)
  pointwise [res_main_v258]

/-- The three windows' log sums. -/
abbrev rl3 (V0 : Valuation τ sig (Elt Ideal)) (u : Fin 32) (h : Fin 8) (i : Fin 3) : EReal := rlse (rL V0 u h i)
theorem v268_at (V0 : Valuation τ sig (Elt Ideal)) (u : Fin 32) (h : Fin 8) (i : Fin 3) : (show FVec Ideal S32x8x3 .f32 from res_main_v268 (F := Ideal) V0) (ix3 u h i) = rl3 V0 u h i := by
  unfold rl3 rlse
  fin_cases i
  · show _ = rmax (rL V0 u h 0) + Ideal.log (rden (rL V0 u h 0))
    rw [← v125_at, ← v130_at]
    pointwise [res_main_v268]
    try rfl
  · show _ = rmax (rL V0 u h 1) + Ideal.log (rden (rL V0 u h 1))
    rw [← v189_at, ← v194_at]
    pointwise [res_main_v268]
    try rfl
  · show _ = rmax (rL V0 u h 2) + Ideal.log (rden (rL V0 u h 2))
    rw [← v253_at, ← v258_at]
    pointwise [res_main_v268]
    try rfl
theorem v275_at (V0 : Valuation τ sig (Elt Ideal)) (u : Fin 32) (h : Fin 8) (i : Fin 3) : (show FVec Ideal S32x8x3 .f32 from res_main_v275 (F := Ideal) V0) (ix3 u h i) = Ideal.exp (rl3 V0 u h i - rtop (rl3 V0 u h)) := by
  pointwise [res_main_v275]
  refine congrArg Ideal.exp (congrArg₂ (fun x y : EReal => x - y) (v268_at V0 u h i) ((drop_fold3 _ u h).trans (congrArg rtop (funext fun j => v268_at V0 u h j))))
theorem v279_at (V0 : Valuation τ sig (Elt Ideal)) (u : Fin 32) (h : Fin 8) (i : Fin 3) : (show FVec Ideal S32x8x3 .f32 from res_main_v279 (F := Ideal) V0) (ix3 u h i) = rw3 (rl3 V0 u h) i := by
  refine Eq.trans (b := Ideal.div ((show FVec Ideal S32x8x3 .f32 from res_main_v275 (F := Ideal) V0) (ix3 u h i)) (∑ j : Fin 3, (show FVec Ideal S32x8x3 .f32 from res_main_v275 (F := Ideal) V0) (ix3 u h j))) ?_ ?_
  · pointwise [res_main_v279]
  · unfold rw3
    rw [v275_at]
    refine congrArg (Ideal.div _) (Finset.sum_congr rfl fun j _ => v275_at V0 u h j)
/-- A gathered value. -/
abbrev gval (V0 : Valuation τ sig (Elt Ideal)) (z : IVec S129 32) (u : Fin 32) (h : Fin 8) (e : Fin 64) (x : Fin 129) : EReal :=
  Host.gather gather_S32x2049x8x64_S129x1_S32x129x8x64_023_1_n_n_1_1_321864 (show FVec Ideal S32x2049x8x64 .f32 from res_main_v72 (F := Ideal) V0) (posIdx z) (ix4 u x h e)
/-- The head and the lane of a column. -/
def kh (k : Fin 512) : Fin 8 := ⟨k.val / 64, by omega⟩
def ke (k : Fin 512) : Fin 64 := ⟨k.val % 64, by omega⟩
theorem ah_k (k : Fin 512) : ah (kh k) (ke k) = k := Fin.ext (by simp only [ah, kh, ke]; omega)
theorem refOa_pw (V0 : Valuation τ sig (Elt Ideal)) (u : Fin 32) (k : Fin 512) : refOa V0 (ix2 u k) =
    (show FVec Ideal S32x8x3 .f32 from res_main_v279 (F := Ideal) V0) (ix3 u (kh k) 0) * ∑ x : Fin 129, Ideal.div ((show FVec Ideal S32x8x129 .f32 from res_main_v128 (F := Ideal) V0) (ix3 u (kh k) x)) ((show FVec Ideal S32x8x1 .f32 from res_main_v130 (F := Ideal) V0) (ix3 u (kh k) 0)) * gval V0 (show IVec S129 32 from res_main_v77 (F := Ideal) V0) u (kh k) (ke k) x
    + (show FVec Ideal S32x8x3 .f32 from res_main_v279 (F := Ideal) V0) (ix3 u (kh k) 1) * ∑ x : Fin 129, Ideal.div ((show FVec Ideal S32x8x129 .f32 from res_main_v192 (F := Ideal) V0) (ix3 u (kh k) x)) ((show FVec Ideal S32x8x1 .f32 from res_main_v194 (F := Ideal) V0) (ix3 u (kh k) 0)) * gval V0 (show IVec S129 32 from res_main_v141 (F := Ideal) V0) u (kh k) (ke k) x
    + (show FVec Ideal S32x8x3 .f32 from res_main_v279 (F := Ideal) V0) (ix3 u (kh k) 2) * ∑ x : Fin 129, Ideal.div ((show FVec Ideal S32x8x129 .f32 from res_main_v256 (F := Ideal) V0) (ix3 u (kh k) x)) ((show FVec Ideal S32x8x1 .f32 from res_main_v258 (F := Ideal) V0) (ix3 u (kh k) 0)) * gval V0 (show IVec S129 32 from res_main_v205 (F := Ideal) V0) u (kh k) (ke k) x := by
  unfold refOa
  pointwise [kh, ke]
theorem gval_at (V0 : Valuation τ sig (Elt Ideal)) (z : IVec S129 32) (i : Fin 3) (hz : ∀ j : Fin 129, z (ix1 j) = IntOp.subi (2048#32) (IntOp.muli (BitVec.ofNat 32 j.val) (dil i))) (u : Fin 32) (h : Fin 8) (e : Fin 64) (j : Fin 129) : gval V0 z u h e j = rG V0 u h e i j :=
  (key_at _ _ u j h e).trans ((v72_at V0 u _ h e).trans (congrArg (rval V0 u h e) ((congrArg clampPos (hz j)).trans (clampPos_eq i j))))
theorem refOa_at (V0 : Valuation τ sig (Elt Ideal)) (u : Fin 32) (k : Fin 512) : refOa V0 (ix2 u k) = rout (rL V0 u (kh k)) (rG V0 u (kh k) (ke k)) := by
  refine (refOa_pw V0 u k).trans ?_
  unfold rout ravg
  rw [v279_at, v279_at, v279_at, v130_at, v194_at, v258_at]
  simp only [v128_at, v192_at, v256_at, gval_at V0 _ 0 (v77_at V0), gval_at V0 _ 1 (v141_at V0), gval_at V0 _ 2 (v205_at V0)]

end Cert.ReferenceIdeal.Mix
end
-- ==== Proof.Join.lean ====
module

public import proofs.«01_k».proof.Proof.AttOut
public import proofs.«01_k».proof.Proof.RefAtt

@[expose] public section

set_option maxRecDepth 16384

noncomputable section

namespace Cert.Join

open Cert.KernelIdeal.Mix Cert.ReferenceIdeal.Mix Cert.Mix
open Idealize.ShloMosaic Idealize.ShloMosaic.TcCoe

/-! The two attention steps agree where the logits are real. -/

variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal))

/-- The reference reads the kernel's arrays. -/
structure Same : Prop where
  h4 : arg4 V0 = a4 m c
  h5 : arg5 V0 = a5 m c
  h10 : arg10 V0 = a10 m c
  h12 : arg12 V0 = (show FVec Ideal Cert.KernelIdeal.S32x8 .f32 from m ((c.tc : Thread Cert.KernelIdeal.nD Cert.KernelIdeal.τ).loc Cert.KernelIdeal.main_arg12))

/-- An extended real that is a real. -/
abbrev Fin' (x : EReal) : Prop := ∃ r : ℝ, x = r

theorem fin_mul {x y : EReal} (hx : Fin' x) (hy : Fin' y) : Fin' (x * y) := by
  obtain ⟨a, rfl⟩ := hx
  obtain ⟨b, rfl⟩ := hy
  exact ⟨a * b, (EReal.coe_mul a b).symm⟩
theorem fin_add {x y : EReal} (hx : Fin' x) (hy : Fin' y) : Fin' (x + y) := by
  obtain ⟨a, rfl⟩ := hx
  obtain ⟨b, rfl⟩ := hy
  exact ⟨a + b, (EReal.coe_add a b).symm⟩
theorem fin_sum {n : ℕ} (f : Fin n → EReal) (hf : ∀ i, Fin' (f i)) : Fin' (∑ i, f i) := by
  choose g hg using hf
  refine ⟨∑ i, g i, ?_⟩
  rw [Finset.sum_congr rfl fun i _ => hg i]
  induction (Finset.univ : Finset (Fin n)) using Finset.induction_on with
  | empty => simp
  | insert a s ha ih => rw [Finset.sum_insert ha, Finset.sum_insert ha, ih, EReal.coe_add]

/-- The arrays the logits read hold reals. -/
structure Reals : Prop where
  r4 : ∀ u k, Fin' (a4 m c (ix2 u k))
  r5 : ∀ u h e, Fin' (a5 m c (ix2 u (akc h e)))
  r10 : ∀ u l h e, Fin' (a10 m c (ix6 0 u l 0 h e))
  r12 : ∀ b h, Fin' ((show FVec Ideal Cert.KernelIdeal.S32x8 .f32 from m ((c.tc : Thread Cert.KernelIdeal.nD Cert.KernelIdeal.τ).loc Cert.KernelIdeal.main_arg12)) (ix2 b h))

section
variable {m c V0} (S : Same m c V0)
include S

theorem rkey_cache (u : Fin 32) (h : Fin 8) (e : Fin 64) (l : Fin 2049) (x : Fin 2048) (hx : l.val = x.val) : rkey V0 u h e l = a10 m c (ix6 0 u x 0 h e) := by
  have h2 : l.val < 2048 := by omega
  unfold rkey
  rw [dif_pos h2, S.h10]
  exact congrArg (fun z => a10 m c (ix6 0 u z 0 h e)) (Fin.ext hx)
theorem rval_cache (u : Fin 32) (h : Fin 8) (e : Fin 64) (l : Fin 2049) (x : Fin 2048) (hx : l.val = x.val) : rval V0 u h e l = a10 m c (ix6 0 u x 1 h e) := by
  have h2 : l.val < 2048 := by omega
  unfold rval
  rw [dif_pos h2, S.h10]
  exact congrArg (fun z => a10 m c (ix6 0 u z 1 h e)) (Fin.ext hx)
theorem rkey_self (u : Fin 32) (h : Fin 8) (e : Fin 64) (i : Fin 3) : rkey V0 u h e (tapRow i 0) = a5 m c (ix2 u (akc h e)) := by
  have h2 : ¬ (tapRow i 0).val < 2048 := by simp [tapRow]
  unfold rkey
  rw [dif_neg h2, S.h5]
theorem rval_self (u : Fin 32) (h : Fin 8) (e : Fin 64) (i : Fin 3) : rval V0 u h e (tapRow i 0) = a5 m c (ix2 u (avc h e)) := by
  have h2 : ¬ (tapRow i 0).val < 2048 := by simp [tapRow]
  unfold rval
  rw [dif_neg h2, S.h5]

theorem rL_succ (u : Fin 32) (h : Fin 8) (i : Fin 3) (j : Fin 128) (x : Fin 2048) (hx : (tapRow i j.succ).val = x.val) : rL V0 u h i j.succ = qkc m c u h x + btab m c i h j.succ := by
  unfold rL qkc
  rw [S.h12, S.h4]
  refine congrArg (fun z : EReal => z + btab m c i h j.succ) (Finset.sum_congr rfl fun e _ => ?_)
  rw [rkey_cache S u h e _ x hx, mul_comm]
theorem rL_zero (u : Fin 32) (h : Fin 8) (i : Fin 3) : rL V0 u h i 0 = ks m c u h := by
  unfold rL ks qks
  rw [S.h12, S.h4, ← btab_zero m c i h]
  refine congrArg (fun z : EReal => z + btab m c i h 0) (Finset.sum_congr rfl fun e _ => ?_)
  rw [rkey_self S u h e i]
theorem rL_real (R : Reals m c) (u : Fin 32) (h : Fin 8) (i : Fin 3) (j : Fin 129) : Fin' (rL V0 u h i j) := by
  unfold rL
  rw [S.h12, S.h4]
  refine fin_add (fin_sum _ fun e => fin_mul (R.r4 u _) ?_) (R.r12 _ _)
  by_cases h2 : (tapRow i j).val < 2048
  · rw [rkey_cache S u h e _ ⟨_, h2⟩ rfl]
    exact R.r10 _ _ _ _
  · unfold rkey
    rw [dif_neg h2, S.h5]
    exact R.r5 _ _ _

theorem taps1 (u : Fin 32) (h : Fin 8) : Taps (kt1 m c u h) (rL V0 u h 0) tap1 where
  inj := tap1_inj
  on j := by
    rw [rL_succ S u h 0 j ⟨1920 + (tap1 j).val, by omega⟩ (by simp only [tapRow, dn, tap1, Fin.val_succ, Matrix.cons_val_zero]; omega), ← bias1_on m c h j]
    rfl
  off x hx := absurd (tap1_all x) hx
theorem taps2 (u : Fin 32) (h : Fin 8) : Taps (kt2 m c u h) (rL V0 u h 1) tap2 where
  inj := tap2_inj
  on j := by
    rw [rL_succ S u h 1 j ⟨1536 + (tap2 j).val, by omega⟩ (by simp only [tapRow, dn, tap2, Fin.val_succ, Matrix.cons_val_one, Matrix.cons_val_zero]; omega), ← bias2_on m c h j]
    rfl
  off x hx := by
    unfold kt2
    rw [bias2_off m c h x hx, EReal.add_bot]
theorem taps3 (u : Fin 32) (h : Fin 8) : Taps (kt3 m c u h) (rL V0 u h 2) tap3 where
  inj := tap3_inj
  on j := by
    rw [rL_succ S u h 2 j (tap3 j) (by simp only [tapRow, dn, tap3, Fin.val_succ, Matrix.cons_val]; omega), ← bias3_on m c h j]
    rfl
  off x hx := by
    unfold kt3
    rw [bias3_off m c h x hx, EReal.add_bot]

/-- The attention rows agree. -/
theorem att_eq (R : Reals m c) (u : Fin 32) (k : Fin 512) : attRows m c (ix2 u k) = refOa V0 (ix2 u k) := by
  rw [refOa_at]
  show attRow m c u (ix2 0 k) = _
  refine (congrArg (fun z => attRow m c u (ix2 0 z)) (ah_k k).symm).trans ((attRow_at m c u (kh k) (ke k)).trans ?_)
  refine out_eq (taps1 S u (kh k)) (taps2 S u (kh k)) (taps3 S u (kh k)) (rL_zero S u (kh k)) (rL_real S R u (kh k)) _ _ (fun i => rval_self S u (kh k) (ke k) i) (fun j => ?_) (fun j => ?_) (fun j => ?_)
  · exact rval_cache S u (kh k) (ke k) _ ⟨1920 + (tap1 j).val, by omega⟩ (by simp only [tapRow, dn, tap1, Fin.val_succ, Matrix.cons_val_zero]; omega)
  · exact rval_cache S u (kh k) (ke k) _ ⟨1536 + (tap2 j).val, by omega⟩ (by simp only [tapRow, dn, tap2, Fin.val_succ, Matrix.cons_val_one, Matrix.cons_val_zero]; omega)
  · exact rval_cache S u (kh k) (ke k) _ ⟨0 + (tap3 j).val, by omega⟩ (by simp only [tapRow, dn, tap3, Fin.val_succ, Matrix.cons_val]; omega)
end

end Cert.Join
end
-- ==== Proof.Prompt.lean ====
module

public import proofs.«01_k».proof.Proof.FfnK
public import proofs.«01_k».proof.Proof.Args

@[expose] public section

set_option maxRecDepth 16384

noncomputable section

namespace Cert.KernelIdeal.Mix

open Cert.KernelIdeal Cert.KernelIdeal.Gen Cert.Mix
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- A prompt row, as a function of the argument arrays. -/
theorem rowsY_at (c : Dev nD) (u : Fin 32) (r : Fin 512) (R : Fin 16384) (hR : R.val = u.val * 512 + r.val) (j : Fin 1024) :
    rowsY m c u (ix2 r j) = layer (fun k => a0 m c (ix2 R k)) (fun k => a2 m c (ix2 R k)) (fun k => a3 m c (ix2 R k))
      (fun q k => a13 m c (ix2 q k)) (fun k => a14 m c (ix2 0 k)) (fun k => a15 m c (ix2 0 k)) (fun k f => a16 m c (ix2 k f)) (fun f k => a17 m c (ix2 f k))
      (fun k => a18 m c (ix2 0 k)) (fun k => a19 m c (ix2 0 k)) j := by
  have key : ∀ r' : Fin 512, r' = r → layer (fun k => (ins m c (tokPt u)).x0 (ix2 r' k)) (fun k => (ins m c (tokPt u)).x1 (ix2 r' k)) (fun k => (ins m c (tokPt u)).x2 (ix2 r' k))
      (fun q k => (ins m c (tokPt u)).x3 (ix2 q k)) (fun k => (ins m c (tokPt u)).x4 (ix2 0 k)) (fun k => (ins m c (tokPt u)).x5 (ix2 0 k)) (fun k f => (ins m c (tokPt u)).x6 (ix2 k f))
      (fun f k => (ins m c (tokPt u)).x7 (ix2 f k)) (fun k => (ins m c (tokPt u)).x8 (ix2 0 k)) (fun k => (ins m c (tokPt u)).x9 (ix2 0 k)) j = layer (fun k => a0 m c (ix2 R k)) (fun k => a2 m c (ix2 R k)) (fun k => a3 m c (ix2 R k))
      (fun q k => a13 m c (ix2 q k)) (fun k => a14 m c (ix2 0 k)) (fun k => a15 m c (ix2 0 k)) (fun k f => a16 m c (ix2 k f)) (fun f k => a17 m c (ix2 f k))
      (fun k => a18 m c (ix2 0 k)) (fun k => a19 m c (ix2 0 k)) j := by
    intro r' e
    subst e
    simp only [ins_x3, ins_x4, ins_x5, ins_x6, ins_x7, ins_x8, ins_x9, fun k => ins_x0 m c u r' k R hR, fun k => ins_x1 m c u r' k R hR, fun k => ins_x2 m c u r' k R hR]
  unfold rowsY A.L21
  obtain ⟨y, hy⟩ : ∃ y : S512x1024.Idx, y = ix2 r j := ⟨_, rfl⟩
  rw [← hy]
  have e0 : (y 0).val = r.val := by rw [hy]; rfl
  have e1 : (y 1).val = j.val := by rw [hy]; rfl
  clear hy
  canon_tiles x h
  case piece0 =>
    have ex : x = ix2 (x 0) (x 1) := by funext d; match d with | ⟨0, _⟩ => rfl | ⟨1, _⟩ => rfl
    rw [ex]
    refine (p21_1_at _ _ _ (x 0) (x 1)).trans ?_
    rw [show (x 1 : Fin 1024) = j from Fin.ext (h1.symm.trans e1)]
    exact key ⟨256 + (x 0).val, by omega⟩ (Fin.ext (h0.symm.trans e0))
  case piece1 =>
    have ex : x = ix2 (x 0) (x 1) := by funext d; match d with | ⟨0, _⟩ => rfl | ⟨1, _⟩ => rfl
    rw [ex]
    refine (p21_0_at _ _ _ (x 0) (x 1)).trans ?_
    rw [show (x 1 : Fin 1024) = j from Fin.ext (h1.symm.trans e1)]
    exact key ⟨(x 0).val, by omega⟩ (Fin.ext (h0.symm.trans e0))

/-- The prompt result, row by row. -/
theorem yArr_at (c : Dev nD) (R : Fin 16384) (j : Fin 1024) :
    yArr m c (ix2 R j) = layer (fun k => a0 m c (ix2 R k)) (fun k => a2 m c (ix2 R k)) (fun k => a3 m c (ix2 R k))
      (fun q k => a13 m c (ix2 q k)) (fun k => a14 m c (ix2 0 k)) (fun k => a15 m c (ix2 0 k)) (fun k f => a16 m c (ix2 k f)) (fun f k => a17 m c (ix2 f k))
      (fun k => a18 m c (ix2 0 k)) (fun k => a19 m c (ix2 0 k)) j :=
  rowsY_at m c ⟨R.val / 512, by omega⟩ ⟨R.val % 512, by omega⟩ R (by show R.val = R.val / 512 * 512 + R.val % 512; omega) j

/-- The rows of the sample tokens, from the attention and retention rows. -/
theorem rowsS_at (c : Dev nD) (r : Fin 32) (j : Fin 1024) :
    rowsS m c (ix2 r j) = layer (fun k => a1 m c (ix2 r k)) (fun k => attRows m c (ix2 r k)) (fun k => retRows m c (ix2 r k))
      (fun q k => a13 m c (ix2 q k)) (fun k => a14 m c (ix2 0 k)) (fun k => a15 m c (ix2 0 k)) (fun k f => a16 m c (ix2 k f)) (fun f k => a17 m c (ix2 f k))
      (fun k => a18 m c (ix2 0 k)) (fun k => a19 m c (ix2 0 k)) j := by
  unfold rowsS
  rw [p25_0_at]
  simp only [ins_x3, ins_x4, ins_x5, ins_x6, ins_x7, ins_x8, ins_x9, ins_x20]

end Cert.KernelIdeal.Mix

end
-- ==== Proof.Value.lean ====
module

public import proofs.«01_k».proof.Defs
public import proofs.«01_k».proof.Proof.Join
public import proofs.«01_k».proof.Proof.Prompt
public import proofs.«01_k».proof.Proof.Ret

@[expose] public section

set_option maxRecDepth 16384

noncomputable section

namespace Cert.Join

open Cert.KernelIdeal.Mix Cert.ReferenceIdeal.Mix Cert.Mix
open Idealize.ShloMosaic Idealize.ShloMosaic.TcCoe Idealize.SL.Sem

/-! The three results of the two programs agree. -/

/-- The side conditions of the precondition. -/
theorem preFacts : Cert.Pre_real_logits.Facts where
  slices_S32x1024_S32x512_0_0 := by decide
  slices_S1x32x2048x2x8x64_S1x32x2048x1x8x64_0_0_0_0_0_0 := by decide
  shapeCasts_S1x32x2048x1x8x64_S32x2048x8x64 := by decide
  bcast_S_S32x512 := by decide
  bcast_S_S32x2048x8x64 := by decide
  bcast_S_S32x8 := by decide

theorem pos_top : Ideal.ofBits FTy.f32 0x7F800000#32 = ⊤ := by
  simp [Ideal.ofBits, Ideal.ieee]

/-- Below infinity in size: a real. -/
theorem real_of_lt (x : EReal) (h : Ideal.cmp .olt (max x (-x)) (Ideal.ofBits FTy.f32 0x7F800000#32) = 1#1) : Fin' x := by
  rw [pos_top] at h
  have h1 : max x (-x) < ⊤ := by
    by_contra hn
    have : Ideal.cmp .olt (max x (-x)) ⊤ = 0#1 := by simp [Ideal.cmp, hn]
    rw [this] at h
    exact absurd h (by decide)
  induction x with
  | bot => simp at h1
  | top => simp at h1
  | coe r => exact ⟨r, rfl⟩

open Cert.Pre_real_logits in
theorem pre_q [Cert.Pre_real_logits.Facts] (x : FVec Ideal S32x512 .f32) (u : Fin 32) (k : Fin 512) :
    cmpf .olt (Host.absf x) (broadcastInDim S32x512 ![] Facts.bcast_S_S32x512 (constant S_ .f32 0x7F800000#32)) (ix2 u k) = Ideal.cmp .olt (max (x (ix2 u k)) (-(x (ix2 u k)))) (Ideal.ofBits FTy.f32 0x7F800000#32) := rfl
open Cert.Pre_real_logits in
theorem pre_k [Cert.Pre_real_logits.Facts] (x : FVec Ideal S32x1024 .f32) (u : Fin 32) (k : Fin 512) :
    (extractStridedSlice S32x512 ![0, 0] x Facts.slices_S32x1024_S32x512_0_0) (ix2 u k) = x (ix2 u ⟨k.val, by omega⟩) := by
  pointwise []
open Cert.Pre_real_logits in
theorem pre_c [Cert.Pre_real_logits.Facts] (x : FVec Ideal S1x32x2048x2x8x64 .f32) (u : Fin 32) (l : Fin 2048) (h : Fin 8) (e : Fin 64) :
    (shapeCast S32x2048x8x64 (extractStridedSlice S1x32x2048x1x8x64 ![0, 0, 0, 0, 0, 0] x Facts.slices_S1x32x2048x2x8x64_S1x32x2048x1x8x64_0_0_0_0_0_0) Facts.shapeCasts_S1x32x2048x1x8x64_S32x2048x8x64) (ix4 u l h e) = x (ix6 0 u l 0 h e) := by
  pointwise []

variable (m : (ℓ : Loc Cert.KernelIdeal.nD Cert.KernelIdeal.τ Cert.KernelIdeal.sig) → Buf (Elt Ideal) ℓ)

/-- The precondition makes the logits' arrays real. -/
theorem reals [Cert.Pre_real_logits.Facts] (hp : Cert.Pre_KernelIdeal_real_logits m) (c : Dev Cert.KernelIdeal.nD) : Reals m c := by
  obtain ⟨p1, p2, p3, p4⟩ := hp c
  refine ⟨fun u k => real_of_lt _ (congrFun p1 (ix2 u k)), fun u h e => real_of_lt _ ?_, fun u l h e => real_of_lt _ ?_, fun b h => real_of_lt _ (congrFun p4 (ix2 b h))⟩
  · rw [show a5 m c (ix2 u (akc h e)) = _ from (pre_k (a5 m c) u (ah h e)).symm]
    exact congrFun p2 (ix2 u (ah h e))
  · rw [show a10 m c (ix6 0 u l 0 h e) = _ from (pre_c (a10 m c) u l h e).symm]
    exact congrFun p3 (ix4 u l h e)

/-- The reference starts from the kernel's arguments. -/
structure SameAll (c : Dev Cert.KernelIdeal.nD) (V0 : Valuation Cert.ReferenceIdeal.τ Cert.ReferenceIdeal.sig (Elt Ideal)) : Prop where
  h0 : arg0 V0 = a0 m c
  h1 : arg1 V0 = a1 m c
  h2 : arg2 V0 = a2 m c
  h3 : arg3 V0 = a3 m c
  h4 : arg4 V0 = a4 m c
  h5 : arg5 V0 = a5 m c
  h6 : arg6 V0 = a6 m c
  h7 : arg7 V0 = a7 m c
  h8 : arg8 V0 = a8 m c
  h9 : arg9 V0 = a9 m c
  h10 : arg10 V0 = a10 m c
  h11 : arg11 V0 = a11 m c
  h12 : arg12 V0 = a12 m c
  h13 : arg13 V0 = a13 m c
  h14 : arg14 V0 = a14 m c
  h15 : arg15 V0 = a15 m c
  h16 : arg16 V0 = a16 m c
  h17 : arg17 V0 = a17 m c
  h18 : arg18 V0 = a18 m c
  h19 : arg19 V0 = a19 m c

section
variable {m} {c : Dev Cert.KernelIdeal.nD} {V0 : Valuation Cert.ReferenceIdeal.τ Cert.ReferenceIdeal.sig (Elt Ideal)} (S : SameAll m c V0)
include S

theorem SameAll.same : Same m c V0 := ⟨S.h4, S.h5, S.h10, S.h12⟩

theorem prompt_eq : outPrompt V0 = yArr m c := by
  funext i
  obtain ⟨r, j, rfl⟩ : ∃ r j, i = ix2 r j := ⟨i 0, i 1, by funext a; fin_cases a <;> rfl⟩
  refine (outPrompt_at V0 r j).trans ((yArr_at m c r j).trans ?_).symm
  rw [← S.h0, ← S.h2, ← S.h3, ← S.h13, ← S.h14, ← S.h15, ← S.h16, ← S.h17, ← S.h18, ← S.h19]

theorem state_eq : outState V0 = stArr m c := by
  funext i
  obtain ⟨u, hd, a, b, rfl⟩ : ∃ u hd a b, i = ix4 u hd a b := ⟨i 0, i 1, i 2, i 3, by funext a; fin_cases a <;> rfl⟩
  refine (outState_at V0 u hd a b).trans ((stBlk_at m c u hd a b).trans ?_).symm
  rw [← S.h7, ← S.h8, ← S.h11]

theorem ret_eq (u : Fin 32) (k : Fin 512) : retRows m c (ix2 u k) = refYr V0 (ix2 u k) := by
  obtain ⟨hd, e, rfl⟩ : ∃ (hd : Fin 4) (e : Fin 128), k = hx hd e := ⟨⟨k.val / 128, by omega⟩, ⟨k.val % 128, by omega⟩, Fin.ext (by simp only [hx]; omega)⟩
  refine (retRow_at m c u hd e).trans ((refYr_at V0 u hd e).trans ?_).symm
  rw [S.h6, S.h7, S.h8, S.h9, S.h11]

theorem sample_eq (R : Reals m c) : outSample V0 = rowsS m c := by
  funext i
  obtain ⟨r, j, rfl⟩ : ∃ r j, i = ix2 r j := ⟨i 0, i 1, by funext a; fin_cases a <;> rfl⟩
  refine (outSample_at V0 r j).trans ((rowsS_at m c r j).trans ?_).symm
  rw [show (fun k => attRows m c (ix2 r k)) = fun k => refOa V0 (ix2 r k) from funext fun k => att_eq S.same R r k,
    show (fun k => retRows m c (ix2 r k)) = fun k => refYr V0 (ix2 r k) from funext fun k => ret_eq S r k,
    ← S.h1, ← S.h13, ← S.h14, ← S.h15, ← S.h16, ← S.h17, ← S.h18, ← S.h19]
end

end Cert.Join
end
-- ==== Proof.lean ====
/- The proof of the certificate's claim: the frames, and the equality of the results. -/
module

public import proofs.«01_k».proof.Defs
public import proofs.«01_k».proof.Proof.BitFrame
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference runs to the end with its arguments unchanged; it declares no semaphore. -/
theorem refFrame : Cert.quiescent_ReferenceIdeal (hReferenceIdeal := Cert.ReferenceIdeal.Gen.facts) := fun m g _ =>
  (θ_run _ _ _).mono (fun r h => ⟨fun c => (h c).2.2.2, Idealize.ShloMosaic.sem_eq_zero_of_no_sems (by decide) r.2⟩) (Cert.ReferenceIdeal.Value.run m g)

/-- What the reference's launch reads is what the kernel's memory holds. -/
theorem sameAll (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.Join.SameAll m c (Idealize.ShloMosaic.StableHlo.launchContents m' c) := by
  obtain ⟨h0, h1, h2, h3, h4, h5, h6, h7, h8, h9, h10, h11, h12, h13, h14, h15, h16, h17, h18, h19⟩ := h
  exact ⟨h0, h1, h2, h3, h4, h5, h6, h7, h8, h9, h10, h11, h12, h13, h14, h15, h16, h17, h18, h19⟩

/-- From equal arguments with real logits, the two programs end with equal results. -/
theorem results : Cert.algebraic_KernelIdeal_ReferenceIdeal_pre_real_logits (hKernelIdeal := Cert.KernelIdeal.Gen.facts)
    (hReferenceIdeal := Cert.ReferenceIdeal.Gen.facts) (hPre_real_logits := Cert.Join.preFacts) := fun m g m' g' hp hargs =>
  ⟨fun c => Cert.KernelIdeal.Mix.yArr m c, fun c => Cert.KernelIdeal.Mix.stArr m c, fun c => Cert.KernelIdeal.Mix.rowsS m c,
    (θ_run _ _ _).mono (fun r h c => ⟨(Cert.KernelIdeal.Mix.finals m r h.1 c).1, (Cert.KernelIdeal.Mix.finals m r h.1 c).2.1, (Cert.KernelIdeal.Mix.finals m r h.1 c).2.2, h.2 c⟩)
      (θ_run_and (Cert.KernelIdeal.Mix.run_main m g) (Cert.KernelIdeal.Mix.unchanged m g)),
    (θ_run _ _ _).mono (fun r h c =>
      have S := sameAll m m' c (hargs c)
      ⟨(h c).1.trans (Cert.Join.prompt_eq S), (h c).2.1.trans (Cert.Join.state_eq S), (h c).2.2.1.trans (Cert.Join.sample_eq S (@Cert.Join.reals m Cert.Join.preFacts hp c)), (h c).2.2.2⟩)
      (Cert.ReferenceIdeal.Value.run m' g')⟩

theorem claim : Cert.Claim := ⟨Cert.Kernel.Gen.facts, Cert.KernelIdeal.Gen.facts, Cert.ReferenceIdeal.Gen.facts, Cert.Join.preFacts,
  fun m g _ => Cert.Kernel.Bit.frame m g, fun m g _ => Cert.KernelIdeal.Mix.frame m g, fun m g _ => Cert.KernelIdeal.Mix.frame m g,
  refFrame, fun m g _ => refFrame m g trivial, trivial, results⟩

end Cert.Proof

end
